-- ==== Defs.lean ====
def Pre_Kernel [hPre_sends_apart : Cert.Pre_sends_apart.Facts] (m : (ℓ : Loc Cert.Kernel.nD Cert.Kernel.τ Cert.Kernel.sig) → Buf (Elt Bits) ℓ) : Prop :=
  ∀ c : Dev Cert.Kernel.nD,
    (Cert.Pre_sends_apart.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_sends_apart : Cert.Pre_sends_apart.Facts] (m : (ℓ : Loc Cert.KernelIdeal.nD Cert.KernelIdeal.τ Cert.KernelIdeal.sig) → Buf (Elt Ideal) ℓ) : Prop :=
  ∀ c : Dev Cert.KernelIdeal.nD,
    (Cert.Pre_sends_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_sends_apart : Cert.Pre_sends_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_sends_apart : Cert.Pre_sends_apart.Facts] (m : (ℓ : Loc Cert.Reference.nD Cert.Reference.τ Cert.Reference.sig) → Buf (Elt Bits) ℓ) : Prop :=
  ∀ c : Dev Cert.Reference.nD,
    (Cert.Pre_sends_apart.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_rows_exist : Cert.Pre_rows_exist.Facts] (m : (ℓ : Loc Cert.Kernel4.nD Cert.Kernel4.τ Cert.Kernel4.sig) → Buf (Elt Bits) ℓ) : Prop :=
  ∀ c : Dev Cert.Kernel4.nD,
    (Cert.Pre_rows_exist.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_rows_exist : Cert.Pre_rows_exist.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_exist.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal [hPre_rows_exist : Cert.Pre_rows_exist.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_exist.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 [hPre_experts_exist : Cert.Pre_experts_exist.Facts] (m : (ℓ : Loc Cert.Kernel5.nD Cert.Kernel5.τ Cert.Kernel5.sig) → Buf (Elt Bits) ℓ) : Prop :=
  ∀ c : Dev Cert.Kernel5.nD,
    (Cert.Pre_experts_exist.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_experts_exist : Cert.Pre_experts_exist.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_exist.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal [hPre_experts_exist : Cert.Pre_experts_exist.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_exist.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_keys_finite [hPre_keys_finite : Cert.Pre_keys_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_keys_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_keys_finite [hPre_keys_finite : Cert.Pre_keys_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_keys_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_rows_finite [hPre_rows_finite : Cert.Pre_rows_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_rows_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_rows_finite [hPre_rows_finite : Cert.Pre_rows_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_rows_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] [hPre_sends_apart : Cert.Pre_sends_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_sends_apart : Cert.Pre_sends_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_sends_apart : Cert.Pre_sends_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_sends_apart : Cert.Pre_sends_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] [hPre_rows_exist : Cert.Pre_rows_exist.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_rows_exist : Cert.Pre_rows_exist.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_rows_exist : Cert.Pre_rows_exist.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_experts_exist : Cert.Pre_experts_exist.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_experts_exist : Cert.Pre_experts_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] [hPre_experts_exist : Cert.Pre_experts_exist.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_keys_finite [hKernel6Ideal : Cert.Kernel6Ideal.Facts] [hPre_keys_finite : Cert.Pre_keys_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_keys_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_keys_finite [hReference6Ideal : Cert.Reference6Ideal.Facts] [hPre_keys_finite : Cert.Pre_keys_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_keys_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_rows_finite [hKernel7Ideal : Cert.Kernel7Ideal.Facts] [hPre_rows_finite : Cert.Pre_rows_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_rows_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_rows_finite [hReference7Ideal : Cert.Reference7Ideal.Facts] [hPre_rows_finite : Cert.Pre_rows_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_rows_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sends_apart : Cert.Pre_sends_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_sends_apart : Cert.Pre_sends_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] [hPre_rows_exist : Cert.Pre_rows_exist.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] [hPre_experts_exist : Cert.Pre_experts_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_keys_finite [hKernel6Ideal : Cert.Kernel6Ideal.Facts] [hReference6Ideal : Cert.Reference6Ideal.Facts] [hPre_keys_finite : Cert.Pre_keys_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_keys_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_v80) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_rows_finite [hKernel7Ideal : Cert.Kernel7Ideal.Facts] [hReference7Ideal : Cert.Reference7Ideal.Facts] [hPre_rows_finite : Cert.Pre_rows_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_rows_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v40_0)) (v1 : (c : Dev Cert.Kernel7Ideal.nD) → Buf (Elt Ideal) ((c.tc : Thread Cert.Kernel7Ideal.nD Cert.Kernel7Ideal.τ).loc Cert.Kernel7Ideal.main_v40_1)) (v2 : (c : Dev Cert.Kernel7Ideal.nD) → Buf (Elt Ideal) ((c.tc : Thread Cert.Kernel7Ideal.nD Cert.Kernel7Ideal.τ).loc Cert.Kernel7Ideal.main_v40_2)) (v3 : (c : Dev Cert.Kernel7Ideal.nD) → Buf (Elt Ideal) ((c.tc : Thread Cert.Kernel7Ideal.nD Cert.Kernel7Ideal.τ).loc Cert.Kernel7Ideal.main_v40_3)) (v4 : (c : Dev Cert.Kernel7Ideal.nD) → Buf (Elt Ideal) ((c.tc : Thread Cert.Kernel7Ideal.nD Cert.Kernel7Ideal.τ).loc Cert.Kernel7Ideal.main_v40_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40_0) = v0 c
          ∧ r.2.mem ((c.tc : Thread Cert.Kernel7Ideal.nD Cert.Kernel7Ideal.τ).loc Cert.Kernel7Ideal.main_v40_1) = v1 c
          ∧ r.2.mem ((c.tc : Thread Cert.Kernel7Ideal.nD Cert.Kernel7Ideal.τ).loc Cert.Kernel7Ideal.main_v40_2) = v2 c
          ∧ r.2.mem ((c.tc : Thread Cert.Kernel7Ideal.nD Cert.Kernel7Ideal.τ).loc Cert.Kernel7Ideal.main_v40_3) = v3 c
          ∧ r.2.mem ((c.tc : Thread Cert.Kernel7Ideal.nD Cert.Kernel7Ideal.τ).loc Cert.Kernel7Ideal.main_v40_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_v61) = v3 c
          ∧ r.2.mem ((c.tc : Thread Cert.Reference7Ideal.nD Cert.Reference7Ideal.τ).loc Cert.Reference7Ideal.main_v62) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_sends_apart : Cert.Pre_sends_apart.Facts) (hPre_rows_exist : Cert.Pre_rows_exist.Facts) (hPre_experts_exist : Cert.Pre_experts_exist.Facts) (hPre_keys_finite : Cert.Pre_keys_finite.Facts) (hPre_rows_finite : Cert.Pre_rows_finite.Facts),
    quiescent_Kernel (hKernel := hKernel) (hPre_sends_apart := hPre_sends_apart)
    ∧ quiescent_KernelIdeal (hKernelIdeal := hKernelIdeal) (hPre_sends_apart := hPre_sends_apart)
    ∧ quiescent_ReferenceIdeal (hReferenceIdeal := hReferenceIdeal) (hPre_sends_apart := hPre_sends_apart)
    ∧ quiescent_Reference (hReference := hReference) (hPre_sends_apart := hPre_sends_apart)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_rows_exist := hPre_rows_exist)
    ∧ quiescent_Kernel4Ideal (hKernel4Ideal := hKernel4Ideal) (hPre_rows_exist := hPre_rows_exist)
    ∧ quiescent_Reference4Ideal (hReference4Ideal := hReference4Ideal) (hPre_rows_exist := hPre_rows_exist)
    ∧ quiescent_Kernel5 (hKernel5 := hKernel5) (hPre_experts_exist := hPre_experts_exist)
    ∧ quiescent_Kernel5Ideal (hKernel5Ideal := hKernel5Ideal) (hPre_experts_exist := hPre_experts_exist)
    ∧ quiescent_Reference5Ideal (hReference5Ideal := hReference5Ideal) (hPre_experts_exist := hPre_experts_exist)
    ∧ quiescent_Kernel6 (hKernel6 := hKernel6)
    ∧ quiescent_Kernel6Ideal (hKernel6Ideal := hKernel6Ideal)
    ∧ quiescent_Kernel6Ideal_pre_keys_finite (hKernel6Ideal := hKernel6Ideal) (hPre_keys_finite := hPre_keys_finite)
    ∧ quiescent_Reference6Ideal (hReference6Ideal := hReference6Ideal)
    ∧ quiescent_Reference6Ideal_pre_keys_finite (hReference6Ideal := hReference6Ideal) (hPre_keys_finite := hPre_keys_finite)
    ∧ quiescent_Kernel7 (hKernel7 := hKernel7)
    ∧ quiescent_Kernel7Ideal (hKernel7Ideal := hKernel7Ideal)
    ∧ quiescent_Kernel7Ideal_pre_rows_finite (hKernel7Ideal := hKernel7Ideal) (hPre_rows_finite := hPre_rows_finite)
    ∧ quiescent_Reference7Ideal (hReference7Ideal := hReference7Ideal)
    ∧ quiescent_Reference7Ideal_pre_rows_finite (hReference7Ideal := hReference7Ideal) (hPre_rows_finite := hPre_rows_finite)
    ∧ preserves_Kernel_KernelIdeal
    ∧ algebraic_KernelIdeal_ReferenceIdeal (hKernelIdeal := hKernelIdeal) (hReferenceIdeal := hReferenceIdeal) (hPre_sends_apart := hPre_sends_apart)
    ∧ bitexact_Kernel_Reference (hKernel := hKernel) (hReference := hReference) (hPre_sends_apart := hPre_sends_apart)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_rows_exist := hPre_rows_exist)
    ∧ preserves_Kernel5_Kernel5Ideal
    ∧ algebraic_Kernel5Ideal_Reference5Ideal (hKernel5Ideal := hKernel5Ideal) (hReference5Ideal := hReference5Ideal) (hPre_experts_exist := hPre_experts_exist)
    ∧ preserves_Kernel6_Kernel6Ideal
    ∧ algebraic_Kernel6Ideal_Reference6Ideal_pre_keys_finite (hKernel6Ideal := hKernel6Ideal) (hReference6Ideal := hReference6Ideal) (hPre_keys_finite := hPre_keys_finite)
    ∧ preserves_Kernel7_Kernel7Ideal
    ∧ algebraic_Kernel7Ideal_Reference7Ideal_pre_rows_finite (hKernel7Ideal := hKernel7Ideal) (hReference7Ideal := hReference7Ideal) (hPre_rows_finite := hPre_rows_finite)
-- ==== Pre_experts_exist.lean ====
abbrev S288 : Shape := ⟨1, ![288]⟩
abbrev S1 : Shape := ⟨1, ![1]⟩
abbrev S147456x1x512 : Shape := ⟨3, ![147456, 1, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : IVec S147456x1x512 32) (main_arg3 : FVec F S32x1024x512 .f32) (main_arg4 : FVec F S32x1024x512 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_keys_finite.lean ====
abbrev S16x4096x4992 : Shape := ⟨3, ![16, 4096, 4992]⟩
abbrev S4x64 : Shape := ⟨2, ![4, 64]⟩
abbrev S2x32x64 : Shape := ⟨3, ![2, 32, 64]⟩
abbrev S2x2048x256 : Shape := ⟨3, ![2, 2048, 256]⟩
abbrev S2x256x64 : Shape := ⟨3, ![2, 256, 64]⟩
abbrev S16x4096x128 : Shape := ⟨3, ![16, 4096, 128]⟩
abbrev S_ : Shape := ⟨0, ![]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩

class Facts : Prop where
  slices_S16x4096x4992_S16x4096x128_0_0_4096 : S16x4096x4992.Slices ![0, 0, 4096] S16x4096x128
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  slices_S2x32x64_S1x32x64_0_0_0 : S2x32x64.Slices ![0, 0, 0] S1x32x64
  shapeCasts_S1x32x64_S32x64 : S1x32x64.ShapeCasts S32x64
  bcast_S_S32x64 : S_.BroadcastsInDim S32x64 (![] : Fin 0 → Fin S32x64.rank)
  reducesTo_S32x64_S_d0_1 : S32x64.ReducesTo [0, 1] S_
  slices_S2x2048x256_S1x2048x256_0_0_0 : S2x2048x256.Slices ![0, 0, 0] S1x2048x256
  shapeCasts_S1x2048x256_S2048x256 : S1x2048x256.ShapeCasts S2048x256
  bcast_S_S2048x256 : S_.BroadcastsInDim S2048x256 (![] : Fin 0 → Fin S2048x256.rank)
  reducesTo_S2048x256_S_d0_1 : S2048x256.ReducesTo [0, 1] S_
  slices_S2x256x64_S1x256x64_0_0_0 : S2x256x64.Slices ![0, 0, 0] S1x256x64
  shapeCasts_S1x256x64_S256x64 : S1x256x64.ShapeCasts S256x64
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S2x256x64 .f32) (main_v11 : IVec S_ 1) (main_v17 : IVec S_ 1) : IVec S_ 1 :=
  let main_v18 : IVec S_ 1 := andi main_v11 main_v17
  let main_v19 : FVec F S1x256x64 .f32 := (extractStridedSlice S1x256x64 ![0, 0, 0] · slices_S2x256x64_S1x256x64_0_0_0) main_arg4
  let main_v20 : FVec F S256x64 .f32 := shapeCast S256x64 main_v19 shapeCasts_S1x256x64_S256x64
  let main_v21 : FVec F S256x64 .f32 := Host.absf main_v20
  let main_cst_4 : FVec F S_ .f32 := constant S_ .f32 0x7F800000#32
  let main_v22 : FVec F S256x64 .f32 := broadcastInDim S256x64 ![] bcast_S_S256x64 main_cst_4
  let main_v23 : IVec S256x64 1 := cmpf .olt main_v21 main_v22
  let main_c_5 : IVec S_ 1 := constantI S_ 1 1#1
  let main_v24 : IVec S_ 1 := (fun x v => Host.reduce IntOp.andi x v reducesTo_S256x64_S_d0_1 h_S_) main_v23 main_c_5
  let main_v25 : IVec S_ 1 := andi main_v18 main_v24
  main_v25

def fn {F : FTy → Type} [FloatOps F] (main_arg0 : FVec F S16x4096x4992 .f32) (main_arg1 : FVec F S4x64 .f32) (main_arg2 : FVec F S2x32x64 .f32) (main_arg3 : FVec F S2x2048x256 .f32) (main_arg4 : FVec F S2x256x64 .f32) : IVec S_ 1 :=
  let main_v0 : FVec F S16x4096x128 .f32 := (extractStridedSlice S16x4096x128 ![0, 0, 4096] · slices_S16x4096x4992_S16x4096x128_0_0_4096) main_arg0
  let main_v1 : FVec F S16x4096x128 .f32 := Host.absf main_v0
  let main_cst : FVec F S_ .f32 := constant S_ .f32 0x7F800000#32
  let main_v2 : FVec F S16x4096x128 .f32 := broadcastInDim S16x4096x128 ![] bcast_S_S16x4096x128 main_cst
  let main_v3 : IVec S16x4096x128 1 := cmpf .olt main_v1 main_v2
  let main_c : IVec S_ 1 := constantI S_ 1 1#1
  let main_v4 : IVec S_ 1 := (fun x v => Host.reduce IntOp.andi x v reducesTo_S16x4096x128_S_d0_1_2 h_S_) main_v3 main_c
  let main_v5 : FVec F S1x32x64 .f32 := (extractStridedSlice S1x32x64 ![0, 0, 0] · slices_S2x32x64_S1x32x64_0_0_0) main_arg2
  let main_v6 : FVec F S32x64 .f32 := shapeCast S32x64 main_v5 shapeCasts_S1x32x64_S32x64
  let main_v7 : FVec F S32x64 .f32 := Host.absf main_v6
  let main_cst_0 : FVec F S_ .f32 := constant S_ .f32 0x7F800000#32
  let main_v8 : FVec F S32x64 .f32 := broadcastInDim S32x64 ![] bcast_S_S32x64 main_cst_0
  let main_v9 : IVec S32x64 1 := cmpf .olt main_v7 main_v8
  let main_c_1 : IVec S_ 1 := constantI S_ 1 1#1
  let main_v10 : IVec S_ 1 := (fun x v => Host.reduce IntOp.andi x v reducesTo_S32x64_S_d0_1 h_S_) main_v9 main_c_1
  let main_v11 : IVec S_ 1 := andi main_v4 main_v10
  let main_v12 : FVec F S1x2048x256 .f32 := (extractStridedSlice S1x2048x256 ![0, 0, 0] · slices_S2x2048x256_S1x2048x256_0_0_0) main_arg3
  let main_v13 : FVec F S2048x256 .f32 := shapeCast S2048x256 main_v12 shapeCasts_S1x2048x256_S2048x256
  let main_v14 : FVec F S2048x256 .f32 := Host.absf main_v13
  let main_cst_2 : FVec F S_ .f32 := constant S_ .f32 0x7F800000#32
  let main_v15 : FVec F S2048x256 .f32 := broadcastInDim S2048x256 ![] bcast_S_S2048x256 main_cst_2
  let main_v16 : IVec S2048x256 1 := cmpf .olt main_v14 main_v15
  let main_c_3 : IVec S_ 1 := constantI S_ 1 1#1
  let main_v17 : IVec S_ 1 := (fun x v => Host.reduce IntOp.andi x v reducesTo_S2048x256_S_d0_1 h_S_) main_v16 main_c_3
  fn_part1 (F := F) main_arg4 main_v11 main_v17
-- ==== Pre_rows_exist.lean ====
abbrev S131072 : Shape := ⟨1, ![131072]⟩
abbrev S147456x1x1024 : Shape := ⟨3, ![147456, 1, 1024]⟩
abbrev S65536x128 : Shape := ⟨2, ![65536, 128]⟩
abbrev S65536x1024 : Shape := ⟨2, ![65536, 1024]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : IVec S131072 32) (main_arg1 : FVec F S147456x1x1024 .f32) (main_arg2 : FVec F S65536x128 .f32) (main_arg3 : FVec F S65536x1024 .f32) : IVec S131072 1 :=
  let main_c : IVec S_ 32 := constantI S_ 32 0#32
  let main_v0 : IVec S131072 32 := broadcastInDim S131072 ![] bcast_S_S131072 main_c
  let main_v1 : IVec S131072 1 := cmpi .sge main_arg0 main_v0
  let main_c_0 : IVec S_ 32 := constantI S_ 32 147456#32
  let main_v2 : IVec S131072 32 := broadcastInDim S131072 ![] bcast_S_S131072 main_c_0
  let main_v3 : IVec S131072 1 := cmpi .slt main_arg0 main_v2
  let main_v4 : IVec S131072 1 := andi main_v1 main_v3
  main_v4
-- ==== Pre_rows_finite.lean ====
abbrev S65536x4992 : Shape := ⟨2, ![65536, 4992]⟩
abbrev S4x64 : Shape := ⟨2, ![4, 64]⟩
abbrev S65536x512 : Shape := ⟨2, ![65536, 512]⟩
abbrev S_ : Shape := ⟨0, ![]⟩
abbrev S65536x128 : Shape := ⟨2, ![65536, 128]⟩

class Facts : Prop where
  slices_S65536x4992_S65536x512_0_3072 : S65536x4992.Slices ![0, 3072] S65536x512
  bcast_S_S65536x512 : S_.BroadcastsInDim S65536x512 (![] : Fin 0 → Fin S65536x512.rank)
  reducesTo_S65536x512_S_d0_1 : S65536x512.ReducesTo [0, 1] S_
  h_S_ : 0 < S_.numel
  slices_S65536x4992_S65536x128_0_4352 : S65536x4992.Slices ![0, 4352] S65536x128
  bcast_S_S65536x128 : S_.BroadcastsInDim S65536x128 (![] : Fin 0 → Fin S65536x128.rank)
  reducesTo_S65536x128_S_d0_1 : S65536x128.ReducesTo [0, 1] S_
  slices_S65536x4992_S65536x128_0_4608 : S65536x4992.Slices ![0, 4608] S65536x128

variable [Facts]

def fn {F : FTy → Type} [FloatOps F] (main_arg0 : FVec F S65536x4992 .f32) (main_arg1 : FVec F S4x64 .f32) : IVec S_ 1 :=
  let main_v0 : FVec F S65536x512 .f32 := (extractStridedSlice S65536x512 ![0, 3072] · slices_S65536x4992_S65536x512_0_3072) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_c : IVec S_ 1 := constantI S_ 1 1#1
  let main_v4 : IVec S_ 1 := (fun x v => Host.reduce IntOp.andi x v reducesTo_S65536x512_S_d0_1 h_S_) main_v3 main_c
  let main_v5 : FVec F S65536x128 .f32 := (extractStridedSlice S65536x128 ![0, 4352] · slices_S65536x4992_S65536x128_0_4352) main_arg0
  let main_v6 : FVec F S65536x128 .f32 := Host.absf main_v5
  let main_cst_0 : FVec F S_ .f32 := constant S_ .f32 0x7F800000#32
  let main_v7 : FVec F S65536x128 .f32 := broadcastInDim S65536x128 ![] bcast_S_S65536x128 main_cst_0
  let main_v8 : IVec S65536x128 1 := cmpf .olt main_v6 main_v7
  let main_c_1 : IVec S_ 1 := constantI S_ 1 1#1
  let main_v9 : IVec S_ 1 := (fun x v => Host.reduce IntOp.andi x v reducesTo_S65536x128_S_d0_1 h_S_) main_v8 main_c_1
  let main_v10 : IVec S_ 1 := andi main_v4 main_v9
  let main_v11 : FVec F S65536x128 .f32 := (extractStridedSlice S65536x128 ![0, 4608] · slices_S65536x4992_S65536x128_0_4608) main_arg0
  let main_v12 : FVec F S65536x128 .f32 := Host.absf main_v11
  let main_cst_2 : FVec F S_ .f32 := constant S_ .f32 0x7F800000#32
  let main_v13 : FVec F S65536x128 .f32 := broadcastInDim S65536x128 ![] bcast_S_S65536x128 main_cst_2
  let main_v14 : IVec S65536x128 1 := cmpf .olt main_v12 main_v13
  let main_c_3 : IVec S_ 1 := constantI S_ 1 1#1
  let main_v15 : IVec S_ 1 := (fun x v => Host.reduce IntOp.andi x v reducesTo_S65536x128_S_d0_1 h_S_) main_v14 main_c_3
  let main_v16 : IVec S_ 1 := andi main_v10 main_v15
  main_v16
-- ==== Pre_sends_apart.lean ====
abbrev S131072 : Shape := ⟨1, ![131072]⟩
abbrev S65536x1x512 : Shape := ⟨3, ![65536, 1, 512]⟩
abbrev S_ : Shape := ⟨0, ![]⟩
abbrev S147456 : Shape := ⟨1, ![147456]⟩
abbrev S131072x1 : Shape := ⟨2, ![131072, 1]⟩

class Facts : Prop where
  bcast_S_S147456 : S_.BroadcastsInDim S147456 (![] : Fin 0 → Fin S147456.rank)
  bcast_S_S131072 : S_.BroadcastsInDim S131072 (![] : Fin 0 → Fin S131072.rank)
  bcast_S131072_S131072x1_0 : S131072.BroadcastsInDim S131072x1 (![0] : Fin 1 → Fin S131072x1.rank)
  scatter_S147456_S131072x1_S131072_n_0_0_1_wf : ScatterDims.WF S147456 S131072x1 S131072 [] [0] [0] 1
  gather_S147456_S131072x1_S131072_n_0_n_n_0_1_1_wf : GatherDims.WF S147456 S131072x1 S131072 [] [0] [] [0] [] 1 ![1]

variable [Facts]

def scatter_S147456_S131072x1_S131072_n_0_0_1 : ScatterDims S147456 S131072x1 S131072 where
  updateWindowDims := []
  insertedWindowDims := [0]
  scatterDimsToOperandDims := [0]
  indexVectorDim := 1
  wf := scatter_S147456_S131072x1_S131072_n_0_0_1_wf
def gather_S147456_S131072x1_S131072_n_0_n_n_0_1_1 : GatherDims S147456 S131072x1 S131072 where
  offsetDims := []
  collapsedSliceDims := [0]
  operandBatchingDims := []
  startIndicesBatchingDims := []
  startIndexMap := [0]
  indexVectorDim := 1
  sliceSizes := ![1]
  wf := gather_S147456_S131072x1_S131072_n_0_n_n_0_1_1_wf
def fn_take {F : FTy → Type} [FloatOps F] (arg0 : IVec S147456 32) (arg1 : IVec S131072 32) : IVec S131072 32 :=
  let v0 : IVec S131072x1 32 := broadcastInDim S131072x1 ![0] bcast_S131072_S131072x1_0 arg1
  let v1 : IVec S131072 32 := (fun x i => Host.gather gather_S147456_S131072x1_S131072_n_0_n_n_0_1_1 x i) arg0 v0
  v1

def fn {F : FTy → Type} [FloatOps F] (main_arg0 : IVec S131072 32) (main_arg1 : IVec S65536x1x512 32) : IVec S131072 1 :=
  let main_v0 : IVec S131072 32 := iotaInDim S131072 32 0
  let main_c : IVec S_ 32 := constantI S_ 32 0#32
  let main_v1 : IVec S147456 32 := broadcastInDim S147456 ![] bcast_S_S147456 main_c
  let main_c_0 : IVec S_ 32 := constantI S_ 32 0#32
  let main_v2 : IVec S131072 32 := broadcastInDim S131072 ![] bcast_S_S131072 main_c_0
  let main_v3 : IVec S131072 1 := cmpi .slt main_arg0 main_v2
  let main_c_1 : IVec S_ 32 := constantI S_ 32 147456#32
  let main_v4 : IVec S131072 32 := broadcastInDim S131072 ![] bcast_S_S131072 main_c_1
  let main_v5 : IVec S131072 32 := addi main_arg0 main_v4
  let main_v6 : IVec S131072 32 := select main_v3 main_v5 main_arg0
  let main_v7 : IVec S131072x1 32 := broadcastInDim S131072x1 ![0] bcast_S131072_S131072x1_0 main_v6
  let main_v8 : IVec S147456 32 := (fun x i u => Host.scatter scatter_S147456_S131072x1_S131072_n_0_0_1 (fun _ b => b) x i u) main_v1 main_v7 main_v0
  let main_c_2 : IVec S_ 32 := constantI S_ 32 0#32
  let main_v9 : IVec S131072 32 := broadcastInDim S131072 ![] bcast_S_S131072 main_c_2
  let main_v10 : IVec S131072 1 := cmpi .sge main_arg0 main_v9
  let main_c_3 : IVec S_ 32 := constantI S_ 32 147456#32
  let main_v11 : IVec S131072 32 := broadcastInDim S131072 ![] bcast_S_S131072 main_c_3
  let main_v12 : IVec S131072 1 := cmpi .slt main_arg0 main_v11
  let main_v13 : IVec S131072 1 := andi main_v10 main_v12
  let main_v14 : IVec S131072 32 := fn_take (F := F) main_v8 main_arg0
  let main_v15 : IVec S131072 1 := cmpi .eq main_v14 main_v0
  let main_v16 : IVec S131072 1 := andi main_v13 main_v15
  main_v16
-- ==== Kernel.lean ====
abbrev S131072 : Shape := ⟨1, ![131072]⟩
abbrev S65536x1x512 : Shape := ⟨3, ![65536, 1, 512]⟩
abbrev S_ : Shape := ⟨0, ![]⟩
abbrev S147456x1x512 : Shape := ⟨3, ![147456, 1, 512]⟩
abbrev S512x1x512 : Shape := ⟨3, ![512, 1, 512]⟩
abbrev S1 : Shape := ⟨1, ![1]⟩
abbrev S1x1x512 : Shape := ⟨3, ![1, 1, 512]⟩
abbrev S1x512 : Shape := ⟨2, ![1, 512]⟩

abbrev nBuf : Space → Nat
  | .hbm => 3
  | .vmem => 2
  | .smem => 1
  | _ => 0

abbrev bufTy : (tb : Table) → Fin (tcTables nBuf tb) → BufTy
  | .hbm, ⟨0, _⟩ => ⟨S65536x1x512, .i32⟩
  | .hbm, ⟨1, _⟩ => ⟨S_, .i32⟩
  | .hbm, ⟨2, _⟩ => ⟨S147456x1x512, .i32⟩
  | .local _ .vmem, ⟨0, _⟩ => ⟨S512x1x512, .i32⟩
  | .local _ .vmem, ⟨1, _⟩ => ⟨S512x1x512, .i32⟩
  | .local _ .smem, ⟨0, _⟩ => ⟨S131072, .i32⟩
  | _, _ => ⟨S65536x1x512, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_c : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v4 : BitVec 32 := Scalar.addi v0 arg6
  let c2_i32 : BitVec 32 := 2#32
  let v5 : BitVec 32 := Scalar.muli v4 c2_i32
  let c0_i32_8 : BitVec 32 := 0#32
  let v6 : BitVec 32 := Scalar.addi v5 c0_i32_8
  let v7 : Index := Scalar.indexCast v6
  ![v7.toNat]
def k0_off2 (v8 : BitVec 32) : Fin 3 → Nat :=
  let c0_i32_9 : BitVec 32 := 0#32
  let c0_i32_10 : BitVec 32 := 0#32
  ![v8.toNat, 0, 0]

def k0_chk1 (v8 : BitVec 32) : Prop :=
  (∀ a, (k0_off2 v8) a + S1x1x512.size a ≤ S147456x1x512.size a)
theorem k0_off2_inb : ∀ (v8 : BitVec 32) (k0_hw1 : k0_chk1 v8), ∀ a, (k0_off2 v8) a + S1x1x512.size a ≤ S147456x1x512.size a := fun v8 k0_hw1 => k0_hw1

def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let c0_i32_11 : BitVec 32 := 0#32
  let c0_i32_12 : BitVec 32 := 0#32
  ![arg6.toNat, 0, 0]
def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v13 : BitVec 32 := Scalar.addi v0 arg6
  let c2_i32_13 : BitVec 32 := 2#32
  let v14 : BitVec 32 := Scalar.muli v13 c2_i32_13
  let c1_i32_14 : BitVec 32 := 1#32
  let v15 : BitVec 32 := Scalar.addi v14 c1_i32_14
  let v16 : Index := Scalar.indexCast v15
  ![v16.toNat]
def k0_off5 (v17 : BitVec 32) : Fin 3 → Nat :=
  let c0_i32_15 : BitVec 32 := 0#32
  let c0_i32_16 : BitVec 32 := 0#32
  ![v17.toNat, 0, 0]

def k0_chk2 (v17 : BitVec 32) : Prop :=
  (∀ a, (k0_off5 v17) a + S1x1x512.size a ≤ S147456x1x512.size a)
theorem k0_off5_inb : ∀ (v17 : BitVec 32) (k0_hw2 : k0_chk2 v17), ∀ a, (k0_off5 v17) a + S1x1x512.size a ≤ S147456x1x512.size a := fun v17 k0_hw2 => k0_hw2

def k0_off6 (k0_t1 : Fin k0_t1_loop.trips) : Fin 3 → Nat :=
  let c0_i32 : BitVec 32 := 0#32
  let c1_i32 : BitVec 32 := 1#32
  let arg6 : BitVec 32 := Scf.iv c0_i32 c1_i32 k0_t1
  let c0_i32_17 : BitVec 32 := 0#32
  let c0_i32_18 : BitVec 32 := 0#32
  ![arg6.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S131072 : Shape := ⟨1, ![131072]⟩
abbrev S65536x1x512 : Shape := ⟨3, ![65536, 1, 512]⟩
abbrev S_ : Shape := ⟨0, ![]⟩
abbrev S147456x1x512 : Shape := ⟨3, ![147456, 1, 512]⟩
abbrev S65536x2x1x512 : Shape := ⟨4, ![65536, 2, 1, 512]⟩
abbrev S131072x1x512 : Shape := ⟨3, ![131072, 1, 512]⟩
abbrev S131072x1 : Shape := ⟨2, ![131072, 1]⟩

abbrev nBuf : Space → Nat
  | .hbm => 15
  | .vmem => 0
  | .smem => 0
  | _ => 0

abbrev bufTy : (tb : Table) → Fin (tcTables nBuf tb) → BufTy
  | .hbm, ⟨0, _⟩ => ⟨S131072, .i32⟩
  | .hbm, ⟨1, _⟩ => ⟨S65536x1x512, .i32⟩
  | .hbm, ⟨2, _⟩ => ⟨S_, .i32⟩
  | .hbm, ⟨3, _⟩ => ⟨S147456x1x512, .i32⟩
  | .hbm, ⟨4, _⟩ => ⟨S65536x2x1x512, .i32⟩
  | .hbm, ⟨5, _⟩ => ⟨S131072x1x512, .i32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S147456x1x512, .i32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x4896 : Shape := ⟨2, ![1024, 4896]⟩
abbrev S1024x1536 : Shape := ⟨2, ![1024, 1536]⟩
abbrev S1024x512 : Shape := ⟨2, ![1024, 512]⟩
abbrev S1024x768 : Shape := ⟨2, ![1024, 768]⟩
abbrev S1024x24 : Shape := ⟨2, ![1024, 24]⟩
abbrev S1024x4 : Shape := ⟨2, ![1024, 4]⟩
abbrev S_ : Shape := ⟨0, ![]⟩
abbrev S1024x96 : Shape := ⟨2, ![1024, 96]⟩
abbrev S1024x4992 : Shape := ⟨2, ![1024, 4992]⟩
abbrev S1x1024 : Shape := ⟨2, ![1, 1024]⟩
abbrev S65536x4992 : Shape := ⟨2, ![65536, 4992]⟩
abbrev S512x1024 : Shape := ⟨2, ![512, 1024]⟩
abbrev S512x4992 : Shape := ⟨2, ![512, 4992]⟩
abbrev S512 : Shape := ⟨1, ![512]⟩
abbrev S512x1 : Shape := ⟨2, ![512, 1]⟩

abbrev nBuf : Space → Nat
  | .hbm => 20
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4896, .f32⟩
  | .hbm, ⟨3, _⟩ => ⟨S1024x1536, .f32⟩
  | .hbm, ⟨4, _⟩ => ⟨S1024x512, .f32⟩
  | .hbm, ⟨5, _⟩ => ⟨S1024x768, .f32⟩
  | .hbm, ⟨6, _⟩ => ⟨S1024x24, .f32⟩
  | .hbm, ⟨7, _⟩ => ⟨S1024x1536, .f32⟩
  | .hbm, ⟨8, _⟩ => ⟨S1024x512, .f32⟩
  | .hbm, ⟨9, _⟩ => ⟨S1024x4, .f32⟩
  | .hbm, ⟨10, _⟩ => ⟨S1024x4, .f32⟩
  | .hbm, ⟨11, _⟩ => ⟨S_, .f32⟩
  | .hbm, ⟨12, _⟩ => ⟨S1024x96, .f32⟩
  | .hbm, ⟨13, _⟩ => ⟨S1024x4992, .f32⟩
  | .hbm, ⟨14, _⟩ => ⟨S1024x4992, .bf16⟩
  | .hbm, ⟨15, _⟩ => ⟨S_, .i32⟩
  | .hbm, ⟨16, _⟩ => ⟨S_, .bf16⟩
  | .hbm, ⟨17, _⟩ => ⟨S1024x4992, .bf16⟩
  | .hbm, ⟨18, _⟩ => ⟨S1x1024, .f32⟩
  | .hbm, ⟨19, _⟩ => ⟨S65536x4992, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4992, .bf16⟩
  | .local _ .vmem, ⟨4, _⟩ => ⟨S512x4992, .f32⟩
  | .local _ .vmem, ⟨5, _⟩ => ⟨S512x4992, .f32⟩
  | .local _ .vmem, ⟨6, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x4992 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S65536x1024 : Shape := ⟨2, ![65536, 1024]⟩
abbrev S1024 : Shape := ⟨1, ![1024]⟩
abbrev S1024x4896 : Shape := ⟨2, ![1024, 4896]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4896 : Shape := ⟨2, ![65536, 4896]⟩
abbrev S65536x1536 : Shape := ⟨2, ![65536, 1536]⟩
abbrev S65536x512 : Shape := ⟨2, ![65536, 512]⟩
abbrev S65536x768 : Shape := ⟨2, ![65536, 768]⟩
abbrev S65536x24 : Shape := ⟨2, ![65536, 24]⟩
abbrev S65536x4 : Shape := ⟨2, ![65536, 4]⟩
abbrev S65536x96 : Shape := ⟨2, ![65536, 96]⟩
abbrev S65536x4992 : Shape := ⟨2, ![65536, 4992]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4896, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4896, .f32⟩
  | .hbm, ⟨20, _⟩ => ⟨S65536x1536, .f32⟩
  | .hbm, ⟨21, _⟩ => ⟨S65536x512, .f32⟩
  | .hbm, ⟨22, _⟩ => ⟨S65536x768, .f32⟩
  | .hbm, ⟨23, _⟩ => ⟨S65536x24, .f32⟩
  | .hbm, ⟨24, _⟩ => ⟨S65536x1536, .f32⟩
  | .hbm, ⟨25, _⟩ => ⟨S65536x512, .f32⟩
  | .hbm, ⟨26, _⟩ => ⟨S65536x4, .f32⟩
  | .hbm, ⟨27, _⟩ => ⟨S65536x4, .f32⟩
  | .hbm, ⟨28, _⟩ => ⟨S_, .f32⟩
  | .hbm, ⟨29, _⟩ => ⟨S65536x96, .f32⟩
  | .hbm, ⟨30, _⟩ => ⟨S65536x4992, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S65536x4992 : Shape := ⟨2, ![65536, 4992]⟩
abbrev S3x512 : Shape := ⟨2, ![3, 512]⟩
abbrev S65536x512 : Shape := ⟨2, ![65536, 512]⟩
abbrev S3x512x1024 : Shape := ⟨3, ![3, 512, 1024]⟩
abbrev S1024x3072 : Shape := ⟨2, ![1024, 3072]⟩
abbrev S3072 : Shape := ⟨1, ![3072]⟩
abbrev S1024x1024 : Shape := ⟨2, ![1024, 1024]⟩
abbrev S1x1024 : Shape := ⟨2, ![1, 1024]⟩
abbrev S1x3072 : Shape := ⟨2, ![1, 3072]⟩
abbrev S512x1024 : Shape := ⟨2, ![512, 1024]⟩
abbrev S512x1536 : Shape := ⟨2, ![512, 1536]⟩
abbrev S512x512 : Shape := ⟨2, ![512, 512]⟩
abbrev S520x512 : Shape := ⟨2, ![520, 512]⟩
abbrev S8x512 : Shape := ⟨2, ![8, 512]⟩
abbrev S1x512 : Shape := ⟨2, ![1, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 16
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x4992, .f32⟩
  | .hbm, ⟨3, _⟩ => ⟨S3x512, .f32⟩
  | .hbm, ⟨4, _⟩ => ⟨S65536x512, .f32⟩
  | .hbm, ⟨5, _⟩ => ⟨S65536x512, .f32⟩
  | .hbm, ⟨6, _⟩ => ⟨S3x512x1024, .f32⟩
  | .hbm, ⟨7, _⟩ => ⟨S1024x3072, .f32⟩
  | .hbm, ⟨8, _⟩ => ⟨S3072, .f32⟩
  | .hbm, ⟨9, _⟩ => ⟨S1024x1024, .f32⟩
  | .hbm, ⟨10, _⟩ => ⟨S1x1024, .f32⟩
  | .hbm, ⟨11, _⟩ => ⟨S3x512x1024, .bf16⟩
  | .hbm, ⟨12, _⟩ => ⟨S1024x3072, .bf16⟩
  | .hbm, ⟨13, _⟩ => ⟨S1x3072, .f32⟩
  | .hbm, ⟨14, _⟩ => ⟨S1024x1024, .bf16⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1536, .f32⟩
  | .local _ .vmem, ⟨4, _⟩ => ⟨S512x1536, .f32⟩
  | .local _ .vmem, ⟨5, _⟩ => ⟨S3x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S3x512x1024, .bf16⟩
  | .local _ .vmem, ⟨11, _⟩ => ⟨S1024x3072, .bf16⟩
  | .local _ .vmem, ⟨12, _⟩ => ⟨S1x3072, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S520x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S65536x1024 : Shape := ⟨2, ![65536, 1024]⟩
abbrev S1024 : Shape := ⟨1, ![1024]⟩
abbrev S65536x4992 : Shape := ⟨2, ![65536, 4992]⟩
abbrev S3x512 : Shape := ⟨2, ![3, 512]⟩
abbrev S65536x512 : Shape := ⟨2, ![65536, 512]⟩
abbrev S3x512x1024 : Shape := ⟨3, ![3, 512, 1024]⟩
abbrev S1024x3072 : Shape := ⟨2, ![1024, 3072]⟩
abbrev S3072 : Shape := ⟨1, ![3072]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1536 : Shape := ⟨2, ![65536, 1536]⟩
abbrev S16x4096x512 : Shape := ⟨3, ![16, 4096, 512]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩
abbrev S65536x1x512 : Shape := ⟨3, ![65536, 1, 512]⟩
abbrev S65536x3x512 : Shape := ⟨3, ![65536, 3, 512]⟩
abbrev S3x1024x65536 : Shape := ⟨3, ![3, 1024, 65536]⟩
abbrev S65536x3x1024 : Shape := ⟨3, ![65536, 3, 1024]⟩
abbrev S65536x3072 : Shape := ⟨2, ![65536, 3072]⟩
abbrev S1x3072 : Shape := ⟨2, ![1, 3072]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x4992, .f32⟩
  | .hbm, ⟨3, _⟩ => ⟨S3x512, .f32⟩
  | .hbm, ⟨4, _⟩ => ⟨S65536x512, .f32⟩
  | .hbm, ⟨5, _⟩ => ⟨S65536x512, .f32⟩
  | .hbm, ⟨6, _⟩ => ⟨S3x512x1024, .f32⟩
  | .hbm, ⟨7, _⟩ => ⟨S1024x3072, .f32⟩
  | .hbm, ⟨8, _⟩ => ⟨S3072, .f32⟩
  | .hbm, ⟨9, _⟩ => ⟨S1024x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x1536, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S16x4096x512, .f32⟩
  | .hbm, ⟨32, _⟩ => ⟨S_, .i32⟩
  | .hbm, ⟨33, _⟩ => ⟨S_, .f32⟩
  | .hbm, ⟨34, _⟩ => ⟨S16x4098x512, .f32⟩
  | .hbm, ⟨35, _⟩ => ⟨S1x512, .f32⟩
  | .hbm, ⟨36, _⟩ => ⟨S512, .f32⟩
  | .hbm, ⟨37, _⟩ => ⟨S16x4096x512, .f32⟩
  | .hbm, ⟨38, _⟩ => ⟨S1x1x512, .f32⟩
  | .hbm, ⟨39, _⟩ => ⟨S16x4096x512, .f32⟩
  | .hbm, ⟨40, _⟩ => ⟨S16x4096x512, .f32⟩
  | .hbm, ⟨41, _⟩ => ⟨S1x512, .f32⟩
  | .hbm, ⟨42, _⟩ => ⟨S512, .f32⟩
  | .hbm, ⟨43, _⟩ => ⟨S16x4096x512, .f32⟩
  | .hbm, ⟨44, _⟩ => ⟨S1x1x512, .f32⟩
  | .hbm, ⟨45, _⟩ => ⟨S16x4096x512, .f32⟩
  | .hbm, ⟨46, _⟩ => ⟨S16x4096x512, .f32⟩
  | .hbm, ⟨47, _⟩ => ⟨S16x4096x512, .f32⟩
  | .hbm, ⟨48, _⟩ => ⟨S1x512, .f32⟩
  | .hbm, ⟨49, _⟩ => ⟨S512, .f32⟩
  | .hbm, ⟨50, _⟩ => ⟨S16x4096x512, .f32⟩
  | .hbm, ⟨51, _⟩ => ⟨S1x1x512, .f32⟩
  | .hbm, ⟨52, _⟩ => ⟨S16x4096x512, .f32⟩
  | .hbm, ⟨53, _⟩ => ⟨S16x4096x512, .f32⟩
  | .hbm, ⟨54, _⟩ => ⟨S16x4096x512, .f32⟩
  | .hbm, ⟨55, _⟩ => ⟨S65536x512, .f32⟩
  | .hbm, ⟨56, _⟩ => ⟨S65536x512, .f32⟩
  | .hbm, ⟨57, _⟩ => ⟨S65536x1x512, .f32⟩
  | .hbm, ⟨58, _⟩ => ⟨S65536x1x512, .f32⟩
  | .hbm, ⟨59, _⟩ => ⟨S65536x1x512, .f32⟩
  | .hbm, ⟨60, _⟩ => ⟨S65536x3x512, .f32⟩
  | .hbm, ⟨61, _⟩ => ⟨S3x1024x65536, .f32⟩
  | .hbm, ⟨62, _⟩ => ⟨S65536x3x1024, .f32⟩
  | .hbm, ⟨63, _⟩ => ⟨S65536x3072, .f32⟩
  | .hbm, ⟨64, _⟩ => ⟨S1x3072, .f32⟩
  | .hbm, ⟨65, _⟩ => ⟨S65536x3072, .f32⟩
  | .hbm, ⟨66, _⟩ => ⟨S65536x3072, .f32⟩
  | .hbm, ⟨67, _⟩ => ⟨S65536x3072, .f32⟩
  | .hbm, ⟨68, _⟩ => ⟨S65536x3072, .f32⟩
  | .hbm, ⟨69, _⟩ => ⟨S_, .f32⟩
  | .hbm, ⟨70, _⟩ => ⟨S65536x3072, .f32⟩
  | .hbm, ⟨71, _⟩ => ⟨S65536x3072, .f32⟩
  | .hbm, ⟨72, _⟩ => ⟨S_, .f32⟩
  | .hbm, ⟨73, _⟩ => ⟨S65536x3072, .f32⟩
  | .hbm, ⟨74, _⟩ => ⟨S65536x3072, .f32⟩
  | .hbm, ⟨75, _⟩ => ⟨S65536x3x1024, .f32⟩
  | .hbm, ⟨76, _⟩ => ⟨S65536x3x1024, .f32⟩
  | .hbm, ⟨77, _⟩ => ⟨S_, .f32⟩
  | .hbm, ⟨78, _⟩ => ⟨S65536x1024, .f32⟩
  | .hbm, ⟨79, _⟩ => ⟨S65536x1024, .f32⟩
  | .hbm, ⟨80, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel4.lean ====
abbrev S131072 : Shape := ⟨1, ![131072]⟩
abbrev S147456x1x1024 : Shape := ⟨3, ![147456, 1, 1024]⟩
abbrev S65536x128 : Shape := ⟨2, ![65536, 128]⟩
abbrev S65536x1024 : Shape := ⟨2, ![65536, 1024]⟩
abbrev S512x128 : Shape := ⟨2, ![512, 128]⟩
abbrev S512x1024 : Shape := ⟨2, ![512, 1024]⟩
abbrev S512x1x1024 : Shape := ⟨3, ![512, 1, 1024]⟩
abbrev S_ : Shape := ⟨0, ![]⟩
abbrev S1 : Shape := ⟨1, ![1]⟩
abbrev S1x1x1024 : Shape := ⟨3, ![1, 1, 1024]⟩
abbrev S1x1024 : Shape := ⟨2, ![1, 1024]⟩
abbrev S512x1 : Shape := ⟨2, ![512, 1]⟩

abbrev nBuf : Space → Nat
  | .hbm => 4
  | .vmem => 8
  | .smem => 1
  | _ => 0

abbrev bufTy : (tb : Table) → Fin (tcTables nBuf tb) → BufTy
  | .hbm, ⟨0, _⟩ => ⟨S147456x1x1024, .f32⟩
  | .hbm, ⟨1, _⟩ => ⟨S65536x128, .f32⟩
  | .hbm, ⟨2, _⟩ => ⟨S65536x1024, .f32⟩
  | .hbm, ⟨3, _⟩ => ⟨S65536x1024, .f32⟩
  | .local _ .vmem, ⟨0, _⟩ => ⟨S512x128, .f32⟩
  | .local _ .vmem, ⟨1, _⟩ => ⟨S512x128, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1x1024, .f32⟩
  | .local _ .vmem, ⟨7, _⟩ => ⟨S512x1x1024, .f32⟩
  | .local _ .smem, ⟨0, _⟩ => ⟨S131072, .i32⟩
  | _, _ => ⟨S147456x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg9 : BitVec 32 := Scf.iv c0_i32 c1_i32 k0_t1
  let v19 : BitVec 32 := Scalar.addi v0 arg9
  let c2_i32 : BitVec 32 := 2#32
  let v20 : BitVec 32 := Scalar.muli v19 c2_i32
  let v21 : Index := Scalar.indexCast v20
  ![v21.toNat]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let c0_i32_19 : BitVec 32 := 0#32
  let c0_i32_20 : BitVec 32 := 0#32
  ![arg9.toNat, 0, 0]
def k0_off3 (v22 : BitVec 32) : Fin 3 → Nat :=
  let c0_i32_21 : BitVec 32 := 0#32
  let c0_i32_22 : BitVec 32 := 0#32
  ![v22.toNat, 0, 0]

def k0_chk1 (v22 : BitVec 32) : Prop :=
  (∀ a, (k0_off3 v22) a + S1x1x1024.size a ≤ S147456x1x1024.size a)
theorem k0_off3_inb : ∀ (v22 : BitVec 32) (k0_hw1 : k0_chk1 v22), ∀ a, (k0_off3 v22) a + S1x1x1024.size a ≤ S147456x1x1024.size a := fun v22 k0_hw1 => k0_hw1

def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg9 : BitVec 32 := Scf.iv c0_i32 c1_i32 k0_t1
  let v27 : BitVec 32 := Scalar.addi v0 arg9
  let c2_i32_23 : BitVec 32 := 2#32
  let v28 : BitVec 32 := Scalar.muli v27 c2_i32_23
  let c1_i32_24 : BitVec 32 := 1#32
  let v29 : BitVec 32 := Scalar.addi v28 c1_i32_24
  let v30 : Index := Scalar.indexCast v29
  ![v30.toNat]
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let c0_i32_25 : BitVec 32 := 0#32
  let c0_i32_26 : BitVec 32 := 0#32
  ![arg9.toNat, 0, 0]
def k0_off6 (v31 : BitVec 32) : Fin 3 → Nat :=
  let c0_i32_27 : BitVec 32 := 0#32
  let c0_i32_28 : BitVec 32 := 0#32
  ![v31.toNat, 0, 0]

def k0_chk2 (v31 : BitVec 32) : Prop :=
  (∀ a, (k0_off6 v31) a + S1x1x1024.size a ≤ S147456x1x1024.size a)
theorem k0_off6_inb : ∀ (v31 : BitVec 32) (k0_hw2 : k0_chk2 v31), ∀ a, (k0_off6 v31) a + S1x1x1024.size a ≤ S147456x1x1024.size a := fun v31 k0_hw2 => k0_hw2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S131072 : Shape := ⟨1, ![131072]⟩
abbrev S147456x1x1024 : Shape := ⟨3, ![147456, 1, 1024]⟩
abbrev S65536x128 : Shape := ⟨2, ![65536, 128]⟩
abbrev S65536x1024 : Shape := ⟨2, ![65536, 1024]⟩
abbrev S147456x1024 : Shape := ⟨2, ![147456, 1024]⟩
abbrev S65536x2 : Shape := ⟨2, ![65536, 2]⟩
abbrev S_ : Shape := ⟨0, ![]⟩
abbrev S65536x2x1 : Shape := ⟨3, ![65536, 2, 1]⟩
abbrev S65536x2x1024 : Shape := ⟨3, ![65536, 2, 1024]⟩

abbrev nBuf : Space → Nat
  | .hbm => 22
  | .vmem => 0
  | .smem => 0
  | _ => 0

abbrev bufTy : (tb : Table) → Fin (tcTables nBuf tb) → BufTy
  | .hbm, ⟨0, _⟩ => ⟨S131072, .i32⟩
  | .hbm, ⟨1, _⟩ => ⟨S147456x1x1024, .f32⟩
  | .hbm, ⟨2, _⟩ => ⟨S65536x128, .f32⟩
  | .hbm, ⟨3, _⟩ => ⟨S65536x1024, .f32⟩
  | .hbm, ⟨4, _⟩ => ⟨S147456x1024, .f32⟩
  | .hbm, ⟨5, _⟩ => ⟨S65536x2, .i32⟩
  | .hbm, ⟨6, _⟩ => ⟨S_, .i32⟩
  | .hbm, ⟨7, _⟩ => ⟨S65536x2, .i32⟩
  | .hbm, ⟨8, _⟩ => ⟨S65536x2, .i1⟩
  | .hbm, ⟨9, _⟩ => ⟨S_, .i32⟩
  | .hbm, ⟨10, _⟩ => ⟨S65536x2, .i32⟩
  | .hbm, ⟨11, _⟩ => ⟨S65536x2, .i32⟩
  | .hbm, ⟨12, _⟩ => ⟨S65536x2, .i32⟩
  | .hbm, ⟨13, _⟩ => ⟨S65536x2x1, .i32⟩
  | .hbm, ⟨14, _⟩ => ⟨S65536x2x1024, .f32⟩
  | .hbm, ⟨15, _⟩ => ⟨S65536x2, .f32⟩
  | .hbm, ⟨16, _⟩ => ⟨S65536x2x1, .f32⟩
  | .hbm, ⟨17, _⟩ => ⟨S65536x2x1024, .f32⟩
  | .hbm, ⟨18, _⟩ => ⟨S65536x2x1024, .f32⟩
  | .hbm, ⟨19, _⟩ => ⟨S_, .f32⟩
  | .hbm, ⟨20, _⟩ => ⟨S65536x1024, .f32⟩
  | .hbm, ⟨21, _⟩ => ⟨S65536x1024, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel5.lean ====
abbrev S288 : Shape := ⟨1, ![288]⟩
abbrev S1 : Shape := ⟨1, ![1]⟩
abbrev S147456x1x512 : Shape := ⟨3, ![147456, 1, 512]⟩
abbrev S32x1024x512 : Shape := ⟨3, ![32, 1024, 512]⟩
abbrev S32x512x1024 : Shape := ⟨3, ![32, 512, 1024]⟩
abbrev S147456x1x1024 : Shape := ⟨3, ![147456, 1, 1024]⟩
abbrev S512x1x512 : Shape := ⟨3, ![512, 1, 512]⟩
abbrev S1x1024x512 : Shape := ⟨3, ![1, 1024, 512]⟩
abbrev S1x512x1024 : Shape := ⟨3, ![1, 512, 1024]⟩
abbrev S512x1x1024 : Shape := ⟨3, ![512, 1, 1024]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 8
  | .vmem => 10
  | .smem => 2
  | _ => 0

abbrev bufTy : (tb : Table) → Fin (tcTables nBuf tb) → BufTy
  | .hbm, ⟨0, _⟩ => ⟨S147456x1x512, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S32x1024x512, .bf16⟩
  | .hbm, ⟨5, _⟩ => ⟨S32x1024x512, .bf16⟩
  | .hbm, ⟨6, _⟩ => ⟨S32x512x1024, .bf16⟩
  | .hbm, ⟨7, _⟩ => ⟨S147456x1x1024, .f32⟩
  | .local _ .vmem, ⟨0, _⟩ => ⟨S512x1x512, .i32⟩
  | .local _ .vmem, ⟨1, _⟩ => ⟨S512x1x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1x1024, .f32⟩
  | .local _ .vmem, ⟨9, _⟩ => ⟨S512x1x1024, .f32⟩
  | .local _ .smem, ⟨0, _⟩ => ⟨S288, .i32⟩
  | .local _ .smem, ⟨1, _⟩ => ⟨S1, .i32⟩
  | _, _ => ⟨S147456x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S288 : Shape := ⟨1, ![288]⟩
abbrev S1 : Shape := ⟨1, ![1]⟩
abbrev S147456x1x512 : Shape := ⟨3, ![147456, 1, 512]⟩
abbrev S32x1024x512 : Shape := ⟨3, ![32, 1024, 512]⟩
abbrev S32x512x1024 : Shape := ⟨3, ![32, 512, 1024]⟩
abbrev S147456x512 : Shape := ⟨2, ![147456, 512]⟩
abbrev S147456x512x2 : Shape := ⟨3, ![147456, 512, 2]⟩
abbrev S147456x512x1 : Shape := ⟨3, ![147456, 512, 1]⟩
abbrev S147456x1024 : Shape := ⟨2, ![147456, 1024]⟩
abbrev S288x512x1024 : Shape := ⟨3, ![288, 512, 1024]⟩
abbrev S_ : Shape := ⟨0, ![]⟩
abbrev S288x1 : Shape := ⟨2, ![288, 1]⟩
abbrev S288x1024x512 : Shape := ⟨3, ![288, 1024, 512]⟩
abbrev S288x512x512 : Shape := ⟨3, ![288, 512, 512]⟩
abbrev S288x1x1 : Shape := ⟨3, ![288, 1, 1]⟩
abbrev S147456x1x1024 : Shape := ⟨3, ![147456, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1x512, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S147456x512, .i32⟩
  | .hbm, ⟨7, _⟩ => ⟨S147456x512x2, .bf16⟩
  | .hbm, ⟨8, _⟩ => ⟨S147456x512x2, .f32⟩
  | .hbm, ⟨9, _⟩ => ⟨S147456x512x1, .f32⟩
  | .hbm, ⟨10, _⟩ => ⟨S147456x512, .f32⟩
  | .hbm, ⟨11, _⟩ => ⟨S147456x512x1, .f32⟩
  | .hbm, ⟨12, _⟩ => ⟨S147456x512, .f32⟩
  | .hbm, ⟨13, _⟩ => ⟨S147456x1024, .f32⟩
  | .hbm, ⟨14, _⟩ => ⟨S288x512x1024, .f32⟩
  | .hbm, ⟨15, _⟩ => ⟨S_, .i32⟩
  | .hbm, ⟨16, _⟩ => ⟨S288, .i32⟩
  | .hbm, ⟨17, _⟩ => ⟨S288, .i1⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S288, .i32⟩
  | .hbm, ⟨22, _⟩ => ⟨S288x1, .i32⟩
  | .hbm, ⟨23, _⟩ => ⟨S288x1024x512, .f32⟩
  | .hbm, ⟨24, _⟩ => ⟨S288x512x512, .f32⟩
  | .hbm, ⟨25, _⟩ => ⟨S288x512x512, .f32⟩
  | .hbm, ⟨26, _⟩ => ⟨S288x512x512, .f32⟩
  | .hbm, ⟨27, _⟩ => ⟨S_, .f32⟩
  | .hbm, ⟨28, _⟩ => ⟨S288x512x512, .f32⟩
  | .hbm, ⟨29, _⟩ => ⟨S288x512x512, .f32⟩
  | .hbm, ⟨30, _⟩ => ⟨S_, .f32⟩
  | .hbm, ⟨31, _⟩ => ⟨S288x512x512, .f32⟩
  | .hbm, ⟨32, _⟩ => ⟨S288x512x512, .f32⟩
  | .hbm, ⟨33, _⟩ => ⟨S288x512x512, .f32⟩
  | .hbm, ⟨34, _⟩ => ⟨S_, .i32⟩
  | .hbm, ⟨35, _⟩ => ⟨S288, .i32⟩
  | .hbm, ⟨36, _⟩ => ⟨S288, .i1⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S288, .i32⟩
  | .hbm, ⟨41, _⟩ => ⟨S288x1, .i32⟩
  | .hbm, ⟨42, _⟩ => ⟨S288x1024x512, .f32⟩
  | .hbm, ⟨43, _⟩ => ⟨S288x512x512, .f32⟩
  | .hbm, ⟨44, _⟩ => ⟨S288x512x512, .f32⟩
  | .hbm, ⟨45, _⟩ => ⟨S_, .i32⟩
  | .hbm, ⟨46, _⟩ => ⟨S288, .i32⟩
  | .hbm, ⟨47, _⟩ => ⟨S288, .i1⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S288, .i32⟩
  | .hbm, ⟨52, _⟩ => ⟨S288x1, .i32⟩
  | .hbm, ⟨53, _⟩ => ⟨S288x512x1024, .f32⟩
  | .hbm, ⟨54, _⟩ => ⟨S288x512x1024, .f32⟩
  | .hbm, ⟨55, _⟩ => ⟨S288, .i32⟩
  | .hbm, ⟨56, _⟩ => ⟨S288, .i32⟩
  | .hbm, ⟨57, _⟩ => ⟨S288, .i1⟩
  | .hbm, ⟨58, _⟩ => ⟨S288x1x1, .i1⟩
  | .hbm, ⟨59, _⟩ => ⟨S_, .f32⟩
  | .hbm, ⟨60, _⟩ => ⟨S_, .f32⟩
  | .hbm, ⟨61, _⟩ => ⟨S288x512x1024, .i1⟩
  | .hbm, ⟨62, _⟩ => ⟨S288x512x1024, .f32⟩
  | .hbm, ⟨63, _⟩ => ⟨S288x512x1024, .f32⟩
  | .hbm, ⟨64, _⟩ => ⟨S147456x1x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel6.lean ====
abbrev S16x4096x4992 : Shape := ⟨3, ![16, 4096, 4992]⟩
abbrev S4x64 : Shape := ⟨2, ![4, 64]⟩
abbrev S2x32x64 : Shape := ⟨3, ![2, 32, 64]⟩
abbrev S2x2048x256 : Shape := ⟨3, ![2, 2048, 256]⟩
abbrev S2x256x64 : Shape := ⟨3, ![2, 256, 64]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S16x256x128 : Shape := ⟨3, ![16, 256, 128]⟩
abbrev S1x4096x128 : Shape := ⟨3, ![1, 4096, 128]⟩
abbrev S1x256x128 : Shape := ⟨3, ![1, 256, 128]⟩
abbrev S256x256 : Shape := ⟨2, ![256, 256]⟩
abbrev S256x128 : Shape := ⟨2, ![256, 128]⟩
abbrev S256x64 : Shape := ⟨2, ![256, 64]⟩
abbrev S1x1x64 : Shape := ⟨3, ![1, 1, 64]⟩
abbrev S1x64x256 : Shape := ⟨3, ![1, 64, 256]⟩
abbrev S64x256 : Shape := ⟨2, ![64, 256]⟩
abbrev S1x256x64 : Shape := ⟨3, ![1, 256, 64]⟩

abbrev nBuf : Space → Nat
  | .hbm => 44
  | .vmem => 13
  | .smem => 0
  | _ => 0

abbrev bufTy : (tb : Table) → Fin (tcTables nBuf tb) → BufTy
  | .hbm, ⟨0, _⟩ => ⟨S16x4096x4992, .f32⟩
  | .hbm, ⟨1, _⟩ => ⟨S4x64, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S2x2048x256, .bf16⟩
  | .hbm, ⟨12, _⟩ => ⟨S2x256x64, .bf16⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S1x128, .i32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S128x128, .bf16⟩
  | .hbm, ⟨42, _⟩ => ⟨S16x256x128, .bf16⟩
  | .hbm, ⟨43, _⟩ => ⟨S16x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S2x32x64, .f32⟩
  | .local _ .vmem, ⟨5, _⟩ => ⟨S2x2048x256, .bf16⟩
  | .local _ .vmem, ⟨6, _⟩ => ⟨S2x256x64, .bf16⟩
  | .local _ .vmem, ⟨7, _⟩ => ⟨S1x128, .f32⟩
  | .local _ .vmem, ⟨8, _⟩ => ⟨S128x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | _, _ => ⟨S16x4096x4992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c32_i32 : BitVec 32 := 32#32
  let c0_i32_0 : BitVec 32 := 0#32
  ![arg0.toNat, c0_i32.toNat, c32_i32.toNat]

def cc0_transform_1 (i : grid0.Coords) : Fin 3 → Nat :=
  let arg0 : BitVec 32 := BitVec.ofNat 32 (i 0).val
  let c0_i32 : BitVec 32 := 0#32
  let c33_i32 : BitVec 32 := 33#32
  let c0_i32_0 : BitVec 32 := 0#32
  ![arg0.toNat, c0_i32.toNat, c33_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16x4096x4992 : Shape := ⟨3, ![16, 4096, 4992]⟩
abbrev S4x64 : Shape := ⟨2, ![4, 64]⟩
abbrev S2x32x64 : Shape := ⟨3, ![2, 32, 64]⟩
abbrev S2x2048x256 : Shape := ⟨3, ![2, 2048, 256]⟩
abbrev S2x256x64 : Shape := ⟨3, ![2, 256, 64]⟩
abbrev S16x4096x128 : Shape := ⟨3, ![16, 4096, 128]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S16x256x16x2x64 : Shape := ⟨5, ![16, 256, 16, 2, 64]⟩
abbrev S16x255x16x2x64 : Shape := ⟨5, ![16, 255, 16, 2, 64]⟩
abbrev S16x1x16x2x64 : Shape := ⟨5, ![16, 1, 16, 2, 64]⟩
abbrev S16x256x32x2x64 : Shape := ⟨5, ![16, 256, 32, 2, 64]⟩
abbrev S32x1x64 : Shape := ⟨3, ![32, 1, 64]⟩
abbrev S1x1x32x1x64 : Shape := ⟨5, ![1, 1, 32, 1, 64]⟩
abbrev S16x256x2x32x64 : Shape := ⟨5, ![16, 256, 2, 32, 64]⟩
abbrev S16x256x2x2048 : Shape := ⟨4, ![16, 256, 2, 2048]⟩
abbrev S16x256x2x256 : Shape := ⟨4, ![16, 256, 2, 256]⟩
abbrev S_ : Shape := ⟨0, ![]⟩
abbrev S16x256x2x64 : Shape := ⟨4, ![16, 256, 2, 64]⟩
abbrev S1x64 : Shape := ⟨2, ![1, 64]⟩
abbrev S64 : Shape := ⟨1, ![64]⟩
abbrev S16x256x2 : Shape := ⟨3, ![16, 256, 2]⟩
abbrev S16x256x2x1 : Shape := ⟨4, ![16, 256, 2, 1]⟩
abbrev S1x1x1x64 : Shape := ⟨4, ![1, 1, 1, 64]⟩
abbrev S16x256x128 : Shape := ⟨3, ![16, 256, 128]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x4992, .f32⟩
  | .hbm, ⟨1, _⟩ => ⟨S4x64, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S16x4096x128, .f32⟩
  | .hbm, ⟨6, _⟩ => ⟨S1x32x64, .f32⟩
  | .hbm, ⟨7, _⟩ => ⟨S32x64, .f32⟩
  | .hbm, ⟨8, _⟩ => ⟨S1x2048x256, .f32⟩
  | .hbm, ⟨9, _⟩ => ⟨S2048x256, .f32⟩
  | .hbm, ⟨10, _⟩ => ⟨S1x256x64, .f32⟩
  | .hbm, ⟨11, _⟩ => ⟨S256x64, .f32⟩
  | .hbm, ⟨12, _⟩ => ⟨S16x256x16x2x64, .f32⟩
  | .hbm, ⟨13, _⟩ => ⟨S16x255x16x2x64, .f32⟩
  | .hbm, ⟨14, _⟩ => ⟨S16x1x16x2x64, .f32⟩
  | .hbm, ⟨15, _⟩ => ⟨S16x256x16x2x64, .f32⟩
  | .hbm, ⟨16, _⟩ => ⟨S16x256x32x2x64, .f32⟩
  | .hbm, ⟨17, _⟩ => ⟨S32x1x64, .f32⟩
  | .hbm, ⟨18, _⟩ => ⟨S1x1x32x1x64, .f32⟩
  | .hbm, ⟨19, _⟩ => ⟨S16x256x32x2x64, .f32⟩
  | .hbm, ⟨20, _⟩ => ⟨S16x256x32x2x64, .f32⟩
  | .hbm, ⟨21, _⟩ => ⟨S16x256x2x32x64, .f32⟩
  | .hbm, ⟨22, _⟩ => ⟨S16x256x2x2048, .f32⟩
  | .hbm, ⟨23, _⟩ => ⟨S16x256x2x256, .f32⟩
  | .hbm, ⟨24, _⟩ => ⟨S16x256x2x256, .f32⟩
  | .hbm, ⟨25, _⟩ => ⟨S16x256x2x256, .f32⟩
  | .hbm, ⟨26, _⟩ => ⟨S_, .f32⟩
  | .hbm, ⟨27, _⟩ => ⟨S16x256x2x256, .f32⟩
  | .hbm, ⟨28, _⟩ => ⟨S16x256x2x256, .f32⟩
  | .hbm, ⟨29, _⟩ => ⟨S16x256x2x256, .f32⟩
  | .hbm, ⟨30, _⟩ => ⟨S_, .f32⟩
  | .hbm, ⟨31, _⟩ => ⟨S16x256x2x256, .f32⟩
  | .hbm, ⟨32, _⟩ => ⟨S16x256x2x256, .f32⟩
  | .hbm, ⟨33, _⟩ => ⟨S16x256x2x256, .f32⟩
  | .hbm, ⟨34, _⟩ => ⟨S_, .f32⟩
  | .hbm, ⟨35, _⟩ => ⟨S16x256x2x256, .f32⟩
  | .hbm, ⟨36, _⟩ => ⟨S16x256x2x256, .f32⟩
  | .hbm, ⟨37, _⟩ => ⟨S_, .f32⟩
  | .hbm, ⟨38, _⟩ => ⟨S16x256x2x256, .f32⟩
  | .hbm, ⟨39, _⟩ => ⟨S16x256x2x256, .f32⟩
  | .hbm, ⟨40, _⟩ => ⟨S16x256x2x256, .f32⟩
  | .hbm, ⟨41, _⟩ => ⟨S16x256x2x64, .f32⟩
  | .hbm, ⟨42, _⟩ => ⟨S1x64, .f32⟩
  | .hbm, ⟨43, _⟩ => ⟨S64, .f32⟩
  | .hbm, ⟨44, _⟩ => ⟨S16x256x2x64, .f32⟩
  | .hbm, ⟨45, _⟩ => ⟨S_, .f32⟩
  | .hbm, ⟨46, _⟩ => ⟨S16x256x2, .f32⟩
  | .hbm, ⟨47, _⟩ => ⟨S16x256x2x1, .f32⟩
  | .hbm, ⟨48, _⟩ => ⟨S_, .f32⟩
  | .hbm, ⟨49, _⟩ => ⟨S16x256x2x1, .f32⟩
  | .hbm, ⟨50, _⟩ => ⟨S16x256x2x1, .f32⟩
  | .hbm, ⟨51, _⟩ => ⟨S_, .f32⟩
  | .hbm, ⟨52, _⟩ => ⟨S16x256x2x1, .f32⟩
  | .hbm, ⟨53, _⟩ => ⟨S16x256x2x1, .f32⟩
  | .hbm, ⟨54, _⟩ => ⟨S16x256x2x1, .f32⟩
  | .hbm, ⟨55, _⟩ => ⟨S16x256x2x64, .f32⟩
  | .hbm, ⟨56, _⟩ => ⟨S16x256x2x64, .f32⟩
  | .hbm, ⟨57, _⟩ => ⟨S1x1x1x64, .f32⟩
  | .hbm, ⟨58, _⟩ => ⟨S16x256x2x64, .f32⟩
  | .hbm, ⟨59, _⟩ => ⟨S16x256x2x64, .f32⟩
  | .hbm, ⟨60, _⟩ => ⟨S16x4096x128, .f32⟩
  | .hbm, ⟨61, _⟩ => ⟨S1x32x64, .f32⟩
  | .hbm, ⟨62, _⟩ => ⟨S32x64, .f32⟩
  | .hbm, ⟨63, _⟩ => ⟨S1x2048x256, .f32⟩
  | .hbm, ⟨64, _⟩ => ⟨S2048x256, .f32⟩
  | .hbm, ⟨65, _⟩ => ⟨S1x256x64, .f32⟩
  | .hbm, ⟨66, _⟩ => ⟨S256x64, .f32⟩
  | .hbm, ⟨67, _⟩ => ⟨S16x256x16x2x64, .f32⟩
  | .hbm, ⟨68, _⟩ => ⟨S16x255x16x2x64, .f32⟩
  | .hbm, ⟨69, _⟩ => ⟨S16x1x16x2x64, .f32⟩
  | .hbm, ⟨70, _⟩ => ⟨S16x256x16x2x64, .f32⟩
  | .hbm, ⟨71, _⟩ => ⟨S16x256x32x2x64, .f32⟩
  | .hbm, ⟨72, _⟩ => ⟨S32x1x64, .f32⟩
  | .hbm, ⟨73, _⟩ => ⟨S1x1x32x1x64, .f32⟩
  | .hbm, ⟨74, _⟩ => ⟨S16x256x32x2x64, .f32⟩
  | .hbm, ⟨75, _⟩ => ⟨S16x256x32x2x64, .f32⟩
  | .hbm, ⟨76, _⟩ => ⟨S16x256x2x32x64, .f32⟩
  | .hbm, ⟨77, _⟩ => ⟨S16x256x2x2048, .f32⟩
  | .hbm, ⟨78, _⟩ => ⟨S16x256x2x256, .f32⟩
  | .hbm, ⟨79, _⟩ => ⟨S16x256x2x256, .f32⟩
  | .hbm, ⟨80, _⟩ => ⟨S16x256x2x256, .f32⟩
  | .hbm, ⟨81, _⟩ => ⟨S_, .f32⟩
  | .hbm, ⟨82, _⟩ => ⟨S16x256x2x256, .f32⟩
  | .hbm, ⟨83, _⟩ => ⟨S16x256x2x256, .f32⟩
  | .hbm, ⟨84, _⟩ => ⟨S16x256x2x256, .f32⟩
  | .hbm, ⟨85, _⟩ => ⟨S_, .f32⟩
  | .hbm, ⟨86, _⟩ => ⟨S16x256x2x256, .f32⟩
  | .hbm, ⟨87, _⟩ => ⟨S16x256x2x256, .f32⟩
  | .hbm, ⟨88, _⟩ => ⟨S16x256x2x256, .f32⟩
  | .hbm, ⟨89, _⟩ => ⟨S_, .f32⟩
  | .hbm, ⟨90, _⟩ => ⟨S16x256x2x256, .f32⟩
  | .hbm, ⟨91, _⟩ => ⟨S16x256x2x256, .f32⟩
  | .hbm, ⟨92, _⟩ => ⟨S_, .f32⟩
  | .hbm, ⟨93, _⟩ => ⟨S16x256x2x256, .f32⟩
  | .hbm, ⟨94, _⟩ => ⟨S16x256x2x256, .f32⟩
  | .hbm, ⟨95, _⟩ => ⟨S16x256x2x256, .f32⟩
  | .hbm, ⟨96, _⟩ => ⟨S16x256x2x64, .f32⟩
  | .hbm, ⟨97, _⟩ => ⟨S16x256x128, .f32⟩
  | .hbm, ⟨98, _⟩ => ⟨S16x256x128, .bf16⟩
  | .hbm, ⟨99, _⟩ => ⟨S16x256x128, .f32⟩
  | .hbm, ⟨100, _⟩ => ⟨S16x256x128, .bf16⟩
  | _, _ => ⟨S16x4096x4992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call1_v0 : Ref sig .tc := ⟨.hbm, 68, rfl⟩
abbrev main_call1_v1 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Kernel7.lean ====
abbrev S65536x4992 : Shape := ⟨2, ![65536, 4992]⟩
abbrev S4x64 : Shape := ⟨2, ![4, 64]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S65536x512 : Shape := ⟨2, ![65536, 512]⟩
abbrev S65536x128 : Shape := ⟨2, ![65536, 128]⟩
abbrev S512x128 : Shape := ⟨2, ![512, 128]⟩

abbrev nBuf : Space → Nat
  | .hbm => 83
  | .vmem => 25
  | .smem => 0
  | _ => 0

abbrev bufTy : (tb : Table) → Fin (tcTables nBuf tb) → BufTy
  | .hbm, ⟨0, _⟩ => ⟨S65536x4992, .f32⟩
  | .hbm, ⟨1, _⟩ => ⟨S4x64, .f32⟩
  | .hbm, ⟨2, _⟩ => ⟨S1x64, .f32⟩
  | .hbm, ⟨3, _⟩ => ⟨S64, .f32⟩
  | .hbm, ⟨4, _⟩ => ⟨S1x64, .f32⟩
  | .hbm, ⟨5, _⟩ => ⟨S8x64, .f32⟩
  | .hbm, ⟨6, _⟩ => ⟨S512, .f32⟩
  | .hbm, ⟨7, _⟩ => ⟨S1x512, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .f32⟩
  | .hbm, ⟨45, _⟩ => ⟨S_, .f32⟩
  | .hbm, ⟨46, _⟩ => ⟨S512x512, .f32⟩
  | .hbm, ⟨47, _⟩ => ⟨S512x512, .f32⟩
  | .hbm, ⟨48, _⟩ => ⟨S512x512, .bf16⟩
  | .hbm, ⟨49, _⟩ => ⟨S128, .i32⟩
  | .hbm, ⟨50, _⟩ => ⟨S_, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S128, .i1⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S128x1, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S128x128, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .bf16⟩
  | .hbm, ⟨78, _⟩ => ⟨S65536x512, .bf16⟩
  | .hbm, ⟨79, _⟩ => ⟨S65536x128, .bf16⟩
  | .hbm, ⟨80, _⟩ => ⟨S65536x128, .bf16⟩
  | .hbm, ⟨81, _⟩ => ⟨S65536x128, .bf16⟩
  | .hbm, ⟨82, _⟩ => ⟨S65536x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x128, .f32⟩
  | .local _ .vmem, ⟨12, _⟩ => ⟨S1x128, .f32⟩
  | .local _ .vmem, ⟨13, _⟩ => ⟨S512x512, .bf16⟩
  | .local _ .vmem, ⟨14, _⟩ => ⟨S128x128, .bf16⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | _, _ => ⟨S65536x4992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_1 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40_0 : Ref sig .tc := ⟨.hbm, 78, rfl⟩
abbrev main_v40_1 : Ref sig .tc := ⟨.hbm, 79, rfl⟩
abbrev main_v40_2 : Ref sig .tc := ⟨.hbm, 80, rfl⟩
abbrev main_v40_3 : Ref sig .tc := ⟨.hbm, 81, rfl⟩
abbrev main_v40_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_2 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_3 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_4 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S65536x4992 : Shape := ⟨2, ![65536, 4992]⟩
abbrev S4x64 : Shape := ⟨2, ![4, 64]⟩
abbrev S65536x512 : Shape := ⟨2, ![65536, 512]⟩
abbrev S65536x8x64 : Shape := ⟨3, ![65536, 8, 64]⟩
abbrev S1x64 : Shape := ⟨2, ![1, 64]⟩
abbrev S64 : Shape := ⟨1, ![64]⟩
abbrev S_ : Shape := ⟨0, ![]⟩
abbrev S65536x8 : Shape := ⟨2, ![65536, 8]⟩
abbrev S65536x8x1 : Shape := ⟨3, ![65536, 8, 1]⟩
abbrev S1x1x64 : Shape := ⟨3, ![1, 1, 64]⟩
abbrev S65536x128 : Shape := ⟨2, ![65536, 128]⟩
abbrev S65536x2x64 : Shape := ⟨3, ![65536, 2, 64]⟩
abbrev S65536x2 : Shape := ⟨2, ![65536, 2]⟩
abbrev S65536x2x1 : Shape := ⟨3, ![65536, 2, 1]⟩

abbrev nBuf : Space → Nat
  | .hbm => 75
  | .vmem => 0
  | .smem => 0
  | _ => 0

abbrev bufTy : (tb : Table) → Fin (tcTables nBuf tb) → BufTy
  | .hbm, ⟨0, _⟩ => ⟨S65536x4992, .f32⟩
  | .hbm, ⟨1, _⟩ => ⟨S4x64, .f32⟩
  | .hbm, ⟨2, _⟩ => ⟨S65536x512, .f32⟩
  | .hbm, ⟨3, _⟩ => ⟨S65536x8x64, .f32⟩
  | .hbm, ⟨4, _⟩ => ⟨S1x64, .f32⟩
  | .hbm, ⟨5, _⟩ => ⟨S64, .f32⟩
  | .hbm, ⟨6, _⟩ => ⟨S65536x8x64, .f32⟩
  | .hbm, ⟨7, _⟩ => ⟨S_, .f32⟩
  | .hbm, ⟨8, _⟩ => ⟨S65536x8, .f32⟩
  | .hbm, ⟨9, _⟩ => ⟨S65536x8x1, .f32⟩
  | .hbm, ⟨10, _⟩ => ⟨S_, .f32⟩
  | .hbm, ⟨11, _⟩ => ⟨S65536x8x1, .f32⟩
  | .hbm, ⟨12, _⟩ => ⟨S65536x8x1, .f32⟩
  | .hbm, ⟨13, _⟩ => ⟨S_, .f32⟩
  | .hbm, ⟨14, _⟩ => ⟨S65536x8x1, .f32⟩
  | .hbm, ⟨15, _⟩ => ⟨S65536x8x1, .f32⟩
  | .hbm, ⟨16, _⟩ => ⟨S65536x8x1, .f32⟩
  | .hbm, ⟨17, _⟩ => ⟨S65536x8x64, .f32⟩
  | .hbm, ⟨18, _⟩ => ⟨S65536x8x64, .f32⟩
  | .hbm, ⟨19, _⟩ => ⟨S1x1x64, .f32⟩
  | .hbm, ⟨20, _⟩ => ⟨S65536x8x64, .f32⟩
  | .hbm, ⟨21, _⟩ => ⟨S65536x8x64, .f32⟩
  | .hbm, ⟨22, _⟩ => ⟨S_, .f32⟩
  | .hbm, ⟨23, _⟩ => ⟨S65536x8x64, .f32⟩
  | .hbm, ⟨24, _⟩ => ⟨S65536x8x64, .f32⟩
  | .hbm, ⟨25, _⟩ => ⟨S65536x128, .f32⟩
  | .hbm, ⟨26, _⟩ => ⟨S65536x2x64, .f32⟩
  | .hbm, ⟨27, _⟩ => ⟨S1x64, .f32⟩
  | .hbm, ⟨28, _⟩ => ⟨S64, .f32⟩
  | .hbm, ⟨29, _⟩ => ⟨S65536x2x64, .f32⟩
  | .hbm, ⟨30, _⟩ => ⟨S_, .f32⟩
  | .hbm, ⟨31, _⟩ => ⟨S65536x2, .f32⟩
  | .hbm, ⟨32, _⟩ => ⟨S65536x2x1, .f32⟩
  | .hbm, ⟨33, _⟩ => ⟨S_, .f32⟩
  | .hbm, ⟨34, _⟩ => ⟨S65536x2x1, .f32⟩
  | .hbm, ⟨35, _⟩ => ⟨S65536x2x1, .f32⟩
  | .hbm, ⟨36, _⟩ => ⟨S_, .f32⟩
  | .hbm, ⟨37, _⟩ => ⟨S65536x2x1, .f32⟩
  | .hbm, ⟨38, _⟩ => ⟨S65536x2x1, .f32⟩
  | .hbm, ⟨39, _⟩ => ⟨S65536x2x1, .f32⟩
  | .hbm, ⟨40, _⟩ => ⟨S65536x2x64, .f32⟩
  | .hbm, ⟨41, _⟩ => ⟨S65536x2x64, .f32⟩
  | .hbm, ⟨42, _⟩ => ⟨S1x1x64, .f32⟩
  | .hbm, ⟨43, _⟩ => ⟨S65536x2x64, .f32⟩
  | .hbm, ⟨44, _⟩ => ⟨S65536x2x64, .f32⟩
  | .hbm, ⟨45, _⟩ => ⟨S65536x128, .f32⟩
  | .hbm, ⟨46, _⟩ => ⟨S65536x2x64, .f32⟩
  | .hbm, ⟨47, _⟩ => ⟨S1x64, .f32⟩
  | .hbm, ⟨48, _⟩ => ⟨S64, .f32⟩
  | .hbm, ⟨49, _⟩ => ⟨S65536x2x64, .f32⟩
  | .hbm, ⟨50, _⟩ => ⟨S_, .f32⟩
  | .hbm, ⟨51, _⟩ => ⟨S65536x2, .f32⟩
  | .hbm, ⟨52, _⟩ => ⟨S65536x2x1, .f32⟩
  | .hbm, ⟨53, _⟩ => ⟨S_, .f32⟩
  | .hbm, ⟨54, _⟩ => ⟨S65536x2x1, .f32⟩
  | .hbm, ⟨55, _⟩ => ⟨S65536x2x1, .f32⟩
  | .hbm, ⟨56, _⟩ => ⟨S_, .f32⟩
  | .hbm, ⟨57, _⟩ => ⟨S65536x2x1, .f32⟩
  | .hbm, ⟨58, _⟩ => ⟨S65536x2x1, .f32⟩
  | .hbm, ⟨59, _⟩ => ⟨S65536x2x1, .f32⟩
  | .hbm, ⟨60, _⟩ => ⟨S65536x2x64, .f32⟩
  | .hbm, ⟨61, _⟩ => ⟨S65536x2x64, .f32⟩
  | .hbm, ⟨62, _⟩ => ⟨S1x1x64, .f32⟩
  | .hbm, ⟨63, _⟩ => ⟨S65536x2x64, .f32⟩
  | .hbm, ⟨64, _⟩ => ⟨S65536x2x64, .f32⟩
  | .hbm, ⟨65, _⟩ => ⟨S65536x512, .f32⟩
  | .hbm, ⟨66, _⟩ => ⟨S65536x128, .f32⟩
  | .hbm, ⟨67, _⟩ => ⟨S65536x128, .f32⟩
  | .hbm, ⟨68, _⟩ => ⟨S65536x128, .f32⟩
  | .hbm, ⟨69, _⟩ => ⟨S65536x128, .f32⟩
  | .hbm, ⟨70, _⟩ => ⟨S65536x512, .bf16⟩
  | .hbm, ⟨71, _⟩ => ⟨S65536x128, .bf16⟩
  | .hbm, ⟨72, _⟩ => ⟨S65536x128, .bf16⟩
  | .hbm, ⟨73, _⟩ => ⟨S65536x128, .bf16⟩
  | .hbm, ⟨74, _⟩ => ⟨S65536x128, .bf16⟩
  | _, _ => ⟨S65536x4992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Proof.Dispatch.Rows.lean ====
/- The rows of the dispatch: the buffer's rows by number, the staged block's rows, and what a copy of one row writes. Geometry only; no program runs here. -/
module

public import proofs.«01_k».proof.Proof.Gen.KernelIdeal.Launch
public import proofs.«01_k».proof.Proof.Gen.KernelIdeal.Loops
public import Idealize.ShloMosaic.Lib.Batch
public import Idealize.ShloMosaic.Lib.Pipeline.FrameValue
public import Idealize.ShloMosaic.Lib.ValueLayout
public import Idealize.ShloMosaic.Lib.Ring
public import Idealize.ShloMosaic.Lib.Tactic

@[expose] public section

set_option maxRecDepth 16384

noncomputable section

namespace Cert.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The sends of one grid point. -/
abbrev J : ℕ := 1024

/-- An index of the buffer, of the array of rows to send, of a staged block, of the table: by row and lane. -/
abbrev bix (n : Fin 147456) (l : Fin 512) : S147456x1x512.Idx := ix3 n (0 : Fin 1) l
/-- The index of token `n`'s row at lane `l`. -/
abbrev hix (n : Fin 65536) (l : Fin 512) : S65536x1x512.Idx := ix3 n (0 : Fin 1) l
/-- The index of staged row `n` at lane `l`. -/
abbrev six (n : Fin 512) (l : Fin 512) : S512x1x512.Idx := ix3 n (0 : Fin 1) l
/-- The index of table entry `a`. -/
abbrev tix (a : Fin 131072) : S131072.Idx := ix1 a

/-- Every index of the buffer is a row and a lane. -/
theorem bix_eta (y : S147456x1x512.Idx) : y = bix (y 0) (y 2) := by
  funext a; fin_cases a
  · rfl
  · exact Subsingleton.elim (α := Fin 1) _ _
  · rfl

/-- A row number keeps a unit row inside the buffer. -/
theorem brow_inb (n : ℕ) (h : n < 147456) : ∀ a, (![n, 0, 0] : Fin 3 → ℕ) a + S1x1x512.size a ≤ S147456x1x512.size a := by
  intro a; fin_cases a
  · show n + 1 ≤ 147456; omega
  · show 0 + 1 ≤ 1; omega
  · show 0 + 512 ≤ 512; omega
/-- A row number keeps a unit row inside the staged block. -/
theorem srow_inb (r : Fin 512) : ∀ a, (![r.val, 0, 0] : Fin 3 → ℕ) a + S1x1x512.size a ≤ S512x1x512.size a := by
  have := r.isLt; intro a; fin_cases a
  · show r.val + 1 ≤ 512; omega
  · show 0 + 1 ≤ 1; omega
  · show 0 + 512 ≤ 512; omega

/-- Row `n` of the buffer, as the kernel spells a copy's destination. -/
def brow (n : ℕ) (h : n < 147456) : Memref sig .tc .hbm S1x512 .i32 :=
  ((Memref.whole main_v0).slice (Rect.unit (s := S147456x1x512) ![n, 0, 0] S1x1x512.size (brow_inb n h)) (fun _ => rfl)).squeeze S1x512 squeezes_S1x1x512_S1x512
/-- Row `r` of the staged block, as the kernel spells a copy's source. -/
def srow (m : Memref sig .tc .vmem S512x1x512 .i32) (r : Fin 512) : Memref sig .tc .vmem S1x512 .i32 :=
  (m.slice (Rect.unit (s := S512x1x512) ![r.val, 0, 0] S1x1x512.size (srow_inb r)) (fun _ => rfl)).squeeze S1x512 squeezes_S1x1x512_S1x512

/-- The indices of one row of the buffer. -/
def rowSet (n : ℕ) : Finset S147456x1x512.Idx := Finset.univ.filter fun y => (y 0).val = n

/-- An element is in row `n` when its first coordinate is `n`. -/
theorem mem_rowSet (n : ℕ) (y : S147456x1x512.Idx) : y ∈ rowSet n ↔ (y 0).val = n := by simp [rowSet]

/-- Two rows are disjoint. -/
theorem rowSet_disjoint {n n' : ℕ} (h : n ≠ n') : Disjoint (rowSet n) (rowSet n') := by
  rw [Finset.disjoint_left]; intro y hy hy'; rw [mem_rowSet] at hy hy'; exact h (hy.symm.trans hy')

/-- A copy's destination is exactly its row. -/
theorem brow_set (n : ℕ) (h : n < 147456) : (brow n h).view.set = rowSet n := by
  refine ((View.set_reshape _ _).trans (View.set_slice_whole _ _)).trans ?_
  ext y
  rw [Rect.mem_set_unit, mem_rowSet]
  have h1 : (y 1).val < 1 := (y 1).isLt
  have h2 : (y 2).val < 512 := (y 2).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1; omega
    · show 0 ≤ (y 2).val ∧ (y 2).val < 0 + 512; omega

/-- The staged block's rows: the rectangles of its index set. -/
def srect (r : Fin 512) : Finset S512x1x512.Idx := (Rect.unit (s := S512x1x512) ![r.val, 0, 0] S1x1x512.size (srow_inb r)).set

/-- An element is in staged row `r` when its first coordinate is `r`. -/
theorem mem_srect (r : Fin 512) (y : S512x1x512.Idx) : y ∈ srect r ↔ (y 0).val = r.val := by
  unfold srect
  rw [Rect.mem_set_unit]
  have h1 : (y 1).val < 1 := (y 1).isLt
  have h2 : (y 2).val < 512 := (y 2).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 1; omega
    · show 0 ≤ (y 2).val ∧ (y 2).val < 0 + 512; omega

/-- The staged row's cells, through the block's memref. -/
theorem srow_set (m : Memref sig .tc .vmem S512x1x512 .i32) (r : Fin 512) : (srow m r).view.set = (srect r).map m.view.emb :=
  (View.set_reshape _ _).trans (View.set_slice _ _)

/-- Two staged rows are disjoint. -/
theorem srow_disjoint (m : Memref sig .tc .vmem S512x1x512 .i32) : ∀ r r' : Fin 512, r ≠ r' → Disjoint (srow m r).view.set (srow m r').view.set := by
  intro r r' h
  have hd : Disjoint (srect r) (srect r') := by
    rw [Finset.disjoint_left]
    intro y hy hy'; rw [mem_srect] at hy hy'; exact h (Fin.ext (hy.symm.trans hy'))
  have hm := (Finset.disjoint_map m.view.emb).2 hd
  rw [srow_set, srow_set]
  exact hm

/-- The staged rows make up the block. -/
theorem srow_cover (m : Memref sig .tc .vmem S512x1x512 .i32) : Finset.univ.biUnion (fun r => (srow m r).view.set) = m.view.set := by
  ext i
  refine ⟨fun h => ?_, fun h => ?_⟩
  · have ⟨r, _, hr⟩ := Finset.mem_biUnion.1 h
    rw [srow_set] at hr
    have ⟨y, _, hy⟩ := Finset.mem_map.1 hr
    exact Finset.mem_map.2 ⟨y, Finset.mem_univ _, hy⟩
  · have ⟨y, _, hy⟩ := Finset.mem_map.1 h
    refine Finset.mem_biUnion.2 ⟨(y 0 : Fin 512), Finset.mem_univ _, ?_⟩
    have e := srow_set m (y 0 : Fin 512)
    rw [e]
    exact Finset.mem_map.2 ⟨y, (mem_srect _ _).mpr rfl, hy⟩

/-- The one row of a `1 × 512` block, by lane. -/
abbrev rix (l : Fin 512) : S1x512.Idx := ix2 (0 : Fin 1) l

/-- The element of row `n` of the buffer under lane `l`. -/
theorem brow_emb (n : ℕ) (h : n < 147456) (l : Fin 512) : (brow n h).view.emb (rix l) = bix ⟨n, h⟩ l := by
  have e := reshapeEquiv_ix2_1ab (a := 1) (b := 512) (show (⟨2, ![1, 512]⟩ : Shape).numel = (⟨3, ![1, 1, 512]⟩ : Shape).numel from squeezes_S1x1x512_S1x512.numel_eq) (0 : Fin 1) l
  show (Rect.unit (s := S147456x1x512) ![n, 0, 0] S1x1x512.size (brow_inb n h)).emb (Shape.reshapeEquiv _ (rix l)) = _
  rw [e]
  funext a; apply Fin.ext; fin_cases a
  · show n + 1 * 0 = n; omega
  · show 0 + 1 * 0 = 0; omega
  · show 0 + 1 * l.val = l.val; omega

/-- The element of row `r` of the staged block under lane `l`. -/
theorem srow_emb (m : Memref sig .tc .vmem S512x1x512 .i32) (r : Fin 512) (l : Fin 512) : (srow m r).view.emb (rix l) = m.view.emb (six r l) := by
  have e := reshapeEquiv_ix2_1ab (a := 1) (b := 512) (show (⟨2, ![1, 512]⟩ : Shape).numel = (⟨3, ![1, 1, 512]⟩ : Shape).numel from squeezes_S1x1x512_S1x512.numel_eq) (0 : Fin 1) l
  show m.view.emb ((Rect.unit (s := S512x1x512) ![r.val, 0, 0] S1x1x512.size (srow_inb r)).emb (Shape.reshapeEquiv _ (rix l))) = _
  rw [e]
  refine congrArg m.view.emb ?_
  funext a; apply Fin.ext; fin_cases a
  · show r.val + 1 * 0 = r.val; omega
  · show 0 + 1 * 0 = 0; omega
  · show 0 + 1 * l.val = l.val; omega

/-- Row `r` of the staged block, read through the row's own view. -/
theorem srow_read (m : Memref sig .tc .vmem S512x1x512 .i32) (r : Fin 512) (g : m.view.ty.Contents (Elt F)) (l : Fin 512) :
    (srow m r).view.read (Elt F) g (rix l) = m.view.read (Elt F) g (six r l) :=
  congrArg (fun z => _root_.cast (congrArg (Elt F) m.view.elt_eq) (g z)) (srow_emb m r l)

/-- What a copy of row `r` of the staged block leaves in row `n` of the buffer: that row, lane by lane. -/
theorem copy_row (n : ℕ) (h : n < 147456) (m : Memref sig .tc .vmem S512x1x512 .i32) (r : Fin 512)
    (f : (brow n h).view.ty.Contents (Elt F)) (g : m.view.ty.Contents (Elt F)) (l : Fin 512) :
    (brow n h).view.write (Elt F) f ((srow m r).view.read (Elt F) g) Finset.univ (bix ⟨n, h⟩ l) = m.view.read (Elt F) g (six r l) := by
  rw [← brow_emb n h l, View.write_emb_of_mem _ _ (Finset.mem_univ _), ← srow_read m r g l]
  rfl

end Cert.Dispatch
-- ==== Proof.Dispatch.Trip.lean ====
/- One trip of the dispatch's loop: two words read, two rows' copies started. -/
module

public import proofs.«01_k».proof.Proof.Dispatch.Rows

@[expose] public section

set_option maxRecDepth 16384

noncomputable section

namespace Cert.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The credit of one row's copy. -/
def N : ℕ := main_v0.dmaCredit S1x512 .i32

/-- A row's credit is positive. -/
theorem N_pos : 0 < N := by unfold N; decide +kernel
/-- A wait for a block takes the credits of 512 rows. -/
theorem wait_credit : main_v0.dmaCredit S512x1x512 .i32 = 512 * N := by unfold N; decide +kernel

/-- The row the `j`th send of grid point `t` is sent to, out of the table. -/
def dst (tb : main_arg0.ty.Contents (Elt F)) (t : Fin 128) (j : Fin 1024) : ℕ := (tb (tix ⟨1024 * t.val + j.val, by omega⟩) : BitVec 32).toNat

/-- The share of the staged block's row that the `j`th send's copy holds: each row is sent twice. -/
def sh (j : Fin 1024) : PosShare TreeShare := if j.val % 2 = 0 then (fullShare : PosShare TreeShare).left else (fullShare : PosShare TreeShare).right

/-- The staged row the `j`th send reads. -/
def half (j : Fin 1024) : Fin 512 := ⟨j.val / 2, by omega⟩

section

variable (c : Dev nD) (m : Memref sig .tc .vmem S512x1x512 .i32) (g : m.view.ty.Contents (Elt F))
variable (tb : main_arg0.ty.Contents (Elt F)) (t : Fin 128)

/-- The elements of the staged block's row `r`. -/
def srcSet (r : Fin 512) : Finset (Idx (m.view.loc (c : Thread nD τ))) := (srow m r).view.set

/-- What the `j`th send holds: its row of the buffer at contents `f`, and a share of its staged row. -/
def sendAt (f : main_v0.ty.Contents (Elt F)) (j : Fin 1024) : sProp 𝕄 :=
  iprop(((Memref.whole main_v0).view.loc (c : Thread nD τ) ↦[rowSet (dst tb t j)]{fullShare} f)
    ∗ (m.view.loc (c : Thread nD τ) ↦[srcSet c m (half j)]{sh j} g))

/-- A send's state can be stored in an invariant. -/
instance (f : main_v0.ty.Contents (Elt F)) (j : Fin 1024) : BI.Storable (upEmb : UEmb _ 𝕄) (sendAt c m g tb t f j) := by
  unfold sendAt; infer_instance

/-- The sends of one grid point in flight: `j` started, `u` units waited for. -/
abbrev flight (f' : main_v0.ty.Contents (Elt F)) (j u : ℕ) : sProp 𝕄 :=
  Transfers.Batch (countersEmb (U := Pipeline.UD sig nD τ)) (c : Thread nD τ) (.dma cc0_scratch0.sem) () N (sendAt c m g tb t f') j u

/-- The table, held at a share. -/
abbrev tableAt (q : PosShare TreeShare) : sProp 𝕄 := (Memref.whole main_arg0).view.loc (c : Thread nD τ) ↦{q} tb

/-- Before trip `k`: the first `2 k` sends started, the others' rows in hand, the table. -/
def tripInv (q : PosShare TreeShare) (f f' : main_v0.ty.Contents (Elt F)) (k : ℕ) : sProp 𝕄 :=
  iprop(flight c m g tb t f' (2 * k) 0 ∗ bigSep (Ring.rangeSet 1024 (2 * k) 1024) (sendAt c m g tb t f) ∗ tableAt c tb q)

/-- A send starts: its row and its share of the staged row go into the copies in flight. -/
theorem wp_send (𝒱 : Variants) (bd : Option 𝒱.V) {α : Type} {Q : α → sProp 𝕄} (f f' : main_v0.ty.Contents (Elt F)) (j : Fin 1024)
    (hd : dst tb t j < 147456)
    (hf : ∀ l : Fin 512, f' (bix ⟨dst tb t j, hd⟩ l) = m.view.read (Elt F) g (six (half j) l))
    {s : Memref sig .tc .vmem S1x512 .i32} {d : Memref sig .tc .hbm S1x512 .i32} (hs : s = srow m (half j)) (hd' : d = brow (dst tb t j) hd)
    {hsrc : s.view.WordExact} {hdst : d.view.WordExact} {hsem : DmaTarget.Typed (τ := τ) (nD := nD) (p := (c : Thread nD τ).2) .vmem (.dma cc0_scratch0.sem) (.here d)}
    {k : PUnit → Prog (TpuEff nD τ sig (Elt F) Λ₀ .tc) α} :
    iprop(flight c m g tb t f' j.val 0 ∗ sendAt c m g tb t f j)
      ⊢ iprop((flight c m g tb t f' (j.val + 1) 0 -∗ wp frame (wpE defs₀ 𝒱 (c : Thread nD τ) bd) Set.univ (k ⟨⟩) Q)
        -∗ wp frame (wpE defs₀ 𝒱 (c : Thread nD τ) bd) Set.univ (.op (.enqueueDma s (.here d) (.dma cc0_scratch0.sem) hsrc hdst hsem) k) Q) := by
  subst hs hd'
  unfold sendAt
  iintro ⟨HB, Hd, Hs⟩ Hk
  iapply (Transfers.wp_dmaBatch (countersEmb (U := Pipeline.UD sig nD τ)) 𝒱 (c : Thread nD τ) bd (src := srow m (half j)) (dst := brow (dst tb t j) hd)
    (q := sh j) (fs := g) (Sd := rowSet (dst tb t j)) (fd := f) (D := sendAt c m g tb t f') (j := j.val) (u := 0) () N rfl
    (le_of_eq (brow_set _ hd)) j.isLt (Nat.zero_le _) ?_) $$ [Hs Hd HB] [Hk]
  · refine sep_mono (Entails.of_eq (pointsTo_congr fun (y : S147456x1x512.Idx) hy => ?_)) .rfl
    have e := copy_row (F := F) (dst tb t j) hd m (half j) f g (y 2)
    have ey : y = bix ⟨dst tb t j, hd⟩ (y 2) := by
      refine (bix_eta y).trans ?_
      rw [show (y 0 : Fin 147456) = ⟨dst tb t j, hd⟩ from Fin.ext ((mem_rowSet _ _).1 hy)]
      rfl
    rw [ey]
    exact e.trans (hf (y 2)).symm
  · isplitl [Hs]; · iexact Hs
    isplitl [Hd]; · iexact Hd
    iexact HB
  · iexact Hk

/-- A word of the table, as the kernel reads it. -/
theorem word_read {off : Fin 1 → ℕ} (n : Fin 131072) (h : off = ![n.val]) (p : ∀ a, off a + S1.size a ≤ S131072.size a)
    (x : (Rect.unit (s := S131072) off S1.size p).shape.Idx) :
    ((Memref.whole main_arg0).access (Rect.unit (s := S131072) off S1.size p)).read (Elt F) tb x = tb (tix n) := by
  subst h
  refine congrArg tb ?_
  funext a; apply Fin.ext; fin_cases a
  have hx : (x 0).val < 1 := (x 0).isLt
  show n.val + 1 * (x 0).val = n.val
  omega

/-- The table's word read: the program goes on at that word. -/
theorem wp_word (𝒱 : Variants) (bd : Option 𝒱.V) {α : Type} {Q : α → sProp 𝕄} {off : Fin 1 → ℕ} (n : Fin 131072) (h : off = ![n.val])
    {p : ∀ a, off a + S1.size a ≤ S131072.size a} {hl} (q : PosShare TreeShare)
    {k : ((Rect.unit (s := S131072) off S1.size p).shape.Idx → Elt F .i32) → Prog (TpuEff nD τ sig (Elt F) Λ₀ .tc) α} :
    tableAt c tb q
      ⊢ iprop((tableAt c tb q -∗ wp frame (wpE defs₀ 𝒱 (c : Thread nD τ) bd) Set.univ (k (fun _ => tb (tix n))) Q)
        -∗ wp frame (wpE defs₀ 𝒱 (c : Thread nD τ) bd) Set.univ
            (.op (.load (Memref.whole main_arg0) (Rect.unit (s := S131072) off S1.size p) hl) k) Q) := by
  have e : ((Memref.whole main_arg0).access (Rect.unit (s := S131072) off S1.size p)).read (Elt F) tb = fun _ => tb (tix n) :=
    funext (word_read tb n h p)
  rw [show k (fun _ => tb (tix n)) = k (((Memref.whole main_arg0).access (Rect.unit (s := S131072) off S1.size p)).read (Elt F) tb) from congrArg k e.symm]
  exact wp_load_rect (defs := defs₀ (F := F)) 𝒱 (c : Thread nD τ) bd (Γ := .empty) Set.univ (Q := Q) (m := Memref.whole main_arg0)
    (r := Rect.unit (s := S131072) off S1.size p) (hl := hl) (k := k) (S := Finset.univ) (q := q) (f := tb) (Finset.subset_univ _)

/-- The loop makes 512 trips. -/
theorem trips_eq : k0_t1_loop.trips = 512 := by decide +kernel

/-- One trip: from the row's two sends still to come to both started. -/
theorem trip (𝒱 : Variants) (bd : Option 𝒱.V) (i : grid0.Coords) (hi : (i 0).val = t.val) (hm : m.IsWhole)
    (hd : ∀ j, dst tb t j < 147456) (q : PosShare TreeShare) (f f' : main_v0.ty.Contents (Elt F))
    (hf : ∀ (j : Fin 1024) (l : Fin 512), f' (bix ⟨dst tb t j, hd j⟩ l) = m.view.read (Elt F) g (six (half j) l))
    (k : Fin k0_t1_loop.trips) (a : Unit) :
    iprop(tripInv c m g tb t q f f' k.val) ⊢
      wp frame (wpE defs₀ 𝒱 (c : Thread nD τ) bd) Set.univ
        (k0_t1_body (F := F) i (Memref.whole main_arg0) (Memref.isWhole_whole _) m hm (Memref.whole main_v0) (Memref.isWhole_whole _) (Memref.whole main_v0) (Memref.isWhole_whole _) cc0_scratch0 k a)
        (fun _ => tripInv c m g tb t q f f' (k.val + 1)) := by
  have hk : k.val < 512 := lt_of_lt_of_eq k.isLt trips_eq
  unfold tripInv
  rw [Ring.bigSep_rangeSet_head (Φ := sendAt c m g tb t f) (lo := 2 * k.val) (by omega) (by omega),
    Ring.bigSep_rangeSet_head (Φ := sendAt c m g tb t f) (lo := 2 * k.val + 1) (by omega) (by omega),
    show 2 * (k.val + 1) = 2 * k.val + 1 + 1 by omega]
  iintro ⟨HB, ⟨H0, H1, Hs⟩, HT⟩
  simp only [k0_t1_body, smemLoad, smemLoadElt, Prog.lift, Prog.bind_op, Prog.bind_ret, Prog.pure_eq_ret, Prog.bind_assoc]
  have e1 : k0_off1 i k = ![(⟨1024 * t.val + 2 * k.val, by omega⟩ : Fin 131072).val] := by rw [k0_off1_eq, hi]
  have e4 : k0_off4 i k = ![(⟨1024 * t.val + (2 * k.val + 1), by omega⟩ : Fin 131072).val] := by rw [k0_off4_eq, hi]; rfl
  iapply (wp_word c tb 𝒱 bd ⟨1024 * t.val + 2 * k.val, by omega⟩ e1 q) $$ HT
  iintro HT
  generalize hv : (tb (tix ⟨1024 * t.val + 2 * k.val, by omega⟩) : BitVec 32) = v
  have hv' : k0_off2 v = ![dst tb t ⟨2 * k.val, by omega⟩, 0, 0] := by unfold dst; rw [hv]; rfl
  have hc : k0_chk1 v := by unfold k0_chk1; rw [hv']; exact brow_inb _ (hd _)
  iapply (wp_assume 𝒱 (c : Thread nD τ) bd Set.univ (P := k0_chk1 v) hc)
  iapply (wp_send c m g tb t 𝒱 bd f f' ⟨2 * k.val, by omega⟩ (hd _) (hf _)
    (congrArg (fun z => Memref.squeeze z S1x512 squeezes_S1x1x512_S1x512) (Memref.slice_unit_congr m ?_ _ _ _ _))
    (congrArg (fun z => Memref.squeeze z S1x512 squeezes_S1x1x512_S1x512) (Memref.slice_unit_congr (Memref.whole main_v0) hv' _ _ _ _))) $$ [HB H0]
  · rw [k0_off3_eq]; unfold half
    rw [show (⟨2 * k.val / 2, by omega⟩ : Fin 512).val = k.val by show 2 * k.val / 2 = k.val; omega]
  · isplitl [HB]; · iexact HB
    iexact H0
  iintro HB
  iapply (wp_word c tb 𝒱 bd ⟨1024 * t.val + (2 * k.val + 1), by omega⟩ e4 q) $$ HT
  iintro HT
  generalize hw : (tb (tix ⟨1024 * t.val + (2 * k.val + 1), by omega⟩) : BitVec 32) = w
  have hw' : k0_off5 w = ![dst tb t ⟨2 * k.val + 1, by omega⟩, 0, 0] := by unfold dst; rw [hw]; rfl
  have hc' : k0_chk2 w := by unfold k0_chk2; rw [hw']; exact brow_inb _ (hd _)
  iapply (wp_assume 𝒱 (c : Thread nD τ) bd Set.univ (P := k0_chk2 w) hc')
  iapply (wp_send c m g tb t 𝒱 bd f f' ⟨2 * k.val + 1, by omega⟩ (hd _) (hf _)
    (congrArg (fun z => Memref.squeeze z S1x512 squeezes_S1x1x512_S1x512) (Memref.slice_unit_congr m ?_ _ _ _ _))
    (congrArg (fun z => Memref.squeeze z S1x512 squeezes_S1x1x512_S1x512) (Memref.slice_unit_congr (Memref.whole main_v0) hw' _ _ _ _))) $$ [HB H1]
  · rw [k0_off6_eq]; unfold half
    rw [show (⟨(2 * k.val + 1) / 2, by omega⟩ : Fin 512).val = k.val by show (2 * k.val + 1) / 2 = k.val; omega]
  · isplitl [HB]; · iexact HB
    iexact H1
  iintro HB
  sl_step
  isplitl [HB]; · iexact HB
  isplitl [Hs]; · iexact Hs
  iexact HT

end

end Cert.Dispatch
-- ==== Proof.Dispatch.Body.lean ====
/- The dispatch at one grid point: the rows taken apart, the loop, the two waits, the rows put together. -/
module

public import proofs.«01_k».proof.Proof.Dispatch.Trip

@[expose] public section

set_option maxRecDepth 16384

noncomputable section

namespace Cert.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable (c : Dev nD) (m : Memref sig .tc .vmem S512x1x512 .i32) (g : m.view.ty.Contents (Elt F))
variable (tb : main_arg0.ty.Contents (Elt F)) (t : Fin 128)

/-- The rows one grid point sends to. -/
def hit : Finset (Idx ((Memref.whole main_v0).view.loc (c : Thread nD τ))) := Finset.univ.biUnion fun j : Fin 1024 => rowSet (dst tb t j)

/-- An element is hit by the block when one of its sends goes to the element's row. -/
theorem mem_hit (y : S147456x1x512.Idx) : y ∈ hit c tb t ↔ ∃ j, (y 0).val = dst tb t j := by
  constructor
  · intro h
    have ⟨j, _, hj⟩ := Finset.mem_biUnion.1 h
    exact ⟨j, (mem_rowSet _ _).1 hj⟩
  · intro ⟨j, hj⟩
    exact Finset.mem_biUnion.2 ⟨j, Finset.mem_univ _, (mem_rowSet _ _).2 hj⟩

/-- The staged row `i` at the share `q`, nothing for a number that is no row. -/
def srcN (q : PosShare TreeShare) (i : ℕ) : sProp 𝕄 :=
  if h : i < 512 then iprop(m.view.loc (c : Thread nD τ) ↦[srcSet c m ⟨i, h⟩]{q} g) else iprop(emp)

/-- The staged block held whole is every send's share of its row. -/
theorem src_split : (m.view.loc (c : Thread nD τ) ↦[m.view.set]{fullShare} g : sProp 𝕄)
    ⊣⊢ bigSep Finset.univ fun j : Fin 1024 => (m.view.loc (c : Thread nD τ) ↦[srcSet c m (half j)]{sh j} g) := by
  have e1 : (m.view.loc (c : Thread nD τ) ↦[m.view.set]{fullShare} g : sProp 𝕄)
      = bigSep Finset.univ fun r : Fin 512 => (m.view.loc (c : Thread nD τ) ↦[srcSet c m r]{fullShare} g) :=
    Ring.pointsTo_sub_blocks (srcSet c m) (srow_disjoint m) m.view.set (srow_cover m) g
  have e2 : (bigSep Finset.univ fun j : Fin 1024 => (m.view.loc (c : Thread nD τ) ↦[srcSet c m (half j)]{sh j} g) : sProp 𝕄)
      = bigSep Finset.univ (Ring.interleaved 512 (srcN c m g (fullShare : PosShare TreeShare).left) (srcN c m g (fullShare : PosShare TreeShare).right)) := by
    refine BI.bigSep_congr fun j _ => ?_
    unfold Ring.interleaved sh half srcN
    have hj : j.val / 2 < 512 := by have := j.isLt; omega
    by_cases hp : j.val % 2 = 0
    · rw [if_pos hp, if_pos hp, dif_pos hj]
    · rw [if_neg hp, if_neg hp, dif_pos hj]
  have e3 : ∀ q : PosShare TreeShare, (bigSep (Finset.range 512) (srcN c m g q) : sProp 𝕄)
      = bigSep Finset.univ fun r : Fin 512 => (m.view.loc (c : Thread nD τ) ↦[srcSet c m r]{q} g) := fun q =>
    (Ring.bigSep_fin_eq_range 512 _ _ fun t h => by unfold srcN; rw [dif_pos h]).symm
  rw [e1, e2, Ring.bigSep_interleaved, e3, e3]
  have e4 : iprop((bigSep Finset.univ fun r : Fin 512 => (m.view.loc (c : Thread nD τ) ↦[srcSet c m r]{(fullShare : PosShare TreeShare).left} g))
      ∗ bigSep Finset.univ fun r : Fin 512 => (m.view.loc (c : Thread nD τ) ↦[srcSet c m r]{(fullShare : PosShare TreeShare).right} g))
      = (bigSep Finset.univ fun r : Fin 512 => iprop((m.view.loc (c : Thread nD τ) ↦[srcSet c m r]{(fullShare : PosShare TreeShare).left} g)
        ∗ (m.view.loc (c : Thread nD τ) ↦[srcSet c m r]{(fullShare : PosShare TreeShare).right} g)) : sProp 𝕄) := (BI.bigSep_sep _ _ _).symm
  rw [e4]
  exact ⟨BI.bigSep_mono fun r _ => (pointsTo_share (PosShare.mem_left_op_right fullShare)).1,
    BI.bigSep_mono fun r _ => (pointsTo_share (PosShare.mem_left_op_right fullShare)).2⟩

/-- The rows sent to and every share of the staged block are what the sends hold. -/
theorem sends_split (hinj : ∀ j j', dst tb t j = dst tb t j' → j = j') (f : main_v0.ty.Contents (Elt F)) :
    iprop(((Memref.whole main_v0).view.loc (c : Thread nD τ) ↦[hit c tb t]{fullShare} f) ∗ (m.view.loc (c : Thread nD τ) ↦[m.view.set]{fullShare} g))
      ⊣⊢ (bigSep Finset.univ (sendAt c m g tb t f) : sProp 𝕄) := by
  have e : ((Memref.whole main_v0).view.loc (c : Thread nD τ) ↦[hit c tb t]{fullShare} f : sProp 𝕄)
      = bigSep Finset.univ fun j : Fin 1024 => ((Memref.whole main_v0).view.loc (c : Thread nD τ) ↦[rowSet (dst tb t j)]{fullShare} f) :=
    Ring.pointsTo_sub_blocks (ℓ := (Memref.whole main_v0).view.loc (c : Thread nD τ)) (fun j : Fin 1024 => rowSet (dst tb t j))
      (fun j j' h => rowSet_disjoint fun e => h (hinj j j' e)) (hit c tb t) rfl f
  have e2 : (bigSep Finset.univ (sendAt c m g tb t f) : sProp 𝕄)
      = iprop((bigSep Finset.univ fun j : Fin 1024 => ((Memref.whole main_v0).view.loc (c : Thread nD τ) ↦[rowSet (dst tb t j)]{fullShare} f))
        ∗ bigSep Finset.univ fun j : Fin 1024 => (m.view.loc (c : Thread nD τ) ↦[srcSet c m (half j)]{sh j} g)) :=
    BI.bigSep_sep _ _ _
  rw [e, e2]
  exact ⟨sep_mono .rfl (src_split c m g).1, sep_mono .rfl (src_split c m g).2⟩

/-- One grid point: the buffer goes from `f` to `f₁`, which is `f'` on the rows sent to and `f` elsewhere. -/
theorem point (𝒱 : Variants) (i : grid0.Coords) (hi : (i 0).val = t.val) (hm : m.IsWhole)
    (hd : ∀ j, dst tb t j < 147456) (hinj : ∀ j j', dst tb t j = dst tb t j' → j = j') (q : PosShare TreeShare)
    (f f' f₁ : main_v0.ty.Contents (Elt F))
    (hf : ∀ (j : Fin 1024) (l : Fin 512), f' (bix ⟨dst tb t j, hd j⟩ l) = m.view.read (Elt F) g (six (half j) l))
    (h1 : ∀ y ∈ hit c tb t, f₁ y = f' y) (h2 : ∀ y, y ∉ hit c tb t → f₁ y = f y) (W : Waits sig Unit) :
    iprop(((Memref.whole main_v0).view.loc (c : Thread nD τ) ↦{fullShare} f) ∗ (m.view.loc (c : Thread nD τ) ↦[m.view.set]{fullShare} g)
        ∗ tableAt c tb q ∗ semVal ((c : Thread nD τ), SemLoc.dma cc0_scratch0.sem) 0 ∗ owes (c : Thread nD τ) 0 W)
      ⊢ wp (M := 𝕄) frame (wpE defs₀ 𝒱 (c : Thread nD τ) none) Set.univ
        (cc0_moe_dispatch (F := F) i (Memref.whole main_arg0) (Memref.isWhole_whole _) m hm (Memref.whole main_v0) (Memref.isWhole_whole _) (Memref.whole main_v0) (Memref.isWhole_whole _) cc0_scratch0)
        (fun _ => iprop(((Memref.whole main_v0).view.loc (c : Thread nD τ) ↦{fullShare} f₁) ∗ (m.view.loc (c : Thread nD τ) ↦[m.view.set]{fullShare} g)
          ∗ tableAt c tb q ∗ semVal ((c : Thread nD τ), SemLoc.dma cc0_scratch0.sem) 0 ∗ ∃ W', owes (c : Thread nD τ) 0 W')) := by
  rw [cc0_moe_dispatch_eq_skeleton]
  iintro ⟨HV, HM, HT, HS, HO⟩
  ihave HV' := (pointsTo_split_subset (Finset.subset_univ (hit c tb t))).1 $$ HV
  icases HV' with ⟨Hh, Hr⟩
  ihave HD := (sends_split c m g tb t hinj f).1 $$ [Hh HM]
  · isplitl [Hh]; · iexact Hh
    iexact HM
  imod (Transfers.batch_alloc' (Lvl := ℕ) (countersEmb (U := Pipeline.UD sig nD τ)) (c : Thread nD τ) (n := 1024) () N (sendAt c m g tb t f')
    (sm := SemLoc.dma cc0_scratch0.sem) (E := Set.univ)) $$ HS with HB
  unfold cc0_moe_dispatch_skel
  sl_for (fun k _ => tripInv c m g tb t q f f' k) $$ [HB HD HT]
  · intro k a
    exact trip c m g tb t 𝒱 none i hi hm hd q f f' hf k a
  · unfold tripInv
    rw [Nat.mul_zero, Ring.rangeSet_univ]
    isplitl [HB]; · iexact HB
    isplitl [HD]; · iexact HD
    iexact HT
  iintro %a HI
  unfold tripInv
  rw [show Scf.trips k0_t1_loop.lb k0_t1_loop.ub k0_t1_loop.st = 512 from trips_eq]
  icases HI with ⟨HB, -, HT⟩
  unfold point.sl.prog.cont_1
  simp only [Prog.lift, Prog.bind_op, Prog.bind_ret, Prog.pure_eq_ret]
  iapply (Transfers.wp_waitBatchMul (countersEmb (U := Pipeline.UD sig nD τ)) 𝒱 (c : Thread nD τ) none (n := 1024) () (N := N) 512 wait_credit
    (D := sendAt c m g tb t f') (j := 2 * 512) (u := 0) (by omega) (W := W)) $$ [HB HO]
  · isplitl [HB]; · iexact HB
    iexact HO
  iintro ⟨HB, HO⟩
  iapply (Transfers.wp_waitBatchAll (countersEmb (U := Pipeline.UD sig nD τ)) 𝒱 (c : Thread nD τ) none (n := 1024) () (N := N) (J := 512 * N) wait_credit N_pos
    (D := sendAt c m g tb t f') (u := 0 + 512 * N) (by omega)) $$ [HB HO]
  · isplitl [HB]; · iexact HB
    iexact HO
  iintro ⟨HD, HS, HO⟩
  sl_step
  ihave HD' := (sends_split c m g tb t hinj f').2 $$ HD
  icases HD' with ⟨Hh, HM⟩
  isplitl [Hh Hr]
  · ihave H := (pointsTo_join_subset (Finset.subset_univ (hit c tb t))) $$ [Hh Hr]
    · isplitl [Hh]; · iexact Hh
      iexact Hr
    iapply (Entails.of_eq (pointsTo_congr fun y _ => ?_)) $$ H
    by_cases hy : y ∈ hit c tb t
    · rw [Finset.piecewise_eq_of_mem _ _ _ hy, h1 y hy]
    · rw [Finset.piecewise_eq_of_notMem _ _ _ hy, h2 y hy]
  isplitl [HM]; · iexact HM
  isplitl [HT]; · iexact HT
  isplitl [HS]; · iexact HS
  iexists _; iexact HO

end

end Cert.Dispatch
-- ==== Proof.Dispatch.Run.lean ====
/- The dispatch run whole: the pipeline's data, its body at every grid point, and the run of the program. -/
module

public import proofs.«01_k».proof.Proof.Dispatch.Body

@[expose] public section

set_option maxRecDepth 16384

noncomputable section

namespace Cert.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values

variable (tb : main_arg0.ty.Contents (Elt F)) (h3 : main_arg1.ty.Contents (Elt F))

/-- Where assignment `a` is sent, out of the table. -/
def place (a : Fin 131072) : ℕ := (tb (tix a) : BitVec 32).toNat

/-- The assignments are sent inside the buffer and no two to one row. -/
structure Apart : Prop where
  /-- every row sent to is a row of the buffer -/
  lt : ∀ a, place tb a < 147456
  /-- no two assignments are sent to one row -/
  inj : ∀ a a', place tb a = place tb a' → a = a'

/-- The token assignment `a` belongs to: two assignments a token. -/
def tok (a : Fin 131072) : Fin 65536 := ⟨a.val / 2, by omega⟩

/-- The buffer once every assignment below `1024 * n` is sent: its row at the assignment's place, zero elsewhere. -/
def sent (n : ℕ) : main_v0.ty.Contents (Elt F) := fun y =>
  haveI := Classical.dec (∃ a : Fin 131072, a.val < 1024 * n ∧ (y 0 : Fin 147456).val = place tb a)
  if h : ∃ a : Fin 131072, a.val < 1024 * n ∧ (y 0 : Fin 147456).val = place tb a then h3 (hix (tok (Classical.choose h)) (y 2)) else (0#32 : BitVec 32)

variable {tb}

/-- A row an assignment below the bound is sent to holds the assignment's row. -/
theorem sent_hit (hA : Apart tb) (n : ℕ) (y : S147456x1x512.Idx) (a : Fin 131072) (ha : a.val < 1024 * n) (hy : (y 0).val = place tb a) :
    sent tb h3 n y = h3 (hix (tok a) (y 2)) := by
  have h : ∃ a : Fin 131072, a.val < 1024 * n ∧ (y 0 : Fin 147456).val = place tb a := ⟨a, ha, hy⟩
  unfold sent
  rw [dif_pos h, hA.inj _ a ((Classical.choose_spec h).2.symm.trans hy)]

/-- A row no assignment below the bound is sent to holds zero. -/
theorem sent_miss (n : ℕ) (y : S147456x1x512.Idx) (h : ∀ a : Fin 131072, a.val < 1024 * n → (y 0).val ≠ place tb a) :
    sent tb h3 n y = (0#32 : BitVec 32) := by
  unfold sent
  exact dif_neg fun ⟨a, ha, hy⟩ => h a ha hy

/-- The staged block of a grid point: its 512 rows of the array of rows to send. -/
def staged (t : Fin 128) : S512x1x512.Idx → Elt F .i32 := fun y => h3 (hix ⟨512 * t.val + (y 0).val, by have : (y 0).val < 512 := (y 0).isLt; omega⟩ (y 2))

end Values

section Launch

variable (m : (ℓ : Loc nD τ sig) → Buf (Elt F) ℓ)

/-- The buffers when the region is entered. -/
def V (c : Dev nD) (b : Ref sig .tc) : Buf (Elt F) ((c.tc : Thread nD τ).loc b) := StableHlo.after hostOps0 (fun b => m (c, b)) b

/-- The launch contents of the table and of the rows to send. -/
abbrev tbl (c : Dev nD) : main_arg0.ty.Contents (Elt F) := m ((c : Thread nD τ).loc main_arg0)
/-- The packed rows at launch. -/
abbrev rows (c : Dev nD) : main_arg1.ty.Contents (Elt F) := m ((c : Thread nD τ).loc main_arg1)

/-- The table is as launched. -/
theorem V_arg0 (c : Dev nD) : V m c main_arg0 = tbl m c := rfl
/-- The rows are as launched. -/
theorem V_arg1 (c : Dev nD) : V m c main_arg1 = rows m c := rfl
/-- The buffer starts at zeros. -/
theorem V_v0 (c : Dev nD) : V m c main_v0 = sent (tbl m c) (rows m c) 0 := by
  funext y
  rw [sent_miss _ 0 y (fun a ha => absurd ha (by omega))]
  rfl

/-- The table's contents as the pipeline takes them. -/
def pf : pre0.Contents (Elt F) := fun j => V m (0 : Dev nD) (pre0.ref j)
/-- The prefetched table is the table. -/
theorem V_pre (c : Dev nD) (j : Fin 1) : V m c (pre0.ref j) = pf m j := by
  obtain rfl : c = 0 := Subsingleton.elim _ _; rfl
/-- No index map reads the table, so any contents are admissible. -/
abbrev adm : (p : Fin 1) → (pcfgs (F := F) p).Adm := fun _ => ⟨pf m, trivial⟩

/-- The buffers after `n` grid points: the buffer sent to filled so far, the others as at entry. -/
def G (n : ℕ) (c : Dev nD) : (b : Ref sig .tc) → Buf (Elt F) ((c.tc : Thread nD τ).loc b) :=
  Function.update (V m c) main_v0 (sent (tbl m c) (rows m c) n)
/-- The buffer after `n` blocks. -/
theorem G_v0 (n : ℕ) (c : Dev nD) : G m n c main_v0 = sent (tbl m c) (rows m c) n := Function.update_self ..
/-- Before the first block nothing has changed. -/
theorem G_zero : G m 0 = V m := by
  funext c; unfold G; rw [← V_v0]; exact Function.update_eq_self ..

/-- The kernel's one semaphore of its own. -/
def osem : Unit → SemLoc sig := fun _ => SemLoc.dma cc0_scratch0.sem

/-- That semaphore is a scoped one and none of the window's. -/
theorem ownFacts : Pipeline.OwnSemFacts spec0 osem := by decide

/-- The buffer sent to is neither the window's array nor the table. -/
theorem written_rest : {main_v0} ⊆ Pipeline.restRefsP sig pre0 spec0 \ ∅ := by decide

/-- The table is read only. -/
theorem table_rest : main_arg0 ∈ Pipeline.restRefs sig spec0 \ {main_v0} := by decide

/-- What the body holds before grid point `n`. -/
def Inv (c : Dev nD) (n : ℕ) : sProp 𝕄 :=
  iprop(Pipeline.ΦDRG osem spec0 ∅ {main_v0} (V m) (G m n) c ∗ Pipeline.ΦT pre0 (pf m) c)

/-- The pipeline's data: the rows' array at its launch contents, the staged block at each point, the buffer sent to in the invariant. -/
def dats (p : Fin 1) (c : Dev nD) : Pipeline.Dat τ (Elt F) Unit ℕ (Pipeline.UD sig nD τ) ℕ (Pipeline.pin (pcfgs (F := F)) (adm m) p) c where
  A w := V m c (Pipeline.arrRef spec0 w)
  after := fun | 0 => fun t => staged (rows m c) (t.cast N_0) | ⟨_ + 1, h⟩ => absurd h (Nat.not_lt.2 (Nat.le_add_left _ _))
  Φ t := Inv m c t.val
  q _ := fullShare
  owed _ := 0

/-- The invariant spelled out. -/
theorem Inv_eq (c : Dev nD) (n : ℕ) : Inv m c n
    = iprop((emp ∗ (∃ r, prngReg c r) ∗ semVal ((c : Thread nD τ), SemLoc.dma cc0_scratch0.sem) 0 ∗ emp
        ∗ ((Memref.whole main_v0).view.loc (c : Thread nD τ) ↦{fullShare} sent (tbl m c) (rows m c) n)) ∗ tableAt c (tbl m c) fullShare.right) := by
  obtain rfl : c = 0 := Subsingleton.elim _ _
  unfold Inv
  rw [Pipeline.ΦDRG_eq, scopedRest0_eq, Pipeline.routed_singleton, G_v0, bigSep_empty]
  unfold Pipeline.ownSems0 Pipeline.ΦT Pipeline.prefHeld
  rw [show (Finset.univ : Finset Unit) = {()} from rfl, bigSep_singleton, show (Finset.univ : Finset (Fin 1)) = {(0 : Fin 1)} from by decide, bigSep_singleton]
  rfl

/-- The grid coordinate of a point is the point. -/
theorem coord_eq (t : Fin grid0.N) : (grid0.coords t 0).val = t.val := by
  have h : t.val < 128 := t.isLt.trans_eq N_0
  rw [Pipeline.Grid.coords_val t 0 (S := 1) (B := 128) (by decide) rfl]
  omega

/-- The block fetched at a point is the staged block. -/
theorem block_eq (c : Dev nD) (t : Fin grid0.N) : (dats m 0 c).blockOf 0 t = staged (rows m c) (t.cast N_0) := by
  funext (y : S512x1x512.Idx)
  have h : t.val < 128 := t.isLt.trans_eq N_0
  show rows m c _ = rows m c _
  refine congrArg (rows m c) ?_
  funext a; apply Fin.ext
  fin_cases a
  · show cc0_transform_0 (grid0.coords t) 0 * 512 + 1 * (y 0).val = 512 * t.val + (y 0).val
    rw [show cc0_transform_0 (grid0.coords t) 0 = (BitVec.ofNat 32 (grid0.coords t 0).val).toNat from rfl, coord_eq, BitVec.toNat_ofNat]
    omega
  · exact congrArg Fin.val (Subsingleton.elim (α := Fin 1) _ _)
  · show 0 * 512 + 1 * (y 2).val = (y 2).val
    omega

/-- The window's buffer holds the staged block when the body runs. -/
theorem before_eq (c : Dev nD) (t : Fin grid0.N) (d) : (dats m 0 c).before 0 t d = staged (rows m c) (t.cast N_0) := by
  rw [Pipeline.Dat.before_in_eq_fetched (dats m 0 c) 0 rfl (fun _ => rfl) (fun _ _ _ => rfl) (fun t => (block_eq m c t).symm) t d, ← block_eq m c t]
  rfl

/-- The `j`th send of point `t` is the assignment `1024 * t + j`. -/
theorem dst_eq (tb : main_arg0.ty.Contents (Elt F)) (t : Fin 128) (j : Fin 1024) : dst tb t j = place tb ⟨1024 * t.val + j.val, by omega⟩ := rfl

/-- The body at one grid point, the buffer sent to going from what `t` points sent to what `t + 1` points sent. -/
theorem body_at (c : Dev nD) (hA : Apart (tbl m c)) (t : Fin grid0.N) (M : Memref sig .tc .vmem S512x1x512 .i32) (hM : M.IsWhole)
    (g : M.view.ty.Contents (Elt F)) (hg : M.view.read (Elt F) g = staged (rows m c) (t.cast N_0)) (W : Waits sig Unit) :
    iprop(Inv m c t.val ∗ (M.view.loc (c : Thread nD τ) ↦[M.view.set]{fullShare} g) ∗ owes (c : Thread nD τ) 0 W)
      ⊢ wp (M := 𝕄) frame (wpE (defs₀ (F := F)) Variants.none (c : Thread nD τ) none) Set.univ
        (cc0_moe_dispatch (F := F) (grid0.coords t) (Memref.whole main_arg0) (Memref.isWhole_whole _) M hM (Memref.whole main_v0) (Memref.isWhole_whole _) (Memref.whole main_v0) (Memref.isWhole_whole _) cc0_scratch0)
        (fun _ => iprop(Inv m c (t.val + 1) ∗ (M.view.loc (c : Thread nD τ) ↦[M.view.set]{fullShare} g) ∗ ∃ W', owes (c : Thread nD τ) 0 W')) := by
  have h : t.val < 128 := t.isLt.trans_eq N_0
  have hlt : ∀ j, dst (tbl m c) (t.cast N_0) j < 147456 := fun j => hA.lt _
  have P := point c M g (tbl m c) (t.cast N_0) Variants.none (grid0.coords t) (coord_eq t) hM hlt
    (fun j j' e => by
      have := congrArg Fin.val (hA.inj _ _ ((dst_eq _ _ _).symm.trans (e.trans (dst_eq _ _ _))))
      apply Fin.ext; simpa using this)
    fullShare.right (sent (tbl m c) (rows m c) t.val) (sent (tbl m c) (rows m c) (t.val + 1)) (sent (tbl m c) (rows m c) (t.val + 1))
    (fun j l => by
      have ha : 1024 * (t.cast N_0).val + j.val < 131072 := by show 1024 * t.val + j.val < _; omega
      rw [hg, sent_hit _ hA (t.val + 1) _ ⟨1024 * (t.cast N_0).val + j.val, ha⟩ (by show 1024 * t.val + j.val < _; omega) rfl]
      refine congrArg (rows m c) ?_
      show hix _ _ = hix _ _
      congr 1
      apply Fin.ext
      show (1024 * t.val + j.val) / 2 = 512 * t.val + j.val / 2
      omega)
    (fun y _ => rfl)
    (fun y hy => by
      by_cases hx : ∃ a : Fin 131072, a.val < 1024 * t.val ∧ ((y : S147456x1x512.Idx) 0).val = place (tbl m c) a
      · obtain ⟨a, ha, e⟩ := hx
        rw [sent_hit _ hA (t.val + 1) _ a (by omega) e, sent_hit _ hA t.val _ a ha e]
      · rw [sent_miss, sent_miss]
        · intro a ha e; exact hx ⟨a, ha, e⟩
        · intro a ha e
          by_cases hh : a.val < 1024 * t.val
          · exact hx ⟨a, hh, e⟩
          · refine hy ((mem_hit c (tbl m c) (t.cast N_0) y).2 ⟨⟨a.val - 1024 * t.val, by omega⟩, ?_⟩)
            rw [e, dst_eq]
            congr 1
            apply Fin.ext
            show a.val = 1024 * t.val + (a.val - 1024 * t.val)
            omega)
    W
  rw [Inv_eq, Inv_eq]
  iintro ⟨⟨⟨-, HP, HS, -, HV⟩, HT⟩, HM, HO⟩
  ihave Hw := P $$ [HV HM HT HS HO]
  · isplitl [HV]; · iexact HV
    isplitl [HM]; · iexact HM
    isplitl [HT]; · iexact HT
    isplitl [HS]; · iexact HS
    iexact HO
  iapply (wp_wand _ _ _) $$ Hw
  iintro %a ⟨HV, HM, HT, HS, HO⟩
  isplitl [HV HP HT HS]
  · isplitr [HT]
    · isplitr; · iempintro
      isplitl [HP]; · iexact HP
      isplitl [HS]; · iexact HS
      isplitr; · iempintro
      iexact HV
    · iexact HT
  isplitl [HM]; · iexact HM
  iexact HO

/-- The body at every grid point. -/
theorem body (hA : ∀ c, Apart (tbl m c)) (c : Dev nD) :
    Pipeline.BodyObligationLoose (dats m 0 c) (defs₀ (F := F)) Variants.none () Set.univ := by
  intro t
  rw [bigSep_W0, bigSep_W0]
  show iprop(Inv m c t.val ∗ Pipeline.owesWithin c 0 _ ∗ ∃ d, owns (c : Thread nD τ) (spec0_0.stage ((Pipeline.pin (pcfgs (F := F)) (adm m) 0).slots t 0)) fullShare ((dats m 0 c).before 0 t d))
    ⊢ wp frame (wpE (defs₀ (F := F)) Variants.none (c : Thread nD τ) none) Set.univ
        (cc0_moe_dispatch (F := F) (grid0.coords t) (Memref.whole main_arg0) (Memref.isWhole_whole _) (spec0_0.stage ((Pipeline.pin (pcfgs (F := F)) (adm m) 0).slots t 0)) (hstage0_0 (((Pipeline.pin (pcfgs (F := F)) (adm m) 0).slots t 0).cast nbuf0_0)) (Memref.whole main_v0) (Memref.isWhole_whole _) (Memref.whole main_v0) (Memref.isWhole_whole _) cc0_scratch0)
        fun _ => iprop(Inv m c (t.val + 1) ∗ Pipeline.owesWithin c 0 _ ∗ owns (c : Thread nD τ) (spec0_0.stage ((Pipeline.pin (pcfgs (F := F)) (adm m) 0).slots t 0)) fullShare (staged (rows m c) (t.cast N_0)))
  iintro ⟨HI, ⟨%W, -, HO⟩, %d, HM⟩
  rw [before_eq]
  unfold owns
  icases HM with ⟨%g, %hg, HM⟩
  ihave Hw := (body_at m c (hA c) t _ (hstage0_0 (((Pipeline.pin (pcfgs (F := F)) (adm m) 0).slots t 0).cast nbuf0_0)) g hg _) $$ [HI HM HO]
  · isplitl [HI]; · iexact HI
    isplitl [HM]; · iexact HM
    iexact HO
  iapply (wp_wand _ _ _) $$ Hw
  iintro %a ⟨HI, HM, %W', HO⟩
  isplitl [HI]; · iexact HI
  isplitl [HO]
  · iexists W'
    isplitr; · ipureintro; exact fun _ _ => Or.inl trivial
    iexact HO
  iexists g
  isplitr; · ipureintro; exact hg
  iexact HM

/-- The run: from any launch whose table sends the assignments apart, every semaphore ends at zero, the arguments end unchanged, and the
    buffer sent to holds each assignment's row at its place and zero elsewhere. -/
theorem run (hA : ∀ c, Apart (tbl m c)) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v0) = sent (tbl m c) (rows m c) 128)
      ∧ r.2.sem = fun _ => 0) := by
  refine Pipeline.θ_run_frameP_dmaRG (Q' := _) (pcfgs (F := F)) (adm m) (dats m) 0 launch0 osem defs₀ Variants.none
    ownFacts ∅ {main_v0} (Finset.empty_subset _) written_rest m ρ main
    (body m hA) (fun c w => (dats m 0 c).share_full (fun _ => rfl) w) (fun _ _ => rfl) (V m)
    (Pipeline.hmainP_prefix (pcfgs (F := F)) 0 defs₀ Variants.none m main hostOps0 hostOps0_sub ⟨rfl, rfl⟩ main_chain)
    (fun _ _ => rfl) (V_pre m) (G m 128) ?_ ?_ ?_
  · intro c
    show _ ⊢ Inv m c 0
    unfold Inv
    rw [G_zero]
  · intro c
    show Inv m c grid0.N ⊢ _
    rw [N_0]
    exact sep_elim_left
  · intro r h
    refine ⟨fun c => ⟨?_, ?_, ?_⟩, h.2⟩
    · exact (h.1.toR c).2 main_arg0 table_rest
    · have e := (h.1.toR c).1 0
      rw [Pipeline.Dat.arrAt_in _ _ rfl] at e
      exact e
    · exact (h.1.written c (Finset.mem_singleton_self _)).trans (G_v0 m 128 c)

end Launch

end Cert.Dispatch
-- ==== Proof.Dispatch.Reference.lean ====
/- The dispatch's reference: the scatter it is stated with leaves what the kernel leaves, and what its precondition says of the table. -/
module

public import proofs.«01_k».proof.Proof.Dispatch.Run
public import proofs.«01_k».proof.Proof.Gen.ReferenceIdeal.Run
public import proofs.«01_k».proof.Proof.Gen.Pre_sends_apart
public import Idealize.ShloMosaic.Lib.Routing.OpsSet
public import Idealize.ShloMosaic.Lib.StableHlo.Predicate
public import Idealize.ShloMosaic.Lib.WordCmp
public import Idealize.ShloMosaic.Lib.Quiescent

@[expose] public section

set_option maxRecDepth 16384

noncomputable section

namespace Cert.Dispatch

open Idealize.ShloMosaic Idealize.ShloMosaic.TcCoe Idealize.ShloMosaic.ValueIdx

variable {F : FTy → Type} [FloatOps F]

section Reference

open Cert.ReferenceIdeal Cert.ReferenceIdeal.Gen

/-- The scatter's dimension numbers. -/
abbrev sd : ScatterDims S147456x1x512 S131072x1 S131072x1x512 := scatter_S147456x1x512_S131072x1_S131072x1x512_12_0_0_1

/-- The update of assignment `a` at lane `l` lands in the row its index word names, at that lane. -/
theorem lands (idx : IVec S131072x1 32) (a : Fin 131072) (l : Fin 512) (n : Fin 147456) (h : (idx (ix2 a (0 : Fin 1))).toInt = (n.val : Int)) :
    sd.resultIdx? (ix3 a (0 : Fin 1) l) idx = some (ix3 n (0 : Fin 1) l) := by
  have w0 : sd.window (ix3 a (0 : Fin 1) l) 0 = 0 := rfl
  have w1 : sd.window (ix3 a (0 : Fin 1) l) 1 = 0 := rfl
  have w2 : sd.window (ix3 a (0 : Fin 1) l) 2 = l.val := rfl
  have s0 : sd.start (ix3 a (0 : Fin 1) l) idx 0 = (n.val : Int) := by
    rw [← h]
    show (idx _).toInt = _
    refine congrArg (fun z => (idx z).toInt) ?_
    funext b; apply Fin.ext
    fin_cases b
    · rfl
    · rfl
  have s1 : sd.start (ix3 a (0 : Fin 1) l) idx 1 = 0 := rfl
  have s2 : sd.start (ix3 a (0 : Fin 1) l) idx 2 = 0 := rfl
  have hall : ∀ b, 0 ≤ sd.start (ix3 a (0 : Fin 1) l) idx b + sd.window (ix3 a (0 : Fin 1) l) b
      ∧ sd.start (ix3 a (0 : Fin 1) l) idx b + sd.window (ix3 a (0 : Fin 1) l) b < S147456x1x512.size b := by
    have hn := n.isLt
    have hl := l.isLt
    intro b
    match b with
    | ⟨0, _⟩ => show 0 ≤ sd.start _ idx 0 + sd.window _ 0 ∧ sd.start _ idx 0 + sd.window _ 0 < (147456 : ℕ); rw [s0, w0]; omega
    | ⟨1, _⟩ => show 0 ≤ sd.start (ix3 a (0 : Fin 1) l) idx 1 + sd.window (ix3 a (0 : Fin 1) l) 1 ∧ sd.start (ix3 a (0 : Fin 1) l) idx 1 + sd.window (ix3 a (0 : Fin 1) l) 1 < (1 : ℕ); rw [s1, w1]; omega
    | ⟨2, _⟩ => show 0 ≤ sd.start _ idx 2 + sd.window _ 2 ∧ sd.start _ idx 2 + sd.window _ 2 < (512 : ℕ); rw [s2, w2]; omega
  unfold ScatterDims.resultIdx?
  rw [dif_pos hall]
  refine congrArg some (funext fun b => Fin.ext ?_)
  match b with
  | ⟨0, _⟩ => show (sd.start (ix3 a (0 : Fin 1) l) idx 0 + sd.window (ix3 a (0 : Fin 1) l) 0).toNat = n.val; rw [s0, w0]; omega
  | ⟨1, _⟩ => show (sd.start (ix3 a (0 : Fin 1) l) idx 1 + sd.window (ix3 a (0 : Fin 1) l) 1).toNat = 0; rw [s1, w1]; rfl
  | ⟨2, _⟩ => show (sd.start (ix3 a (0 : Fin 1) l) idx 2 + sd.window (ix3 a (0 : Fin 1) l) 2).toNat = l.val; rw [s2, w2]; omega

/-- The index words the reference scatters by: the table, a negative word taken from the end. -/
def words (tb : IVec S131072 32) : IVec S131072x1 32 :=
  broadcastInDim S131072x1 ![0] bcast_S131072_S131072x1_0 (select (cmpi .slt tb (broadcastInDim S131072 ![] bcast_S_S131072 (constantI S_ 32 0#32))) (addi tb (broadcastInDim S131072 ![] bcast_S_S131072 (constantI S_ 32 147456#32))) tb)

/-- The rows the reference scatters: each row twice. -/
def twice (h3 : IVec S65536x1x512 32) : IVec S131072x1x512 32 :=
  shapeCast S131072x1x512 (broadcastInDim S65536x2x1x512 ![0, 2, 3] bcast_S65536x1x512_S65536x2x1x512_0_2_3 h3) shapeCasts_S65536x2x1x512_S131072x1x512

/-- The column of index words at a row is the vector at that entry. -/
theorem column_apply (x : IVec S131072 32) (a : Fin 131072) : broadcastInDim S131072x1 ![0] bcast_S131072_S131072x1_0 x (ix2 a (0 : Fin 1)) = x (ix1 a) := by
  refine congrArg x ?_
  funext b
  obtain rfl : b = 0 := Subsingleton.elim _ _
  rfl

/-- Taking a negative word from the end leaves a word that isn't negative. -/
theorem select_apply (x u v : IVec S131072 32) (y : S131072.Idx) (hu : u y = 0#32) (h : (x y).toNat < 147456) : (select (cmpi .slt x u) v x) y = x y := by
  have hn : ¬ (x y).toInt < 0 := by rw [BitVec.toInt_eq_toNat_of_lt (by omega)]; omega
  have hc : (x y).slt (u y) = false := by rw [hu]; simpa [BitVec.slt] using hn
  simp only [select, cmpi, IntOp.cmpi, hc]
  rfl

/-- A word naming a row of the buffer is its row, read signed. -/
theorem words_apply (tb : IVec S131072 32) (a : Fin 131072) (h : (tb (ix1 a)).toNat < 147456) :
    (words tb (ix2 a (0 : Fin 1))).toInt = ((tb (ix1 a)).toNat : Int) := by
  unfold words
  rw [column_apply, select_apply _ _ _ _ (by rfl) h, BitVec.toInt_eq_toNat_of_lt (by omega)]

/-- Assignment `a`'s row is its token's. -/
theorem twice_apply (h3 : IVec S65536x1x512 32) (a : Fin 131072) (l : Fin 512) : twice h3 (ix3 a (0 : Fin 1) l) = h3 (ix3 (tok a) (0 : Fin 1) l) := by
  have ha := a.isLt
  unfold twice
  rw [shapeCast_apply _ _ (ix3 a (0 : Fin 1) l) (ix4 (tok a) (⟨a.val % 2, by omega⟩ : Fin 2) (0 : Fin 1) l) (by
    rw [Shape.rowMajor_val_three, Shape.rowMajor_val_four]
    show ((a.val / 2 * 2 + a.val % 2) * 1 + 0) * 512 + l.val = (a.val * 1 + 0) * 512 + l.val
    omega)]
  refine congrArg h3 ?_
  funext b; apply Fin.ext
  fin_cases b
  · rfl
  · rfl
  · rfl

/-- Every index of the scattered rows is an assignment and a lane. -/
theorem kix_eta (k : S131072x1x512.Idx) : k = ix3 (k 0 : Fin 131072) (0 : Fin 1) (k 2 : Fin 512) := by
  funext a; fin_cases a
  · rfl
  · exact Subsingleton.elim (α := Fin 1) _ _
  · rfl

/-- The reference's scatter leaves what the kernel leaves. -/
theorem scatter_eq (tb : IVec S131072 32) (h3 : IVec S65536x1x512 32) (hA : Apart (F := F) tb) :
    Host.scatter sd (fun _ b => b) (broadcastInDim S147456x1x512 ![] bcast_S_S147456x1x512 (constantI S_ 32 0#32)) (words tb) (twice h3) = sent (F := F) tb h3 128 := by
  have hl : ∀ k : S131072x1x512.Idx, sd.resultIdx? k (words tb) = some (ix3 (⟨place (F := F) tb (k 0), hA.lt _⟩ : Fin 147456) (0 : Fin 1) (k 2)) := by
    intro k
    have e := lands (words tb) (k 0) (k 2) ⟨place (F := F) tb (k 0), hA.lt _⟩ (words_apply tb _ (hA.lt _))
    exact (congrArg (fun z => sd.resultIdx? z (words tb)) (kix_eta k)).trans e
  funext y
  by_cases h : ∃ a : Fin 131072, (y 0 : Fin 147456).val = place (F := F) tb a
  · obtain ⟨a, ha⟩ := h
    rw [sent_hit (F := F) h3 hA 128 y a (by omega) ha]
    have hland : ∀ k, sd.resultIdx? k (words tb) = some y → k = ix3 a (0 : Fin 1) (y 2) := by
      intro k hk
      rw [hl k] at hk
      have hk := Option.some.inj hk
      have h0 := congrArg Fin.val (congrFun hk 0)
      have h2 := congrFun hk 2
      have : (k 0 : Fin 131072) = a := hA.inj _ _ (h0.trans ha)
      refine (kix_eta k).trans ?_
      rw [this]
      exact congrArg (ix3 a (0 : Fin 1)) h2
    refine Routing.scatter_set_hit sd _ (words tb) (twice h3) y _ (fun k hk => ?_) (ix3 a (0 : Fin 1) (y 2)) ?_
    · rw [hland k hk]; exact twice_apply h3 a (y 2)
    · rw [hl]
      refine congrArg some (Eq.trans ?_ (bix_eta y).symm)
      show ix3 _ _ _ = ix3 _ _ _
      congr 1
      exact Fin.ext ha.symm
  · rw [sent_miss (F := F) h3 128 y (fun a _ e => h ⟨a, e⟩), Routing.scatter_set_miss sd _ (words tb) (twice h3) y (fun k hk => ?_)]
    · rfl
    · rw [hl k] at hk
      exact h ⟨k 0, (congrArg Fin.val (congrFun (Option.some.inj hk) 0)).symm⟩

/-- The reference's run: its arguments unchanged, its result what the kernel leaves, every counter at zero. -/
theorem run_reference (m : (ℓ : Loc nD τ sig) → Buf (Elt F) ℓ) (hA : ∀ c : Dev nD, Apart (F := F) (m ((c.tc : Thread nD τ).loc main_arg0))) (ρ : Dev nD → PrngReg) :
    θ_run (defs (F := F)) (onTc (τ := τ) (main (F := F))) ⟨m, fun _ => 0, ρ⟩ (fun r =>
      (∀ c : Dev nD, r.2.mem ((c.tc : Thread nD τ).loc main_v9) = sent (F := F) (m ((c.tc : Thread nD τ).loc main_arg0)) (m ((c.tc : Thread nD τ).loc main_arg1)) 128
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => ⟨(h c).1.trans (scatter_eq _ _ (hA c)), (h c).2⟩, sem_eq_zero_of_no_sems rfl r.2⟩) (Cert.ReferenceIdeal.Value.run m ρ)

end Reference

section Pre

open Cert.Pre_sends_apart Cert.Pre_sends_apart.Gen

/-- The precondition, its vector of assignments by row left unnamed. -/
theorem fn_eq (tb : IVec S131072 32) (h3 : IVec S65536x1x512 32) : ∃ x : IVec S147456 32,
    Cert.Pre_sends_apart.fn (F := F) tb h3 = andi (andi (cmpi .sge tb (fun _ => 0#32)) (cmpi .slt tb (fun _ => 147456#32)))
      (cmpi .eq (Host.gather gather_S147456_S131072x1_S131072_n_0_n_n_0_1_1 x (broadcastInDim S131072x1 ![0] Facts.bcast_S131072_S131072x1_0 tb)) (iotaInDim S131072 32 0)) :=
  ⟨_, rfl⟩

/-- The precondition says that the table sends the assignments inside the buffer and apart. -/
theorem apart_of_pre (tb : IVec S131072 32) (h3 : IVec S65536x1x512 32) (h : Cert.Pre_sends_apart.fn (F := F) tb h3 = fun _ => 1#1) : Apart (F := F) tb := by
  obtain ⟨x, hx⟩ := fn_eq (F := F) tb h3
  rw [hx] at h
  have key : ∀ a : Fin 131072, (tb (ix1 a)).toNat < 147456
      ∧ Host.gather gather_S147456_S131072x1_S131072_n_0_n_n_0_1_1 x (broadcastInDim S131072x1 ![0] Facts.bcast_S131072_S131072x1_0 tb) (ix1 a) = BitVec.ofNat 32 a.val := by
    intro a
    have e := congrFun h (ix1 a)
    simp only [Idealize.ShloMosaic.andi, cmpi, IntOp.cmpi, WordCmp.andi_ofBool, StableHlo.Predicate.ofBool_eq_one_iff, Bool.and_eq_true] at e
    obtain ⟨⟨e0, e1⟩, e2⟩ := e
    refine ⟨?_, ?_⟩
    · simp only [BitVec.sle, BitVec.slt, decide_eq_true_eq, BitVec.toInt, BitVec.toNat_ofNat] at e0 e1
      omega
    · exact eq_of_beq e2
  have hg : ∀ a : Fin 131072, x (ix1 (⟨(tb (ix1 a)).toNat, (key a).1⟩ : Fin 147456)) = BitVec.ofNat 32 a.val := by
    intro a
    refine Eq.trans ?_ (key a).2
    refine (Routing.gather_take1 _ rfl rfl rfl rfl x _ a _ ?_ (by decide)).symm
    refine Eq.trans ?_ (show tb (ix1 a) = BitVec.ofNat 32 (tb (ix1 a)).toNat by rw [BitVec.ofNat_toNat, BitVec.setWidth_eq])
    exact column_apply tb a
  refine ⟨fun a => (key a).1, fun a a' e => ?_⟩
  have e1 := hg a
  have e2 := hg a'
  have : (⟨(tb (ix1 a)).toNat, (key a).1⟩ : Fin 147456) = ⟨(tb (ix1 a')).toNat, (key a').1⟩ := Fin.ext e
  rw [this, e2] at e1
  have := congrArg BitVec.toNat e1
  have ha := a.isLt
  have ha' := a'.isLt
  simp only [BitVec.toNat_ofNat] at this
  apply Fin.ext
  omega

end Pre

end Cert.Dispatch
-- ==== Proof.Dispatch.Same.lean ====
/- The kernel and its ideal program have one text: their definitions are equal at any floats. -/
module

public import proofs.«01_k».proof.Proof.Gen.Kernel
public import proofs.«01_k».proof.Proof.Gen.KernelIdeal

@[expose] public section

set_option maxRecDepth 10000
set_option maxHeartbeats 400000

namespace Cert.Dispatch

open Idealize.ShloMosaic Idealize.ShloMosaic.TcCoe

variable {F : FTy → Type} [FloatOps F]

/-- The bodies are equal. -/
theorem same_body : @Cert.Kernel.cc0_moe_dispatch F _ = @Cert.KernelIdeal.cc0_moe_dispatch F _ := by
  unfold Cert.Kernel.cc0_moe_dispatch Cert.KernelIdeal.cc0_moe_dispatch
  rfl

/-- The body tables are equal. -/
theorem same_table : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact congrFun (congrFun (congrFun (congrFun (congrFun (congrFun (congrFun (congrFun (congrFun (congrFun same_body _) _) _) _) _) _) _) _) _) _
  | ⟨n + 1, h⟩, _ => exact absurd h (by omega)

/-- The programs' definitions are equal. -/
theorem same_defs : Cert.Kernel.defs (F := F) = Cert.KernelIdeal.defs (F := F) := congrArg (Pipeline.defs Cert.KernelIdeal.pcfgs) same_table

/-- What the ideal program's text does from a state, the kernel's does. -/
theorem same_run (s : MemSt Cert.Kernel.nD Cert.Kernel.τ Cert.Kernel.sig (Elt F)) (Q : _ → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [same_defs]
  exact h

end Cert.Dispatch
-- ==== Proof.Project.Weights.lean ====
/-
  The projection's weights as its kernel is given them: before the kernel starts, the program lays the columns of the
  argument `w_in` in another order, puts 96 columns of zeros behind them, and narrows the result. Over the extended reals
  the narrowing changes nothing, so what the kernel reads is `orderedWeight w_in`.
-/
module

public import proofs.«01_k».proof.Proof.Gen.Kernel2Ideal.Value
public import Idealize.ShloMosaic.Lib.Pointwise

@[expose] public section

set_option maxRecDepth 16384

noncomputable section

namespace Cert.Project

open Cert.Kernel2Ideal Cert.Kernel2Ideal.Gen Idealize.ShloMosaic Idealize.ShloMosaic.TcCoe Idealize.SL.Sem

/-- The columns of the weights in the order of the result's columns, 96 columns of zeros behind them. -/
def orderedWeight (w : Vec Ideal S1024x4896 .f32) : Vec Ideal S1024x4992 .f32 :=
  concatenate S1024x4992 1
   [⟨S1024x1536, extractStridedSlice S1024x1536 ![0, 0] w slices_S1024x4896_S1024x1536_0_0⟩,
    ⟨S1024x1536, extractStridedSlice S1024x1536 ![0, 2840] w slices_S1024x4896_S1024x1536_0_2840⟩,
    ⟨S1024x512, extractStridedSlice S1024x512 ![0, 1536] w slices_S1024x4896_S1024x512_0_1536⟩,
    ⟨S1024x512, extractStridedSlice S1024x512 ![0, 4376] w slices_S1024x4896_S1024x512_0_4376⟩,
    ⟨S1024x768, extractStridedSlice S1024x768 ![0, 2048] w slices_S1024x4896_S1024x768_0_2048⟩,
    ⟨S1024x24, extractStridedSlice S1024x24 ![0, 2816] w slices_S1024x4896_S1024x24_0_2816⟩,
    ⟨S1024x4, extractStridedSlice S1024x4 ![0, 4888] w slices_S1024x4896_S1024x4_0_4888⟩,
    ⟨S1024x4, extractStridedSlice S1024x4 ![0, 4892] w slices_S1024x4896_S1024x4_0_4892⟩,
    ⟨S1024x96, broadcastInDim S1024x96 ![] bcast_S_S1024x96 (constant (F := Ideal) S_ .f32 0x00000000#32)⟩]
    concatenates_S1024x1536_S1024x1536_S1024x512_S1024x512_S1024x768_S1024x24_S1024x4_S1024x4_S1024x96_S1024x4992_d1

/-- The first stretch of operations leaves the ordered weights, narrowed, in one array. -/
theorem stage0_weights (σ : Valuation τ sig (Elt Ideal)) :
    StableHlo.after hostOps0 σ (Proc.devRef .tc main_v10)
      = (truncf (F := Ideal) .bf16 (orderedWeight (σ (Proc.devRef .tc main_arg2))) bitsLt_bf16_f32 : Vec Ideal S1024x4992 .bf16) := by
  after_results <;> rfl <;> (unfold orderedWeight; rfl)

/-- The second stretch pads that array by nothing. -/
theorem stage1_weights (σ : Valuation τ sig (Elt Ideal)) :
    StableHlo.after hostOps0_1 σ (Proc.devRef .tc main_v11)
      = (pad S1024x4992 ![0, 0] ![0, 0] ![0, 0] (σ (Proc.devRef .tc main_v10))
          (sitofp (F := Ideal) .bf16 (σ (Proc.devRef .tc main_c))) pads_S1024x4992_S1024x4992_000_000 h_S_
            : Vec Ideal S1024x4992 .bf16) := by
  after_results <;> rfl

/-- The last stretch leaves the padded array as it was. -/
theorem stage2_weights (σ : Valuation τ sig (Elt Ideal)) :
    StableHlo.after hostOps0_2 σ (Proc.devRef .tc main_v11) = σ (Proc.devRef .tc main_v11) := by
  after_results <;> rfl

/-- Padding by nothing gives the array itself, whatever the padding value is. -/
theorem pad_nothing (w : Vec Ideal S1024x4992 .bf16) (z : Vec Ideal S_ .bf16) (i : Fin 1024) (j : Fin 4992) :
    pad S1024x4992 ![0, 0] ![0, 0] ![0, 0] w z pads_S1024x4992_S1024x4992_000_000 h_S_ (ix2 i j) = w (ix2 i j) := by
  pointwise

variable (m : (ℓ : Loc nD τ sig) → Buf (Elt Ideal) ℓ)

/-- The weights as the kernel finds them: the ordered weights of the argument. -/
theorem weights_eq (c : Dev nD) (i : Fin 1024) (j : Fin 4992) :
    V m c main_v11 (ix2 i j) = orderedWeight (m ((c : Thread nD τ).loc main_arg2)) (ix2 i j) := by
  have h : V m c main_v11 = pad S1024x4992 ![0, 0] ![0, 0] ![0, 0]
      (truncf (F := Ideal) .bf16 (orderedWeight (m ((c : Thread nD τ).loc main_arg2))) bitsLt_bf16_f32)
      (sitofp (F := Ideal) .bf16 (StableHlo.after hostOps0 (fun b => m (c, b)) (Proc.devRef .tc main_c)))
      pads_S1024x4992_S1024x4992_000_000 h_S_ := by
    show StableHlo.after hostOps0_2 (StableHlo.after hostOps0_1 (StableHlo.after hostOps0 fun b => m (c, b)))
      (Proc.devRef .tc main_v11) = _
    rw [stage2_weights, stage1_weights, stage0_weights]
  rw [h]
  exact pad_nothing _ _ i j

/-- The gain as the kernel finds it: the argument, as one row. -/
theorem gain_eq (c : Dev nD) (j : Fin 1024) :
    V m c main_v12 (ix2 0 j) = m ((c : Thread nD τ).loc main_arg1) (ix1 j) := by
  simp only [V, List.flatten_cons, List.flatten_nil, List.append_nil, List.cons_append, List.nil_append]
  entry_read
  show shapeCast S1x1024 _ shapeCasts_S1024_S1x1024 (ix2 0 j) = _
  pointwise

end Cert.Project
-- ==== Proof.Project.Value.lean ====
/-
  The projection's kernel as one function of its arguments: at row `i` and column `j` the result is the sum over `k` of the
  normalised entry `(i, k)` of `x` times the entry `(k, j)` of the ordered weights (`projected`). Each grid point writes 512
  rows; their blocks fill the result.
-/
module

public import proofs.«01_k».proof.Proof.Project.Weights
public import Idealize.ShloMosaic.Lib.Pipeline.ValueKit

@[expose] public section

set_option maxRecDepth 16384

noncomputable section

namespace Cert.Project

open Cert.Kernel2Ideal Cert.Kernel2Ideal.Gen Cert.Kernel2Ideal.Value Idealize.ShloMosaic Idealize.ShloMosaic.TcCoe Idealize.SL.Sem

/-- The factor of a row: one over the square root of the mean of its entries' squares, a small number added to it. -/
def rowScale (row : Fin 1024 → EReal) : EReal :=
  Ideal.rsqrt (Ideal.div (∑ k, row k * row k) (Ideal.ofBits .f32 0x44800000#32) + Ideal.ofBits .f32 0x358637BD#32)

/-- An entry of the result: a row of `x` normalised, scaled by the gain, and multiplied with a column of the weights. -/
def entry (x : Vec Ideal S65536x1024 .f32) (g : Vec Ideal S1024 .f32) (w : Vec Ideal S1024x4896 .f32)
    (i : Fin 65536) (j : Fin 4992) : EReal :=
  ∑ k : Fin 1024, x (ix2 i k) * rowScale (fun l => x (ix2 i l)) * g (ix1 k) * orderedWeight w (ix2 k j)

/-- The result, all its entries. -/
def projected (x : Vec Ideal S65536x1024 .f32) (g : Vec Ideal S1024 .f32) (w : Vec Ideal S1024x4896 .f32) :
    Vec Ideal S65536x4992 .f32 :=
  fun y => entry x g w (y 0) (y 1)

/-- What the kernel computes from a block of rows, the gain and the weights, at an index. -/
theorem payload_apply (x : Vec Ideal S512x1024 .f32) (g : Vec Ideal S1x1024 .f32) (w : Vec Ideal S1024x4992 .bf16)
    (r : Fin 512) (j : Fin 4992) :
    k0_pay2 (k0_pay1 x g) w (ix2 r j)
      = ∑ k : Fin 1024, x (ix2 r k) * rowScale (fun l => x (ix2 r l)) * g (ix2 0 k) * w (ix2 k j) := by
  pointwise [k0_pay2, k0_pay1, rowScale]

variable (m : (ℓ : Loc nD τ sig) → Buf (Elt Ideal) ℓ) (ρ : Dev nD → PrngReg)

/-- What a grid point leaves in the result's staging buffer. -/
theorem point_eq (c : Dev nD) (t : Fin cfg0.N) :
    (dats m 0 c).after 3 t = k0_pay2 (k0_pay1 (iblk m c 0 t) (iblk m c 1 t)) (iblk m c 2 t) := by
  rw [after0_3]
  unfold outsAt0
  frame_out

/-- The block of rows at point `t` starts at row `512 t`. -/
theorem index0 : ∀ t : Fin cfg0.N, win0_0.index t = ![t.val, 0] := (by decide +kernel : ∀ t : Fin grid0.N, _)

/-- The gain's one block is the whole row. -/
theorem index1 : ∀ t : Fin cfg0.N, win0_1.index t = ![0, 0] := (by decide +kernel : ∀ t : Fin grid0.N, _)

/-- The weights' one block is the whole array. -/
theorem index2 : ∀ t : Fin cfg0.N, win0_2.index t = ![0, 0] := (by decide +kernel : ∀ t : Fin grid0.N, _)

/-- The result's block at point `t` starts at row `512 t`. -/
theorem index3 : ∀ t : Fin cfg0.N, win0_3.index t = ![t.val, 0] := (by decide +kernel : ∀ t : Fin grid0.N, _)

/-- Row `r` of the block at point `t`, as a row of the whole array. -/
def rowOf (t : Fin cfg0.N) (r : Fin 512) : Fin 65536 :=
  ⟨512 * t.val + r.val, by have h : t.val < 128 := N_0 ▸ t.isLt; omega⟩

/-- An index of the block of rows is this index of `x`. -/
theorem emb0 (t : Fin cfg0.N) (r : Fin 512) (j : Fin 1024) :
    (win0_0.blk t).view.emb (ix2 r j) = ix2 (rowOf t r) j := by
  have e0 := congrFun (index0 t) 0
  have e1 := congrFun (index0 t) 1
  funext a; apply Fin.ext
  match a with
  | ⟨0, _⟩ => show win0_0.index t (0 : Fin 2) * 512 + 1 * r.val = _; rw [e0]; simp [rowOf, ix2]; try omega
  | ⟨1, _⟩ => show win0_0.index t (1 : Fin 2) * 1024 + 1 * j.val = _; rw [e1]; simp [ix2]

/-- An index of the gain's block is the same index of the gain. -/
theorem emb1 (t : Fin cfg0.N) (r : Fin 1) (j : Fin 1024) :
    (win0_1.blk t).view.emb (ix2 r j) = ix2 r j := by
  have e0 := congrFun (index1 t) 0
  have e1 := congrFun (index1 t) 1
  funext a; apply Fin.ext
  match a with
  | ⟨0, _⟩ => show win0_1.index t (0 : Fin 2) * 1 + 1 * r.val = _; rw [e0]; simp [rowOf, ix2]; try omega
  | ⟨1, _⟩ => show win0_1.index t (1 : Fin 2) * 1024 + 1 * j.val = _; rw [e1]; simp [ix2]

/-- An index of the weights' block is the same index of the weights. -/
theorem emb2 (t : Fin cfg0.N) (r : Fin 1024) (j : Fin 4992) :
    (win0_2.blk t).view.emb (ix2 r j) = ix2 r j := by
  have e0 := congrFun (index2 t) 0
  have e1 := congrFun (index2 t) 1
  funext a; apply Fin.ext
  match a with
  | ⟨0, _⟩ => show win0_2.index t (0 : Fin 2) * 1024 + 1 * r.val = _; rw [e0]; simp [rowOf, ix2]; try omega
  | ⟨1, _⟩ => show win0_2.index t (1 : Fin 2) * 4992 + 1 * j.val = _; rw [e1]; simp [ix2]

/-- An index of the result's block is this index of the result. -/
theorem emb3 (t : Fin cfg0.N) (r : Fin 512) (j : Fin 4992) :
    (win0_3.blk t).view.emb (ix2 r j) = ix2 (rowOf t r) j := by
  have e0 := congrFun (index3 t) 0
  have e1 := congrFun (index3 t) 1
  funext a; apply Fin.ext
  match a with
  | ⟨0, _⟩ => show win0_3.index t (0 : Fin 2) * 512 + 1 * r.val = _; rw [e0]; simp [rowOf, ix2]; try omega
  | ⟨1, _⟩ => show win0_3.index t (1 : Fin 2) * 4992 + 1 * j.val = _; rw [e1]; simp [ix2]

/-- The block of rows, read at an index. -/
theorem rows_apply (c : Dev nD) (t : Fin cfg0.N) (r : Fin 512) (k : Fin 1024) :
    iblk m c 0 t (ix2 r k) = m ((c : Thread nD τ).loc main_arg0) (ix2 (rowOf t r) k) :=
  (congrArg (V m c main_arg0) (emb0 t r k)).trans (congrFun (V_main_arg0 m c) _)

/-- The gain's block, read at an index. -/
theorem gain_apply (c : Dev nD) (t : Fin cfg0.N) (k : Fin 1024) :
    iblk m c 1 t (ix2 0 k) = m ((c : Thread nD τ).loc main_arg1) (ix1 k) :=
  (congrArg (V m c main_v12) (emb1 t 0 k)).trans (gain_eq m c k)

/-- The weights' block, read at an index. -/
theorem weights_apply (c : Dev nD) (t : Fin cfg0.N) (k : Fin 1024) (j : Fin 4992) :
    iblk m c 2 t (ix2 k j) = orderedWeight (m ((c : Thread nD τ).loc main_arg2)) (ix2 k j) :=
  (congrArg (V m c main_v11) (emb2 t k j)).trans (weights_eq m c k j)

/-- The result array after the run. -/
theorem final_eq (c : Dev nD) : (dats m 0 c).arrAt 3 cfg0.N
    = projected (m ((c : Thread nD τ).loc main_arg0)) (m ((c : Thread nD τ).loc main_arg1))
        (m ((c : Thread nD τ).loc main_arg2)) := by
  refine (dats m 0 c).arrAt_eq_of_covers 3 _ (by decide +kernel) fun t hf y => ?_
  rw [point_eq]
  obtain ⟨r, j, rfl⟩ : ∃ (r : Fin 512) (j : Fin 4992), y = ix2 r j := ⟨y 0, y 1, eq_ix2 y⟩
  blk_simp [index3 t]
  refine (payload_apply _ _ _ r j).trans (Eq.trans ?_ (congrArg (projected _ _ _) (emb3 t r j)).symm)
  show _ = entry _ _ _ (rowOf t r) j
  unfold entry
  simp only [rows_apply, gain_apply, weights_apply]

/-- The kernel's run: the result is `projected` of the arguments, which end unchanged. -/
theorem run_kernel : θ_run defs (onTc (τ := τ) (main (F := Ideal))) ⟨m, fun _ => 0, ρ⟩ fun r => ∀ c : Dev nD,
      r.2.mem ((c : Thread nD τ).loc main_v13)
        = projected (m ((c : Thread nD τ).loc main_arg0)) (m ((c : Thread nD τ).loc main_arg1))
            (m ((c : Thread nD τ).loc main_arg2)) :=
  (θ_run defs _ _).mono (fun r h c => (h c).1.trans (final_eq m c)) (run_blocks m ρ)

end Cert.Project
-- ==== Proof.Project.Reference.lean ====
/-
  The projection's reference as the same function of its arguments (`projected`): the reference multiplies first and then
  lays the columns of the product in order, which comes to the product with the columns of the weights in that order; its
  96 columns of zeros are products with columns of zeros.
-/
module

public import proofs.«01_k».proof.Proof.Gen.Reference2Ideal.Run
public import proofs.«01_k».proof.Proof.Project.Value

@[expose] public section

set_option maxRecDepth 16384

noncomputable section

namespace Cert.Project

open Idealize.ShloMosaic Idealize.ShloMosaic.TcCoe Idealize.SL.Sem

/-- The reference's result is `projected` of its arguments. -/
theorem reference_eq
    (m : (ℓ : Loc Cert.Reference2Ideal.nD Cert.Reference2Ideal.τ Cert.Reference2Ideal.sig) → Buf (Elt Ideal) ℓ)
    (c : Dev Cert.Reference2Ideal.nD) :
    Cert.Reference2Ideal.Value.res_out0 m c
      = projected (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2)) := by
  funext y
  obtain ⟨i, j, rfl⟩ : ∃ (i : Fin 65536) (j : Fin 4992), y = ix2 i j := ⟨y 0, y 1, eq_ix2 y⟩
  unfold Cert.Reference2Ideal.Value.res_out0 Cert.Reference2Ideal.Value.res_main_v23 projected entry orderedWeight rowScale
  pointwise
  repeat' split
  all_goals first | rfl | simp

end Cert.Project
-- ==== Proof.Merge.Spec.lean ====
/-
  What the merge computes, as one function of its ten arguments (`merged`). Token `i` of the 65536 belongs to a sequence of
  4096 tokens. The first branch is a gated convolution over three tokens of the sequence; the other two are given. Each
  branch is multiplied with its weights, scaled by a gate of the normalised token, and the sum is multiplied with the
  output weights and added to the token.
-/
module

public import proofs.«01_k».proof.Proof.Gen.Kernel3Ideal
public import Idealize.ShloMosaic.Lib.Pointwise

@[expose] public section

set_option maxRecDepth 16384

noncomputable section

namespace Cert.Merge

open Cert.Kernel3Ideal Idealize.ShloMosaic

/-- The product of the second and third part of row `n`, at column `j`; zero if there is no such row. -/
def gated (u : Vec Ideal S65536x4992 .f32) (n : ℕ) (j : Fin 512) : EReal :=
  if h : n < 65536 then u (ix2 ⟨n, h⟩ ⟨512 + j.val, by omega⟩) * u (ix2 ⟨n, h⟩ ⟨1024 + j.val, by omega⟩) else 0

/-- The convolution's tap `s` at token `i`: the product of the token `2 - s` before it, zero before the sequence's start. -/
def tap (u : Vec Ideal S65536x4992 .f32) (s : ℕ) (i : Fin 65536) (j : Fin 512) : EReal :=
  if i.val % 4096 + s < 2 then 0 else gated u (i.val + s - 2) j

/-- The first branch: the first part of the row times the convolution. -/
def firstBranch (u : Vec Ideal S65536x4992 .f32) (cw : Vec Ideal S3x512 .f32) (i : Fin 65536) (j : Fin 512) : EReal :=
  u (ix2 i ⟨j.val, by omega⟩)
    * (cw (ix2 0 j) * tap u 0 i j + cw (ix2 1 j) * tap u 1 i j + cw (ix2 2 j) * tap u 2 i j)

/-- An entry of the normalised token, scaled by the gain. -/
def normed (x : Vec Ideal S65536x1024 .f32) (g : Vec Ideal S1024 .f32) (i : Fin 65536) (k : Fin 1024) : EReal :=
  x (ix2 i k) * Ideal.rsqrt (Ideal.div (∑ l : Fin 1024, x (ix2 i l) * x (ix2 i l)) (Ideal.ofBits .f32 0x44800000#32)
      + Ideal.ofBits .f32 0x358637BD#32) * g (ix1 k)

/-- An entry of the gates. -/
def gate (x : Vec Ideal S65536x1024 .f32) (g : Vec Ideal S1024 .f32) (wg : Vec Ideal S1024x3072 .f32)
    (bg : Vec Ideal S3072 .f32) (i : Fin 65536) (k : Fin 3072) : EReal :=
  Ideal.logistic (∑ l : Fin 1024, normed x g i l * wg (ix2 l k) + bg (ix1 k))

/-- The gated sum of the three branches' products, at token `i` and column `d`. -/
def mixed (x : Vec Ideal S65536x1024 .f32) (g : Vec Ideal S1024 .f32) (u : Vec Ideal S65536x4992 .f32)
    (cw : Vec Ideal S3x512 .f32) (yn yg : Vec Ideal S65536x512 .f32) (wb : Vec Ideal S3x512x1024 .f32)
    (wg : Vec Ideal S1024x3072 .f32) (bg : Vec Ideal S3072 .f32) (i : Fin 65536) (d : Fin 1024) : EReal :=
  gate x g wg bg i ⟨d.val, by omega⟩ * ∑ k : Fin 512, firstBranch u cw i k * wb (ix3 0 k d)
    + gate x g wg bg i ⟨1024 + d.val, by omega⟩ * ∑ k : Fin 512, yn (ix2 i k) * wb (ix3 1 k d)
    + gate x g wg bg i ⟨2048 + d.val, by omega⟩ * ∑ k : Fin 512, yg (ix2 i k) * wb (ix3 2 k d)

/-- An entry of the result. -/
def entry (x : Vec Ideal S65536x1024 .f32) (g : Vec Ideal S1024 .f32) (u : Vec Ideal S65536x4992 .f32)
    (cw : Vec Ideal S3x512 .f32) (yn yg : Vec Ideal S65536x512 .f32) (wb : Vec Ideal S3x512x1024 .f32)
    (wg : Vec Ideal S1024x3072 .f32) (bg : Vec Ideal S3072 .f32) (wo : Vec Ideal S1024x1024 .f32)
    (i : Fin 65536) (j : Fin 1024) : EReal :=
  x (ix2 i j) + ∑ d : Fin 1024, mixed x g u cw yn yg wb wg bg i d * wo (ix2 d j)

/-- The result, all its entries. -/
def merged (x : Vec Ideal S65536x1024 .f32) (g : Vec Ideal S1024 .f32) (u : Vec Ideal S65536x4992 .f32)
    (cw : Vec Ideal S3x512 .f32) (yn yg : Vec Ideal S65536x512 .f32) (wb : Vec Ideal S3x512x1024 .f32)
    (wg : Vec Ideal S1024x3072 .f32) (bg : Vec Ideal S3072 .f32) (wo : Vec Ideal S1024x1024 .f32) :
    Vec Ideal S65536x1024 .f32 :=
  fun y => entry x g u cw yn yg wb wg bg wo (y 0) (y 1)

end Cert.Merge
-- ==== Proof.Merge.Blocks.lean ====
/-
  The blocks the merge's grid points work on, read at an index: point `t` has rows `512 t` to `512 t + 511` of the token
  arrays, and the weights whole.
-/
module

public import proofs.«01_k».proof.Proof.Merge.Spec
public import proofs.«01_k».proof.Proof.Gen.Kernel3Ideal.Value
public import Idealize.ShloMosaic.Lib.Pipeline.ValueKit

@[expose] public section

set_option maxRecDepth 16384

noncomputable section

namespace Cert.Merge

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- Row `r` of the blocks at point `t`, as a row of the whole arrays. -/
def rowOf (t : Fin cfg0.N) (r : Fin 512) : Fin 65536 :=
  ⟨512 * t.val + r.val, by have h : t.val < 128 := N_0 ▸ t.isLt; omega⟩

/-- Where the block of the rows of `x` starts. -/
theorem index0 : ∀ t : Fin cfg0.N, win0_0.index t = ![t.val, 0] := (by decide +kernel : ∀ t : Fin grid0.N, _)

/-- An index of the block of the rows of `x`, as an index of the array. -/
theorem emb0 (t : Fin cfg0.N) (r : Fin 512) (j : Fin 1024) :
    (win0_0.blk t).view.emb (ix2 r j) = ix2 (rowOf t r) j := by
  have e0 := congrFun (index0 t) 0
  have e1 := congrFun (index0 t) 1
  funext a; apply Fin.ext
  match a with
  | ⟨0, _⟩ => show win0_0.index t (0 : Fin 2) * 512 + 1 * r.val = _; rw [e0]; simp [rowOf, ix2]; try omega
  | ⟨1, _⟩ => show win0_0.index t (1 : Fin 2) * 1024 + 1 * j.val = _; rw [e1]; simp [ix2]

/-- Where the block of the gain starts. -/
theorem index1 : ∀ t : Fin cfg0.N, win0_1.index t = ![0, 0] := (by decide +kernel : ∀ t : Fin grid0.N, _)

/-- An index of the block of the gain, as an index of the array. -/
theorem emb1 (t : Fin cfg0.N) (r : Fin 1) (j : Fin 1024) :
    (win0_1.blk t).view.emb (ix2 r j) = ix2 r j := by
  have e0 := congrFun (index1 t) 0
  have e1 := congrFun (index1 t) 1
  funext a; apply Fin.ext
  match a with
  | ⟨0, _⟩ => show win0_1.index t (0 : Fin 2) * 1 + 1 * r.val = _; rw [e0]; simp [rowOf, ix2]; try omega
  | ⟨1, _⟩ => show win0_1.index t (1 : Fin 2) * 1024 + 1 * j.val = _; rw [e1]; simp [ix2]

/-- Where the block of the convolution's weights starts. -/
theorem index3 : ∀ t : Fin cfg0.N, win0_3.index t = ![0, 0] := (by decide +kernel : ∀ t : Fin grid0.N, _)

/-- An index of the block of the convolution's weights, as an index of the array. -/
theorem emb3 (t : Fin cfg0.N) (r : Fin 3) (j : Fin 512) :
    (win0_3.blk t).view.emb (ix2 r j) = ix2 r j := by
  have e0 := congrFun (index3 t) 0
  have e1 := congrFun (index3 t) 1
  funext a; apply Fin.ext
  match a with
  | ⟨0, _⟩ => show win0_3.index t (0 : Fin 2) * 3 + 1 * r.val = _; rw [e0]; simp [rowOf, ix2]; try omega
  | ⟨1, _⟩ => show win0_3.index t (1 : Fin 2) * 512 + 1 * j.val = _; rw [e1]; simp [ix2]

/-- Where the block of the rows of the second branch starts. -/
theorem index4 : ∀ t : Fin cfg0.N, win0_4.index t = ![t.val, 0] := (by decide +kernel : ∀ t : Fin grid0.N, _)

/-- An index of the block of the rows of the second branch, as an index of the array. -/
theorem emb4 (t : Fin cfg0.N) (r : Fin 512) (j : Fin 512) :
    (win0_4.blk t).view.emb (ix2 r j) = ix2 (rowOf t r) j := by
  have e0 := congrFun (index4 t) 0
  have e1 := congrFun (index4 t) 1
  funext a; apply Fin.ext
  match a with
  | ⟨0, _⟩ => show win0_4.index t (0 : Fin 2) * 512 + 1 * r.val = _; rw [e0]; simp [rowOf, ix2]; try omega
  | ⟨1, _⟩ => show win0_4.index t (1 : Fin 2) * 512 + 1 * j.val = _; rw [e1]; simp [ix2]

/-- Where the block of the rows of the third branch starts. -/
theorem index5 : ∀ t : Fin cfg0.N, win0_5.index t = ![t.val, 0] := (by decide +kernel : ∀ t : Fin grid0.N, _)

/-- An index of the block of the rows of the third branch, as an index of the array. -/
theorem emb5 (t : Fin cfg0.N) (r : Fin 512) (j : Fin 512) :
    (win0_5.blk t).view.emb (ix2 r j) = ix2 (rowOf t r) j := by
  have e0 := congrFun (index5 t) 0
  have e1 := congrFun (index5 t) 1
  funext a; apply Fin.ext
  match a with
  | ⟨0, _⟩ => show win0_5.index t (0 : Fin 2) * 512 + 1 * r.val = _; rw [e0]; simp [rowOf, ix2]; try omega
  | ⟨1, _⟩ => show win0_5.index t (1 : Fin 2) * 512 + 1 * j.val = _; rw [e1]; simp [ix2]

/-- Where the block of the gates' weights starts. -/
theorem index7 : ∀ t : Fin cfg0.N, win0_7.index t = ![0, 0] := (by decide +kernel : ∀ t : Fin grid0.N, _)

/-- An index of the block of the gates' weights, as an index of the array. -/
theorem emb7 (t : Fin cfg0.N) (r : Fin 1024) (j : Fin 3072) :
    (win0_7.blk t).view.emb (ix2 r j) = ix2 r j := by
  have e0 := congrFun (index7 t) 0
  have e1 := congrFun (index7 t) 1
  funext a; apply Fin.ext
  match a with
  | ⟨0, _⟩ => show win0_7.index t (0 : Fin 2) * 1024 + 1 * r.val = _; rw [e0]; simp [rowOf, ix2]; try omega
  | ⟨1, _⟩ => show win0_7.index t (1 : Fin 2) * 3072 + 1 * j.val = _; rw [e1]; simp [ix2]

/-- Where the block of the gates' bias starts. -/
theorem index8 : ∀ t : Fin cfg0.N, win0_8.index t = ![0, 0] := (by decide +kernel : ∀ t : Fin grid0.N, _)

/-- An index of the block of the gates' bias, as an index of the array. -/
theorem emb8 (t : Fin cfg0.N) (r : Fin 1) (j : Fin 3072) :
    (win0_8.blk t).view.emb (ix2 r j) = ix2 r j := by
  have e0 := congrFun (index8 t) 0
  have e1 := congrFun (index8 t) 1
  funext a; apply Fin.ext
  match a with
  | ⟨0, _⟩ => show win0_8.index t (0 : Fin 2) * 1 + 1 * r.val = _; rw [e0]; simp [rowOf, ix2]; try omega
  | ⟨1, _⟩ => show win0_8.index t (1 : Fin 2) * 3072 + 1 * j.val = _; rw [e1]; simp [ix2]

/-- Where the block of the output weights starts. -/
theorem index9 : ∀ t : Fin cfg0.N, win0_9.index t = ![0, 0] := (by decide +kernel : ∀ t : Fin grid0.N, _)

/-- An index of the block of the output weights, as an index of the array. -/
theorem emb9 (t : Fin cfg0.N) (r : Fin 1024) (j : Fin 1024) :
    (win0_9.blk t).view.emb (ix2 r j) = ix2 r j := by
  have e0 := congrFun (index9 t) 0
  have e1 := congrFun (index9 t) 1
  funext a; apply Fin.ext
  match a with
  | ⟨0, _⟩ => show win0_9.index t (0 : Fin 2) * 1024 + 1 * r.val = _; rw [e0]; simp [rowOf, ix2]; try omega
  | ⟨1, _⟩ => show win0_9.index t (1 : Fin 2) * 1024 + 1 * j.val = _; rw [e1]; simp [ix2]

/-- Where the block of the rows of the result starts. -/
theorem index10 : ∀ t : Fin cfg0.N, win0_10.index t = ![t.val, 0] := (by decide +kernel : ∀ t : Fin grid0.N, _)

/-- An index of the block of the rows of the result, as an index of the array. -/
theorem emb10 (t : Fin cfg0.N) (r : Fin 512) (j : Fin 1024) :
    (win0_10.blk t).view.emb (ix2 r j) = ix2 (rowOf t r) j := by
  have e0 := congrFun (index10 t) 0
  have e1 := congrFun (index10 t) 1
  funext a; apply Fin.ext
  match a with
  | ⟨0, _⟩ => show win0_10.index t (0 : Fin 2) * 512 + 1 * r.val = _; rw [e0]; simp [rowOf, ix2]; try omega
  | ⟨1, _⟩ => show win0_10.index t (1 : Fin 2) * 1024 + 1 * j.val = _; rw [e1]; simp [ix2]

/-- The branches' weights are one block. -/
theorem index6 : ∀ t : Fin cfg0.N, win0_6.index t = ![0, 0, 0] := (by decide +kernel : ∀ t : Fin grid0.N, _)

/-- An index of the branches' weights' block is the same index of the array. -/
theorem emb6 (t : Fin cfg0.N) (b : Fin 3) (r : Fin 512) (j : Fin 1024) :
    (win0_6.blk t).view.emb (ix3 b r j) = ix3 b r j := by
  have e0 := congrFun (index6 t) 0
  have e1 := congrFun (index6 t) 1
  have e2 := congrFun (index6 t) 2
  funext a; apply Fin.ext
  match a with
  | ⟨0, _⟩ => show win0_6.index t (0 : Fin 3) * 3 + 1 * b.val = _; rw [e0]; simp [ix3]
  | ⟨1, _⟩ => show win0_6.index t (1 : Fin 3) * 512 + 1 * r.val = _; rw [e1]; simp [ix3]
  | ⟨2, _⟩ => show win0_6.index t (2 : Fin 3) * 1024 + 1 * j.val = _; rw [e2]; simp [ix3]

/-- Where the block of the rows of the projection starts. -/
theorem index2 : ∀ t : Fin cfg0.N, win0_2.index t = ![t.val, 0] := (by decide +kernel : ∀ t : Fin grid0.N, _)

/-- The block of the rows of the projection is the first 1536 columns of its 512 rows. -/
theorem proj_apply (c : Dev nD) (t : Fin cfg0.N) (r : Fin 512) (k : Fin 1536) :
    X0_2 m c t (ix2 r k) = m ((c : Thread nD τ).loc main_arg2) (ix2 (rowOf t r) ⟨k.val, by omega⟩) := by
  unfold X0_2 Pipeline.Window.fill
  rw [dif_pos (moved0_2 t _)]
  refine (congrArg (V m c main_arg2) ?_).trans (congrFun (V_main_arg2 m c) _)
  have e0 := congrFun (index2 t) 0
  have e1 := congrFun (index2 t) 1
  funext a; apply Fin.ext
  match a with
  | ⟨0, _⟩ => show win0_2.index t (0 : Fin 2) * 512 + 1 * r.val = _; rw [e0]; simp [rowOf, ix2]; try omega
  | ⟨1, _⟩ => show win0_2.index t (1 : Fin 2) * 1536 + 1 * k.val = _; rw [e1]; simp [ix2]

/-- The block of the rows of `x`, read at an index. -/
theorem rows_apply (c : Dev nD) (t : Fin cfg0.N) (r : Fin 512) (k : Fin 1024) :
    iblk m c 0 t (ix2 r k) = m ((c : Thread nD τ).loc main_arg0) (ix2 (rowOf t r) k) :=
  (congrArg (V m c main_arg0) (emb0 t r k)).trans (congrFun (V_main_arg0 m c) _)

/-- The block of the convolution's weights, read at an index. -/
theorem conv_apply (c : Dev nD) (t : Fin cfg0.N) (r : Fin 3) (k : Fin 512) :
    iblk m c 3 t (ix2 r k) = m ((c : Thread nD τ).loc main_arg3) (ix2 r k) :=
  (congrArg (V m c main_arg3) (emb3 t r k)).trans (congrFun (V_main_arg3 m c) _)

/-- The block of the rows of the second branch, read at an index. -/
theorem second_apply (c : Dev nD) (t : Fin cfg0.N) (r : Fin 512) (k : Fin 512) :
    iblk m c 4 t (ix2 r k) = m ((c : Thread nD τ).loc main_arg4) (ix2 (rowOf t r) k) :=
  (congrArg (V m c main_arg4) (emb4 t r k)).trans (congrFun (V_main_arg4 m c) _)

/-- The block of the rows of the third branch, read at an index. -/
theorem third_apply (c : Dev nD) (t : Fin cfg0.N) (r : Fin 512) (k : Fin 512) :
    iblk m c 5 t (ix2 r k) = m ((c : Thread nD τ).loc main_arg5) (ix2 (rowOf t r) k) :=
  (congrArg (V m c main_arg5) (emb5 t r k)).trans (congrFun (V_main_arg5 m c) _)

/-- The block of the gain, read at an index. -/
theorem gain_apply (c : Dev nD) (t : Fin cfg0.N) (k : Fin 1024) :
    iblk m c 1 t (ix2 0 k) = m ((c : Thread nD τ).loc main_arg1) (ix1 k) := by
  refine (congrArg (V m c main_v0) (emb1 t 0 k)).trans ?_
  simp only [V, List.flatten_cons, List.flatten_nil, List.append_nil, List.cons_append, List.nil_append]
  entry_read
  show shapeCast S1x1024 _ shapeCasts_S1024_S1x1024 (ix2 0 k) = _
  pointwise

/-- The block of the gates' bias, read at an index. -/
theorem bias_apply (c : Dev nD) (t : Fin cfg0.N) (k : Fin 3072) :
    iblk m c 8 t (ix2 0 k) = m ((c : Thread nD τ).loc main_arg8) (ix1 k) := by
  refine (congrArg (V m c main_v3) (emb8 t 0 k)).trans ?_
  simp only [V, List.flatten_cons, List.flatten_nil, List.append_nil, List.cons_append, List.nil_append]
  entry_read
  show shapeCast S1x3072 _ shapeCasts_S3072_S1x3072 (ix2 0 k) = _
  pointwise

/-- The block of the gates' weights, read at an index. -/
theorem gates_apply (c : Dev nD) (t : Fin cfg0.N) (r : Fin 1024) (k : Fin 3072) :
    iblk m c 7 t (ix2 r k) = m ((c : Thread nD τ).loc main_arg7) (ix2 r k) := by
  refine (congrArg (V m c main_v2) (emb7 t r k)).trans ?_
  simp only [V, List.flatten_cons, List.flatten_nil, List.append_nil, List.cons_append, List.nil_append]
  entry_read
  rfl

/-- The block of the output weights, read at an index. -/
theorem out_apply (c : Dev nD) (t : Fin cfg0.N) (r : Fin 1024) (k : Fin 1024) :
    iblk m c 9 t (ix2 r k) = m ((c : Thread nD τ).loc main_arg9) (ix2 r k) := by
  refine (congrArg (V m c main_v4) (emb9 t r k)).trans ?_
  simp only [V, List.flatten_cons, List.flatten_nil, List.append_nil, List.cons_append, List.nil_append]
  entry_read
  rfl

/-- The block of the branches' weights, read at an index. -/
theorem branch_apply (c : Dev nD) (t : Fin cfg0.N) (b : Fin 3) (r : Fin 512) (k : Fin 1024) :
    iblk m c 6 t (ix3 b r k) = m ((c : Thread nD τ).loc main_arg6) (ix3 b r k) := by
  refine (congrArg (V m c main_v1) (emb6 t b r k)).trans ?_
  simp only [V, List.flatten_cons, List.flatten_nil, List.append_nil, List.cons_append, List.nil_append]
  entry_read
  rfl

end Cert.Merge
-- ==== Proof.Merge.Scratch.lean ====
/-
  What a grid point leaves in the buffer of 520 rows that the merge keeps between points: in row `8 + r` the product of row
  `r` of its block, and in the first eight rows the products of the eight rows before its block, or zeros where the block is
  the first of a sequence (`tile`).
-/
module

public import proofs.«01_k».proof.Proof.Merge.Blocks
public import Idealize.ShloMosaic.Lib.Pipeline.ReadBack

@[expose] public section

set_option maxRecDepth 16384

noncomputable section

namespace Cert.Merge

open Cert.Kernel3Ideal Cert.Kernel3Ideal.Gen Cert.Kernel3Ideal.Value Idealize.ShloMosaic Idealize.ShloMosaic.TcCoe Idealize.SL.Sem

/-- The kept buffer after point `t`. -/
def tile (u : Vec Ideal S65536x4992 .f32) (t : ℕ) : Vec Ideal S520x512 .f32 := fun y =>
  if t % 8 = 0 ∧ (y 0).val < 8 then 0 else gated u (512 * t + (y 0).val - 8) (y 1)

/-- The products a point stores, at an index. -/
theorem product_apply (u : Vec Ideal S512x1536 .f32) (r j : Fin 512) :
    k0_pay4 (View.ld u (Rect.unit ![0, 512] ![512, 512] inb_S512x1536_S512x512_0_512))
        (View.ld u (Rect.unit ![0, 1024] ![512, 512] inb_S512x1536_S512x512_0_1024)) (ix2 r j)
      = u (ix2 r ⟨512 + j.val, by omega⟩) * u (ix2 r ⟨1024 + j.val, by omega⟩) := by
  pointwise [k0_pay4]

/-- The zeros the first point of a sequence stores, at an index. -/
theorem zeros_apply (r : Fin 8) (j : Fin 512) : k0_pay2 (F := Ideal) (ix2 r j) = 0 := by
  pointwise [k0_pay2]

/-- The rows another point keeps of what the point before left, at an index. -/
theorem kept_apply (s : Vec Ideal S520x512 .f32) (r : Fin 8) (j : Fin 512) :
    k0_pay3 (View.ld s (Rect.unit ![512, 0] ![8, 512] inb_S520x512_S8x512_512_0)) (ix2 r j)
      = s (ix2 ⟨512 + r.val, by omega⟩ j) := by
  pointwise [k0_pay3]

/-- Stores of `tile`'s two parts leave `tile`. -/
theorem canon_tile (u : Vec Ideal S65536x4992 .f32) (t : ℕ) (lo : Vec Ideal S8x512 .f32) (hi : Vec Ideal S512x512 .f32)
    (hlo : ∀ r j, lo (ix2 r j) = tile u t (ix2 ⟨r.val, by omega⟩ j))
    (hhi : ∀ r j, hi (ix2 r j) = tile u t (ix2 ⟨8 + r.val, by omega⟩ j)) :
    View.canon (Val := Elt Ideal) (s := S520x512) (e := .f32)
      [⟨Rect.unit ![8, 0] ![512, 512] inb_S520x512_S512x512_8_0, hi⟩,
        ⟨Rect.unit ![0, 0] ![8, 512] inb_S520x512_S8x512_0_0, lo⟩] = tile u t := by
  funext y
  refine View.canon_append_of_piecesOf (Val := Elt Ideal) (e := .f32) (tile u t) []
    [⟨Rect.unit ![8, 0] ![512, 512] inb_S520x512_S512x512_8_0, hi⟩,
      ⟨Rect.unit ![0, 0] ![8, 512] inb_S520x512_S8x512_0_0, lo⟩] (And.intro (fun x => ?_) (And.intro (fun x => ?_) trivial)) y ?_
  · obtain ⟨r, j, rfl⟩ : ∃ (r : Fin 512) (j : Fin 512), x = ix2 r j := ⟨x 0, x 1, eq_ix2 x⟩
    refine (hhi r j).trans (congrArg (tile u t) ?_)
    funext a; apply Fin.ext
    match a with
    | ⟨0, _⟩ => show 8 + r.val = 8 + 1 * r.val; omega
    | ⟨1, _⟩ => show j.val = 0 + 1 * j.val; omega
  · obtain ⟨r, j, rfl⟩ : ∃ (r : Fin 8) (j : Fin 512), x = ix2 r j := ⟨x 0, x 1, eq_ix2 x⟩
    refine (hlo r j).trans (congrArg (tile u t) ?_)
    funext a; apply Fin.ext
    match a with
    | ⟨0, _⟩ => show r.val = 0 + 1 * r.val; omega
    | ⟨1, _⟩ => show j.val = 0 + 1 * j.val; omega
  · have h0 : (y 0).val < 520 := (y 0).isLt
    have h1 : (y 1).val < 512 := (y 1).isLt
    by_cases h : (y 0).val < 8
    · refine ⟨_, List.mem_cons_of_mem _ List.mem_cons_self, (Rect.mem_set_unit (inb := inb_S520x512_S8x512_0_0)).mpr fun a => ?_⟩
      match a with
      | ⟨0, _⟩ => show 0 ≤ (y 0).val ∧ (y 0).val < 0 + 8; omega
      | ⟨1, _⟩ => show 0 ≤ (y 1).val ∧ (y 1).val < 0 + 512; omega
    · refine ⟨_, List.mem_cons_self, (Rect.mem_set_unit (inb := inb_S520x512_S512x512_8_0)).mpr fun a => ?_⟩
      match a with
      | ⟨0, _⟩ => show 8 ≤ (y 0).val ∧ (y 0).val < 8 + 512; omega
      | ⟨1, _⟩ => show 0 ≤ (y 1).val ∧ (y 1).val < 0 + 512; omega

variable (m : (ℓ : Loc nD τ sig) → Buf (Elt Ideal) ℓ)

/-- The products a point stores are `tile`'s rows from the eighth on. -/
theorem product_tile (c : Dev nD) (t : Fin cfg0.N) (r j : Fin 512) :
    k0_pay4 (View.ld (X0_2 m c t) (Rect.unit ![0, 512] ![512, 512] inb_S512x1536_S512x512_0_512))
        (View.ld (X0_2 m c t) (Rect.unit ![0, 1024] ![512, 512] inb_S512x1536_S512x512_0_1024)) (ix2 r j)
      = tile (m ((c : Thread nD τ).loc main_arg2)) t.val (ix2 ⟨8 + r.val, by omega⟩ j) := by
  refine (product_apply _ r j).trans ?_
  rw [proj_apply, proj_apply]
  have ht : t.val < 128 := N_0 ▸ t.isLt
  show _ = if t.val % 8 = 0 ∧ 8 + r.val < 8 then (0 : EReal)
    else gated (m ((c : Thread nD τ).loc main_arg2)) (512 * t.val + (8 + r.val) - 8) j
  rw [if_neg (by omega), show 512 * t.val + (8 + r.val) - 8 = 512 * t.val + r.val by omega, gated,
    dif_pos (show 512 * t.val + r.val < 65536 by omega)]
  rfl

/-- The first point of a sequence leaves `tile`. -/
theorem canon_first (c : Dev nD) (t : Fin cfg0.N) (h : t.val % 8 = 0) :
    View.canon (Val := Elt Ideal) (s := S520x512) (e := .f32)
      [⟨Rect.unit ![8, 0] ![512, 512] inb_S520x512_S512x512_8_0,
        k0_pay4 (View.ld (X0_2 m c t) (Rect.unit ![0, 512] ![512, 512] inb_S512x1536_S512x512_0_512))
          (View.ld (X0_2 m c t) (Rect.unit ![0, 1024] ![512, 512] inb_S512x1536_S512x512_0_1024))⟩,
        ⟨Rect.unit ![0, 0] ![8, 512] inb_S520x512_S8x512_0_0, k0_pay2 (F := Ideal)⟩]
      = tile (m ((c : Thread nD τ).loc main_arg2)) t.val := by
  refine canon_tile _ _ _ _ (fun r j => (zeros_apply r j).trans ?_) (product_tile m c t)
  show (0 : EReal) = if t.val % 8 = 0 ∧ r.val < 8 then (0 : EReal) else _
  rw [if_pos ⟨h, r.isLt⟩]

/-- Another point leaves `tile` if the point before left it. -/
theorem canon_later (c : Dev nD) (t : Fin cfg0.N) (h : ¬t.val % 8 = 0) (s : Vec Ideal S520x512 .f32)
    (hs : s = tile (m ((c : Thread nD τ).loc main_arg2)) (t.val - 1)) :
    View.canon (Val := Elt Ideal) (s := S520x512) (e := .f32)
      [⟨Rect.unit ![8, 0] ![512, 512] inb_S520x512_S512x512_8_0,
        k0_pay4 (View.ld (X0_2 m c t) (Rect.unit ![0, 512] ![512, 512] inb_S512x1536_S512x512_0_512))
          (View.ld (X0_2 m c t) (Rect.unit ![0, 1024] ![512, 512] inb_S512x1536_S512x512_0_1024))⟩,
        ⟨Rect.unit ![0, 0] ![8, 512] inb_S520x512_S8x512_0_0,
          k0_pay3 (View.ld s (Rect.unit ![512, 0] ![8, 512] inb_S520x512_S8x512_512_0))⟩]
      = tile (m ((c : Thread nD τ).loc main_arg2)) t.val := by
  refine canon_tile _ _ _ _ (fun r j => (kept_apply s r j).trans ?_) (product_tile m c t)
  rw [hs]
  show (if (t.val - 1) % 8 = 0 ∧ 512 + r.val < 8 then (0 : EReal) else gated _ (512 * (t.val - 1) + (512 + r.val) - 8) j)
    = if t.val % 8 = 0 ∧ r.val < 8 then (0 : EReal) else gated _ (512 * t.val + r.val - 8) j
  rw [if_neg (by omega), if_neg (by omega), show 512 * (t.val - 1) + (512 + r.val) - 8 = 512 * t.val + r.val - 8 by omega]

/-- Every point leaves `tile` in the kept buffer. -/
theorem scratch_eq (c : Dev nD) : ∀ (n : ℕ) (hn : n < cfg0.N),
    (outsAt0 m c n hn).2 = tile (m ((c : Thread nD τ).loc main_arg2)) n := by
  have first : ∀ t : Fin cfg0.N, t.val % 8 = 0 →
      (outsAt0 m c t.val t.isLt).2 = tile (m ((c : Thread nD τ).loc main_arg2)) t.val := fun t h => by
    rw [outsAt0_A m c t h fun h' => h' h]
    frame_out
    exact canon_first m c t h
  intro n
  induction n with
  | zero => exact fun hn => first ⟨0, hn⟩ rfl
  | succ n ih =>
    intro hn
    by_cases h : (n + 1) % 8 = 0
    · exact first ⟨n + 1, hn⟩ h
    · show (outsAt0 m c (⟨n + 1, hn⟩ : Fin cfg0.N).val _).2 = _
      rw [outsAt0_B m c ⟨n + 1, hn⟩ h h]
      frame_out
      simp only [read_unread_whole]
      exact canon_later m c ⟨n + 1, hn⟩ h _ (ih _)

/-- A row of the kept buffer that a convolution's tap reads is that tap. -/
theorem tile_tap (u : Vec Ideal S65536x4992 .f32) (t : Fin cfg0.N) (r : Fin 512) (j : Fin 512) (s : ℕ) (hs : s < 3)
    (o : Fin 520) (ho : o.val = 6 + s + r.val) :
    tile u t.val (ix2 o j) = tap u s (rowOf t r) j := by
  show (if t.val % 8 = 0 ∧ o.val < 8 then (0 : EReal) else gated u (512 * t.val + o.val - 8) j)
    = if (512 * t.val + r.val) % 4096 + s < 2 then (0 : EReal) else gated u (512 * t.val + r.val + s - 2) j
  have hr := r.isLt
  have e : 512 * t.val + o.val - 8 = 512 * t.val + r.val + s - 2 := by omega
  have hd : (512 * t.val + r.val) % 4096 = 512 * (t.val % 8) + r.val := by omega
  rw [e, hd]
  by_cases h : t.val % 8 = 0 ∧ o.val < 8
  · rw [if_pos h, if_pos (by omega)]
  · rw [if_neg h, if_neg (by omega)]

end Cert.Merge
-- ==== Proof.Merge.Kernel.lean ====
/-
  The merge's kernel computes `merged` of its arguments: each grid point computes it for 512 tokens, reading the
  convolution's taps from the kept buffer, and the blocks fill the result.
-/
module

public import proofs.«01_k».proof.Proof.Merge.Scratch

@[expose] public section

set_option maxRecDepth 16384

noncomputable section

namespace Cert.Merge

open Cert.Kernel3Ideal Cert.Kernel3Ideal.Gen Cert.Kernel3Ideal.Value Idealize.ShloMosaic Idealize.ShloMosaic.TcCoe Idealize.SL.Sem

/-- What a point computes from its blocks and three loads of the kept buffer. -/
def pointOf (x : Vec Ideal S512x1024 .f32) (g : Vec Ideal S1x1024 .f32) (u : Vec Ideal S512x1536 .f32)
    (cw : Vec Ideal S3x512 .f32) (yn yg : Vec Ideal S512x512 .f32) (wb : Vec Ideal S3x512x1024 .bf16)
    (wg : Vec Ideal S1024x3072 .bf16) (bg : Vec Ideal S1x3072 .f32) (wo : Vec Ideal S1024x1024 .bf16)
    (e₆ e₇ e₈ : Vec Ideal S512x512 .f32) : Vec Ideal S512x1024 .f32 :=
  k0_pay1 x
      (k0_pay10 (k0_pay6 x g) k0_pay7 yn yg
        (k0_pay8 x g
          (View.ld wg (Rect.unit ![0, 0] ![1024, 1024] inb_S1024x3072_S1024x1024_0_0))
          (View.ld bg (Rect.unit ![0, 0] ![1, 1024] inb_S1x3072_S1x1024_0_0)))
        (k0_pay9
          (k0_pay5 (View.ld cw (Rect.unit ![0, 0] ![1, 512] inb_S3x512_S1x512_0_0))
            e₆)
          (View.ld cw (Rect.unit ![1, 0] ![1, 512] inb_S3x512_S1x512_1_0))
          e₇
          (View.ld cw (Rect.unit ![2, 0] ![1, 512] inb_S3x512_S1x512_2_0))
          e₈
          (View.ld u (Rect.unit ![0, 0] ![512, 512] inb_S512x1536_S512x512_0_0)))
        (View.ld wb (Rect.unit ![0, 0, 0] ![1, 512, 1024] inb_S3x512x1024_S1x512x1024_0_0_0))
        (View.ld wg (Rect.unit ![0, 1024] ![1024, 1024] inb_S1024x3072_S1024x1024_0_1024))
        (View.ld bg (Rect.unit ![0, 1024] ![1, 1024] inb_S1x3072_S1x1024_0_1024))
        (View.ld wb (Rect.unit ![1, 0, 0] ![1, 512, 1024] inb_S3x512x1024_S1x512x1024_1_0_0))
        (View.ld wg (Rect.unit ![0, 2048] ![1024, 1024] inb_S1024x3072_S1024x1024_0_2048))
        (View.ld bg (Rect.unit ![0, 2048] ![1, 1024] inb_S1x3072_S1x1024_0_2048))
        (View.ld wb (Rect.unit ![2, 0, 0] ![1, 512, 1024] inb_S3x512x1024_S1x512x1024_2_0_0)))
      (k0_pay11 wo)

/-- What a point computes from its blocks and the kept buffer `e`. -/
def pointValue (x : Vec Ideal S512x1024 .f32) (g : Vec Ideal S1x1024 .f32) (u : Vec Ideal S512x1536 .f32)
    (cw : Vec Ideal S3x512 .f32) (yn yg : Vec Ideal S512x512 .f32) (wb : Vec Ideal S3x512x1024 .bf16)
    (wg : Vec Ideal S1024x3072 .bf16) (bg : Vec Ideal S1x3072 .f32) (wo : Vec Ideal S1024x1024 .bf16)
    (e : Vec Ideal S520x512 .f32) : Vec Ideal S512x1024 .f32 :=
  pointOf x g u cw yn yg wb wg bg wo
    (View.ld e (Rect.unit ![6, 0] ![512, 512] inb_S520x512_S512x512_6_0))
    (View.ld e (Rect.unit ![7, 0] ![512, 512] inb_S520x512_S512x512_7_0))
    (View.ld e (Rect.unit ![8, 0] ![512, 512] inb_S520x512_S512x512_8_0))

/-- Equal loads give equal results. -/
theorem pointOf_congr (x : Vec Ideal S512x1024 .f32) (g : Vec Ideal S1x1024 .f32) (u : Vec Ideal S512x1536 .f32)
    (cw : Vec Ideal S3x512 .f32) (yn yg : Vec Ideal S512x512 .f32) (wb : Vec Ideal S3x512x1024 .bf16)
    (wg : Vec Ideal S1024x3072 .bf16) (bg : Vec Ideal S1x3072 .f32) (wo : Vec Ideal S1024x1024 .bf16)
    {a b d a' b' d' : Vec Ideal S512x512 .f32} (ha : a = a') (hb : b = b') (hd : d = d') :
    pointOf x g u cw yn yg wb wg bg wo a b d = pointOf x g u cw yn yg wb wg bg wo a' b' d' := by
  rw [ha, hb, hd]

/-- An entry of a normalised row of a block, scaled by the gain. -/
def rowNormed (x : Vec Ideal S512x1024 .f32) (g : Vec Ideal S1x1024 .f32) (r : Fin 512) (k : Fin 1024) : EReal :=
  x (ix2 r k) * Ideal.rsqrt (Ideal.div (∑ l : Fin 1024, x (ix2 r l) * x (ix2 r l)) (Ideal.ofBits .f32 0x44800000#32)
      + Ideal.ofBits .f32 0x358637BD#32) * g (ix2 0 k)

/-- An entry of a block's gates. -/
def rowGate (x : Vec Ideal S512x1024 .f32) (g : Vec Ideal S1x1024 .f32) (wg : Vec Ideal S1024x3072 .bf16)
    (bg : Vec Ideal S1x3072 .f32) (r : Fin 512) (k : Fin 3072) : EReal :=
  Ideal.logistic (∑ l : Fin 1024, rowNormed x g r l * wg (ix2 l k) + bg (ix2 0 k))

/-- What a point computes, at an index. -/
theorem pointValue_apply (x : Vec Ideal S512x1024 .f32) (g : Vec Ideal S1x1024 .f32) (u : Vec Ideal S512x1536 .f32)
    (cw : Vec Ideal S3x512 .f32) (yn yg : Vec Ideal S512x512 .f32) (wb : Vec Ideal S3x512x1024 .bf16)
    (wg : Vec Ideal S1024x3072 .bf16) (bg : Vec Ideal S1x3072 .f32) (wo : Vec Ideal S1024x1024 .bf16)
    (e : Vec Ideal S520x512 .f32) (r : Fin 512) (j : Fin 1024) :
    pointValue x g u cw yn yg wb wg bg wo e (ix2 r j)
      = x (ix2 r j) + ∑ d : Fin 1024,
          (rowGate x g wg bg r ⟨d.val, by omega⟩ * ∑ k : Fin 512, u (ix2 r ⟨k.val, by omega⟩)
                * (cw (ix2 0 k) * e (ix2 ⟨6 + r.val, by omega⟩ k) + cw (ix2 1 k) * e (ix2 ⟨7 + r.val, by omega⟩ k)
                  + cw (ix2 2 k) * e (ix2 ⟨8 + r.val, by omega⟩ k)) * wb (ix3 0 k d)
            + rowGate x g wg bg r ⟨1024 + d.val, by omega⟩ * ∑ k : Fin 512, yn (ix2 r k) * wb (ix3 1 k d)
            + rowGate x g wg bg r ⟨2048 + d.val, by omega⟩ * ∑ k : Fin 512, yg (ix2 r k) * wb (ix3 2 k d))
          * wo (ix2 d j) := by
  unfold pointValue pointOf rowGate rowNormed
  pointwise [k0_pay1, k0_pay10, k0_pay6, k0_pay7, k0_pay8, k0_pay9, k0_pay5, k0_pay11]

variable (m : (ℓ : Loc nD τ sig) → Buf (Elt Ideal) ℓ)

/-- A load of the kept buffer, after stores that leave `e` in it, reads `e`. -/
theorem loads_tile {L : List (View.Piece (Elt Ideal) S520x512 .f32)} {e : Vec Ideal S520x512 .f32} (h : View.canon L = e)
    (r : Rect S520x512) : (View.whole cc0_scratch0).readCov L r.toLoadRect = View.ld e r := by
  rw [View.readCov_eq_canon', h]
  rfl

/-- What a grid point leaves in the result's staging buffer. -/
theorem point_eq (c : Dev nD) (t : Fin cfg0.N) :
    (dats m 0 c).after 10 t = pointValue (iblk m c 0 t) (iblk m c 1 t) (X0_2 m c t) (iblk m c 3 t) (iblk m c 4 t)
      (iblk m c 5 t) (iblk m c 6 t) (iblk m c 7 t) (iblk m c 8 t) (iblk m c 9 t)
      (tile (m ((c : Thread nD τ).loc main_arg2)) t.val) := by
  rw [after0_10]
  by_cases h : t.val % 8 = 0
  · rw [outsAt0_A m c t h fun h' => h' h]
    frame_out
    have e := loads_tile (canon_first m c t h)
    exact pointOf_congr _ _ _ _ _ _ _ _ _ _ (e _) (e _) (e _)
  · rw [outsAt0_B m c t h h]
    frame_out
    simp only [read_unread_whole]
    have e := loads_tile (canon_later m c t h _ (scratch_eq m c (t.val - 1) (by omega)))
    exact pointOf_congr _ _ _ _ _ _ _ _ _ _ (e _) (e _) (e _)

/-- The result array after the run. -/
theorem final_eq (c : Dev nD) : (dats m 0 c).arrAt 10 cfg0.N
    = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  rw [point_eq]
  obtain ⟨r, j, rfl⟩ : ∃ (r : Fin 512) (j : Fin 1024), y = ix2 r j := ⟨y 0, y 1, eq_ix2 y⟩
  blk_simp [index10 t]
  refine (pointValue_apply _ _ _ _ _ _ _ _ _ _ _ r j).trans
    (Eq.trans ?_ (congrArg (merged _ _ _ _ _ _ _ _ _ _) (emb10 t r j)).symm)
  show _ = entry _ _ _ _ _ _ _ _ _ _ (rowOf t r) j
  unfold entry mixed firstBranch gate normed rowGate rowNormed
  simp only [rows_apply, gain_apply, proj_apply, conv_apply, second_apply, third_apply, branch_apply, gates_apply,
    bias_apply, out_apply]
  simp only [tile_tap _ t r _ 0 (by omega) ⟨6 + r.val, by omega⟩ rfl, tile_tap _ t r _ 1 (by omega) ⟨7 + r.val, by omega⟩ rfl,
    tile_tap _ t r _ 2 (by omega) ⟨8 + r.val, by omega⟩ rfl]

end Cert.Merge
-- ==== Proof.Merge.Reference.lean ====
/-
  The merge's reference computes the same function of its arguments (`merged`): its convolution is three shifted products
  over each sequence with two rows of zeros in front, its branches' products are one batched product, and its gates' sum
  runs over the three branches.
-/
module

public import proofs.«01_k».proof.Proof.Gen.Reference3Ideal.Run
public import proofs.«01_k».proof.Proof.Merge.Spec
public import Idealize.ShloMosaic.Lib.KernelVsHost

@[expose] public section

set_option maxRecDepth 16384

noncomputable section

namespace Cert.Merge

open Idealize.ShloMosaic Idealize.ShloMosaic.TcCoe Idealize.SL.Sem

/-- A tap before the token, as the shifted products with two rows of zeros in front read it. -/
theorem tap_earlier (u : Vec Ideal Cert.Kernel3Ideal.S65536x4992 .f32) (s : ℕ) (hs : s < 2) (i : Fin 65536) (k : Fin 512) (q : ℕ)
    (hq : q = s + i.val % 4096) (z : EReal) (hz : z = 0) :
    (if h : i.val / 4096 < 16 ∧ 2 ≤ q ∧ q - 2 < 4096 then
        u (ix2 ⟨i.val / 4096 * 4096 + (q - 2), by omega⟩ ⟨512 + k.val, by omega⟩)
          * u (ix2 ⟨i.val / 4096 * 4096 + (q - 2), by omega⟩ ⟨1024 + k.val, by omega⟩)
      else z) = tap u s i k := by
  subst hq hz
  unfold tap
  have hi := i.isLt
  by_cases h : i.val % 4096 + s < 2
  · rw [dif_neg (by omega), if_pos h]
  · have e : i.val / 4096 * 4096 + (s + i.val % 4096 - 2) = i.val + s - 2 := by omega
    rw [dif_pos (by omega), if_neg h, gated, dif_pos (by omega)]
    simp only [e]

/-- The tap at the token itself. -/
theorem tap_same (u : Vec Ideal Cert.Kernel3Ideal.S65536x4992 .f32) (i : Fin 65536) (k : Fin 512) (z : EReal) :
    (if h : i.val / 4096 < 16 ∧ i.val % 4096 < 4096 then
        u (ix2 i ⟨512 + k.val, by omega⟩) * u (ix2 i ⟨1024 + k.val, by omega⟩)
      else z) = tap u 2 i k := by
  unfold tap
  have hi := i.isLt
  rw [dif_pos (by omega), if_neg (by omega), gated, dif_pos (by omega)]
  rfl

/-- Equal taps give equal products of the first branch. -/
theorem taps_congr {a w0 w1 w2 p0 p1 p2 q0 q1 q2 b : EReal} (h0 : p0 = q0) (h1 : p1 = q1) (h2 : p2 = q2) :
    a * (w0 * p0 + w1 * p1 + w2 * p2) * b = a * (w0 * q0 + w1 * q1 + w2 * q2) * b := by
  rw [h0, h1, h2]

/-- Equal sums of branches give equal entries of the result. -/
theorem sum_congr_out (a : EReal) {f g w : Fin 1024 → EReal} (h : ∀ d, f d = g d) :
    a + ∑ d, f d * w d = a + ∑ d, g d * w d := by
  simp only [h]

/-- The reference's result is `merged` of its arguments. -/
theorem reference_eq (m : (ℓ : Loc Cert.Reference3Ideal.nD Cert.Reference3Ideal.τ Cert.Reference3Ideal.sig) → Buf (Elt Ideal) ℓ) (c : Dev Cert.Reference3Ideal.nD) :
    Cert.Reference3Ideal.Value.res_out0 m c
      = merged (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3))
          (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5))
          (m ((c.tc : Thread Cert.Reference3Ideal.nD Cert.Reference3Ideal.τ).loc Cert.Reference3Ideal.main_arg6))
          (m ((c.tc : Thread Cert.Reference3Ideal.nD Cert.Reference3Ideal.τ).loc Cert.Reference3Ideal.main_arg7))
          (m ((c.tc : Thread Cert.Reference3Ideal.nD Cert.Reference3Ideal.τ).loc Cert.Reference3Ideal.main_arg8))
          (m ((c.tc : Thread Cert.Reference3Ideal.nD Cert.Reference3Ideal.τ).loc Cert.Reference3Ideal.main_arg9)) := by
  funext y
  obtain ⟨i, j, rfl⟩ : ∃ (i : Fin 65536) (j : Fin 1024), y = ix2 i j := ⟨y 0, y 1, eq_ix2 y⟩
  unfold Cert.Reference3Ideal.Value.res_out0 Cert.Reference3Ideal.Value.res_main_v62 merged entry mixed firstBranch gate normed
  pointwise
  refine sum_congr_out _ fun d => ?_
  simp only [Fin.sum_univ_three]
  refine congrArg₂ (· + ·) (congrArg₂ (· + ·) (congrArg₂ (· * ·) ?_ (Finset.sum_congr rfl fun k _ => ?_))
    (congrArg₂ (· * ·) ?_ (Finset.sum_congr rfl fun k _ => ?_))) (congrArg₂ (· * ·) ?_ (Finset.sum_congr rfl fun k _ => ?_))
  · simp only [show ((0 : Fin 3).val * 1024 + d.val) = d.val by simp]
    rfl
  · rw [dif_pos (by decide), mul_comm]
    exact taps_congr (tap_earlier _ 0 (by omega) i k _ (by omega) _ (sitofp_zero (φ := .f32)))
      (tap_earlier _ 1 (by omega) i k _ rfl _ (sitofp_zero (φ := .f32))) (tap_same _ i k _)
  · simp only [show ((1 : Fin 3).val * 1024 + d.val) = 1024 + d.val by simp]
    rfl
  · rw [dif_neg (by decide), dif_pos (by decide), mul_comm]
  · simp only [show ((2 : Fin 3).val * 1024 + d.val) = 2048 + d.val by simp]
    rfl
  · rw [dif_neg (by decide), dif_neg (by decide), mul_comm]

end Cert.Merge
-- ==== Proof.Combine.Rows.lean ====
/- The rows of the combination: the experts' rows by number, the rows of an on-chip buffer, and what a copy of one row leaves. Geometry only; no program runs here. -/
module

public import proofs.«01_k».proof.Proof.Gen.Kernel4Ideal.Launch
public import proofs.«01_k».proof.Proof.Gen.Kernel4Ideal.Skeleton
public import proofs.«01_k».proof.Proof.Gen.Kernel4Ideal.Loops
public import Idealize.ShloMosaic.Lib.Batch
public import Idealize.ShloMosaic.Lib.Pipeline.FrameValue
public import Idealize.ShloMosaic.Lib.ValueLayout
public import Idealize.ShloMosaic.Lib.Ring
public import Idealize.ShloMosaic.Lib.Tactic

@[expose] public section

set_option maxRecDepth 16384

noncomputable section

namespace Cert.Combine

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Lane `l` of the experts' row `n`. -/
abbrev eix (n : Fin 147456) (l : Fin 1024) : S147456x1x1024.Idx := ix3 n (0 : Fin 1) l
/-- Lane `l` of row `n` of an on-chip buffer. -/
abbrev lix (n : Fin 512) (l : Fin 1024) : S512x1x1024.Idx := ix3 n (0 : Fin 1) l
/-- Entry `a` of the table. -/
abbrev tix (a : Fin 131072) : S131072.Idx := ix1 a

/-- Every index of an on-chip buffer is a row and a lane. -/
theorem lix_eta (y : S512x1x1024.Idx) : y = lix (y 0) (y 2) := by
  funext a; fin_cases a
  · rfl
  · exact Subsingleton.elim (α := Fin 1) _ _
  · rfl

/-- A row number keeps a single row inside the experts' rows. -/
theorem erow_inb (n : ℕ) (h : n < 147456) : ∀ a, (![n, 0, 0] : Fin 3 → ℕ) a + S1x1x1024.size a ≤ S147456x1x1024.size a := by
  intro a; fin_cases a
  · show n + 1 ≤ 147456; omega
  · show 0 + 1 ≤ 1; omega
  · show 0 + 1024 ≤ 1024; omega
/-- A row number keeps a single row inside an on-chip buffer. -/
theorem lrow_inb (r : Fin 512) : ∀ a, (![r.val, 0, 0] : Fin 3 → ℕ) a + S1x1x1024.size a ≤ S512x1x1024.size a := by
  have := r.isLt; intro a; fin_cases a
  · show r.val + 1 ≤ 512; omega
  · show 0 + 1 ≤ 1; omega
  · show 0 + 1024 ≤ 1024; omega

/-- The experts' row `n`, as the kernel spells a copy's source. -/
def erow (n : ℕ) (h : n < 147456) : Memref sig .tc .hbm S1x1024 .f32 :=
  ((Memref.whole main_arg1).slice (Rect.unit (s := S147456x1x1024) ![n, 0, 0] S1x1x1024.size (erow_inb n h)) (fun _ => rfl)).squeeze S1x1024 squeezes_S1x1x1024_S1x1024
/-- Row `r` of an on-chip buffer, as the kernel spells a copy's destination. -/
def lrow (m : Memref sig .tc .vmem S512x1x1024 .f32) (r : Fin 512) : Memref sig .tc .vmem S1x1024 .f32 :=
  (m.slice (Rect.unit (s := S512x1x1024) ![r.val, 0, 0] S1x1x1024.size (lrow_inb r)) (fun _ => rfl)).squeeze S1x1024 squeezes_S1x1x1024_S1x1024

/-- An on-chip buffer's row as a set of the buffer's indices. -/
def lrect (r : Fin 512) : Finset S512x1x1024.Idx := (Rect.unit (s := S512x1x1024) ![r.val, 0, 0] S1x1x1024.size (lrow_inb r)).set

/-- An index is in row `r` when its first coordinate is `r`. -/
theorem mem_lrect (r : Fin 512) (y : S512x1x1024.Idx) : y ∈ lrect r ↔ (y 0).val = r.val := by
  unfold lrect
  rw [Rect.mem_set_unit]
  have h1 : (y 1).val < 1 := (y 1).isLt
  have h2 : (y 2).val < 1024 := (y 2).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 1; omega
    · show 0 ≤ (y 2).val ∧ (y 2).val < 0 + 1024; omega

/-- A row's cells, through the buffer's memref. -/
theorem lrow_set (m : Memref sig .tc .vmem S512x1x1024 .f32) (r : Fin 512) : (lrow m r).view.set = (lrect r).map m.view.emb :=
  (View.set_reshape _ _).trans (View.set_slice _ _)

/-- Two rows are disjoint. -/
theorem lrow_disjoint (m : Memref sig .tc .vmem S512x1x1024 .f32) : ∀ r r' : Fin 512, r ≠ r' → Disjoint (lrow m r).view.set (lrow m r').view.set := by
  intro r r' h
  have hd : Disjoint (lrect r) (lrect r') := by
    rw [Finset.disjoint_left]
    intro y hy hy'; rw [mem_lrect] at hy hy'; exact h (Fin.ext (hy.symm.trans hy'))
  have hm := (Finset.disjoint_map m.view.emb).2 hd
  rw [lrow_set, lrow_set]
  exact hm

/-- The rows make up the buffer. -/
theorem lrow_cover (m : Memref sig .tc .vmem S512x1x1024 .f32) : Finset.univ.biUnion (fun r => (lrow m r).view.set) = m.view.set := by
  ext i
  refine ⟨fun h => ?_, fun h => ?_⟩
  · have ⟨r, _, hr⟩ := Finset.mem_biUnion.1 h
    rw [lrow_set] at hr
    have ⟨y, _, hy⟩ := Finset.mem_map.1 hr
    exact Finset.mem_map.2 ⟨y, Finset.mem_univ _, hy⟩
  · have ⟨y, _, hy⟩ := Finset.mem_map.1 h
    refine Finset.mem_biUnion.2 ⟨(y 0 : Fin 512), Finset.mem_univ _, ?_⟩
    have e := lrow_set m (y 0 : Fin 512)
    rw [e]
    exact Finset.mem_map.2 ⟨y, (mem_lrect _ _).mpr rfl, hy⟩

/-- The one row of a `1 × 1024` block, by lane. -/
abbrev rix (l : Fin 1024) : S1x1024.Idx := ix2 (0 : Fin 1) l

/-- Every index of one row is a lane. -/
theorem rix_eta (x : S1x1024.Idx) : x = rix (x 1) := by
  funext a; fin_cases a
  · exact Subsingleton.elim (α := Fin 1) _ _
  · rfl

/-- The element of the experts' row `n` under lane `l`. -/
theorem erow_emb (n : ℕ) (h : n < 147456) (l : Fin 1024) : (erow n h).view.emb (rix l) = eix ⟨n, h⟩ l := by
  have e := reshapeEquiv_ix2_1ab (a := 1) (b := 1024) (show (⟨2, ![1, 1024]⟩ : Shape).numel = (⟨3, ![1, 1, 1024]⟩ : Shape).numel from squeezes_S1x1x1024_S1x1024.numel_eq) (0 : Fin 1) l
  show (Rect.unit (s := S147456x1x1024) ![n, 0, 0] S1x1x1024.size (erow_inb n h)).emb (Shape.reshapeEquiv _ (rix l)) = _
  rw [e]
  funext a; apply Fin.ext; fin_cases a
  · show n + 1 * 0 = n; omega
  · show 0 + 1 * 0 = 0; omega
  · show 0 + 1 * l.val = l.val; omega

/-- The element of row `r` of an on-chip buffer under lane `l`. -/
theorem lrow_emb (m : Memref sig .tc .vmem S512x1x1024 .f32) (r : Fin 512) (l : Fin 1024) : (lrow m r).view.emb (rix l) = m.view.emb (lix r l) := by
  have e := reshapeEquiv_ix2_1ab (a := 1) (b := 1024) (show (⟨2, ![1, 1024]⟩ : Shape).numel = (⟨3, ![1, 1, 1024]⟩ : Shape).numel from squeezes_S1x1x1024_S1x1024.numel_eq) (0 : Fin 1) l
  show m.view.emb ((Rect.unit (s := S512x1x1024) ![r.val, 0, 0] S1x1x1024.size (lrow_inb r)).emb (Shape.reshapeEquiv _ (rix l))) = _
  rw [e]
  refine congrArg m.view.emb ?_
  funext a; apply Fin.ext; fin_cases a
  · show r.val + 1 * 0 = r.val; omega
  · show 0 + 1 * 0 = 0; omega
  · show 0 + 1 * l.val = l.val; omega

/-- The experts' row `n`, read through the row's own view. -/
theorem erow_read (n : ℕ) (h : n < 147456) (y : main_arg1.ty.Contents (Elt F)) (l : Fin 1024) : (erow n h).view.read (Elt F) y (rix l) = y (eix ⟨n, h⟩ l) :=
  congrArg y (erow_emb n h l)

/-- A copy of the experts' row `n` to row `r`: on that row the buffer is as when it is all written at `x`, if `x` has that row. -/
theorem copy_row (n : ℕ) (h : n < 147456) (m : Memref sig .tc .vmem S512x1x1024 .f32) (r : Fin 512) (f f₀ : m.view.ty.Contents (Elt F))
    (y : main_arg1.ty.Contents (Elt F)) (x : Vec F S512x1x1024 .f32) (hx : ∀ l, x (lix r l) = y (eix ⟨n, h⟩ l)) :
    ∀ i ∈ (lrow m r).view.set, (lrow m r).view.write (Elt F) f ((erow n h).view.read (Elt F) y) Finset.univ i = m.view.write (Elt F) f₀ x Finset.univ i := by
  intro i hi
  have ⟨z, _, hz⟩ := Finset.mem_map.1 hi
  have hz' : (lrow m r).view.emb (rix (z 1)) = i := (congrArg _ (rix_eta z).symm).trans hz
  subst hz'
  have e1 : ∀ g : (lrow m r).view.ty.Contents (Elt F), (lrow m r).view.write (Elt F) g ((erow n h).view.read (Elt F) y) Finset.univ ((lrow m r).view.emb (rix (z 1))) = _ :=
    fun g => View.write_emb_of_mem _ _ (Finset.mem_univ _)
  have e2 : m.view.write (Elt F) f₀ x Finset.univ (m.view.emb (lix r (z 1))) = _ := View.write_emb_of_mem _ _ (Finset.mem_univ _)
  refine (e1 f).trans ?_
  refine Eq.trans ?_ ((congrArg (m.view.write (Elt F) f₀ x Finset.univ) (lrow_emb m r (z 1))).trans e2).symm
  rw [hx (z 1), ← erow_read n h y (z 1)]
  rfl

end Cert.Combine
-- ==== Proof.Combine.Trip.lean ====
/- One trip of the combination's loop: two words read, two copies of an expert's row started. -/
module

public import proofs.«01_k».proof.Proof.Combine.Rows

@[expose] public section

set_option maxRecDepth 16384

noncomputable section

namespace Cert.Combine

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The credit of one row's copy. -/
def N : ℕ := cc0_scratch0.dmaCredit S1x1024 .f32

/-- A row's credit is positive. -/
theorem N_pos : 0 < N := by unfold N; decide +kernel
/-- A row copied to the second buffer has the same credit. -/
theorem N_second : cc0_scratch1.dmaCredit S1x1024 .f32 = N := by unfold N; decide +kernel
/-- A wait for the first buffer takes the credits of 512 rows. -/
theorem wait_credit : cc0_scratch0.dmaCredit S512x1x1024 .f32 = 512 * N := by unfold N; decide +kernel
/-- So does a wait for the second. -/
theorem wait_credit' : cc0_scratch1.dmaCredit S512x1x1024 .f32 = 512 * N := by unfold N; decide +kernel

/-- The buffer of the rows of each token's first expert. -/
abbrev buf0 : Memref sig .tc .vmem S512x1x1024 .f32 := Memref.whole cc0_scratch0
/-- The buffer of the rows of each token's second expert. -/
abbrev buf1 : Memref sig .tc .vmem S512x1x1024 .f32 := Memref.whole cc0_scratch1

/-- What is left of the full share once `n` copies have each taken half of what was left to them. -/
def left : ℕ → PosShare TreeShare
  | 0 => fullShare
  | n + 1 => (left n).right
/-- The share of the experts' rows the `n`th copy of a grid point reads at. -/
def part (n : ℕ) : PosShare TreeShare := (left n).left

/-- The token, in its block of 512, that the `j`th copy is for. -/
def half (j : Fin 1024) : Fin 512 := ⟨j.val / 2, by omega⟩

/-- The row the `j`th copy of grid point `t` reads, out of the table. -/
def src (tb : main_arg0.ty.Contents (Elt F)) (t : Fin 128) (j : Fin 1024) : ℕ := (tb (tix ⟨1024 * t.val + j.val, by omega⟩) : BitVec 32).toNat

section

variable (c : Dev nD) (y : main_arg1.ty.Contents (Elt F))
variable (tb : main_arg0.ty.Contents (Elt F)) (t : Fin 128) (hd : ∀ j, src tb t j < 147456)

/-- The elements of the experts' row `n`. -/
def eset (n : ℕ) (h : n < 147456) : Finset (Idx ((Memref.whole main_arg1).view.loc (c : Thread nD τ))) := (erow n h).view.set

/-- The elements of row `r` of a buffer. -/
def lset (m : Memref sig .tc .vmem S512x1x1024 .f32) (r : Fin 512) : Finset (Idx (m.view.loc (c : Thread nD τ))) := (lrow m r).view.set

/-- What the even copies (`p = 0`) or the odd ones (`p = 1`) of a grid point bring: each token's row. -/
def fetched (p : Fin 2) : Vec F S512x1x1024 .f32 := fun x =>
  y (eix ⟨src tb t ⟨2 * (x 0 : Fin 512).val + p.val, by have h : (x 0).val < 512 := (x 0).isLt; have := p.isLt; show 2 * (x 0).val + p.val < 1024; omega⟩, hd _⟩ (x 2))

/-- What the `j`th copy holds: its row of the even or the odd buffer, and a share of the row it reads. -/
def copyAt (f0 : buf0.view.ty.Contents (Elt F)) (f1 : buf1.view.ty.Contents (Elt F)) (j : Fin 1024) : sProp 𝕄 :=
  iprop((if j.val % 2 = 0 then (buf0.view.loc (c : Thread nD τ) ↦[lset c buf0 (half j)]{fullShare} f0)
      else (buf1.view.loc (c : Thread nD τ) ↦[lset c buf1 (half j)]{fullShare} f1))
    ∗ ((Memref.whole main_arg1).view.loc (c : Thread nD τ) ↦[eset c (src tb t j) (hd j)]{part j.val} y))

/-- A copy's state can be stored in an invariant. -/
instance (f0 : buf0.view.ty.Contents (Elt F)) (f1 : buf1.view.ty.Contents (Elt F)) (j : Fin 1024) :
    BI.Storable (upEmb : UEmb _ 𝕄) (copyAt c y tb t hd f0 f1 j) := by
  unfold copyAt
  split <;> infer_instance

/-- The copies of one grid point in flight: `j` started, `u` units waited for. -/
abbrev flight (f0 : buf0.view.ty.Contents (Elt F)) (f1 : buf1.view.ty.Contents (Elt F)) (j u : ℕ) : sProp 𝕄 :=
  Transfers.Batch (countersEmb (U := Pipeline.UD sig nD τ)) (c : Thread nD τ) (.dma cc0_scratch2.sem) () N (copyAt c y tb t hd f0 f1) j u

/-- The table, held at a share. -/
abbrev tableAt (q : PosShare TreeShare) : sProp 𝕄 := (Memref.whole main_arg0).view.loc (c : Thread nD τ) ↦{q} tb

/-- The first buffer with every row fetched. -/
abbrev full0 (f0 : buf0.view.ty.Contents (Elt F)) : buf0.view.ty.Contents (Elt F) := buf0.view.write (Elt F) f0 (fetched y tb t hd 0) Finset.univ
/-- The second buffer with every row fetched. -/
abbrev full1 (f1 : buf1.view.ty.Contents (Elt F)) : buf1.view.ty.Contents (Elt F) := buf1.view.write (Elt F) f1 (fetched y tb t hd 1) Finset.univ

/-- Before trip `k`: the first `2 k` copies started, what the others need in hand, the table. -/
def tripInv (q : PosShare TreeShare) (f0 : buf0.view.ty.Contents (Elt F)) (f1 : buf1.view.ty.Contents (Elt F)) (k : ℕ) : sProp 𝕄 :=
  iprop(flight c y tb t hd (full0 y tb t hd f0) (full1 y tb t hd f1) (2 * k) 0
    ∗ bigSep (Ring.rangeSet 1024 (2 * k) 1024) (copyAt c y tb t hd f0 f1) ∗ tableAt c tb q)

/-- A copy starts: its row of the buffer and its share of the row it reads go into the copies in flight. -/
theorem wp_copy (𝒱 : Variants) (bd : Option 𝒱.V) {α : Type} {Q : α → sProp 𝕄} (M : Memref sig .tc .vmem S512x1x1024 .f32) (r : Fin 512)
    (f f₀ : M.view.ty.Contents (Elt F)) (x : Vec F S512x1x1024 .f32) (n : ℕ) (hn : n < 147456) (q : PosShare TreeShare)
    (hx : ∀ l, x (lix r l) = y (eix ⟨n, hn⟩ l))
    (D : Fin 1024 → sProp 𝕄) [∀ j, BI.Storable (upEmb : UEmb _ 𝕄) (D j)] (j : Fin 1024)
    (hN : (lrow M r).view.amount (.dma cc0_scratch2.sem) = N)
    (hD : iprop((M.view.loc (c : Thread nD τ) ↦[lset c M r]{fullShare} M.view.write (Elt F) f₀ x Finset.univ)
      ∗ ((Memref.whole main_arg1).view.loc (c : Thread nD τ) ↦[eset c n hn]{q} y)) ⊢ D j)
    {s : Memref sig .tc .hbm S1x1024 .f32} {d : Memref sig .tc .vmem S1x1024 .f32} (hs : s = erow n hn) (hd' : d = lrow M r)
    {hsrc : s.view.WordExact} {hdst : d.view.WordExact} {hsem : DmaTarget.Typed (τ := τ) (nD := nD) (p := (c : Thread nD τ).2) .hbm (.dma cc0_scratch2.sem) (.here d)}
    {k : PUnit → Prog (TpuEff nD τ sig (Elt F) Λ₀ .tc) α} :
    iprop(Transfers.Batch (countersEmb (U := Pipeline.UD sig nD τ)) (c : Thread nD τ) (.dma cc0_scratch2.sem) () N D j.val 0
        ∗ (M.view.loc (c : Thread nD τ) ↦[lset c M r]{fullShare} f) ∗ ((Memref.whole main_arg1).view.loc (c : Thread nD τ) ↦[eset c n hn]{q} y))
      ⊢ iprop((Transfers.Batch (countersEmb (U := Pipeline.UD sig nD τ)) (c : Thread nD τ) (.dma cc0_scratch2.sem) () N D (j.val + 1) 0
          -∗ wp frame (wpE defs₀ 𝒱 (c : Thread nD τ) bd) Set.univ (k ⟨⟩) Q)
        -∗ wp frame (wpE defs₀ 𝒱 (c : Thread nD τ) bd) Set.univ (.op (.enqueueDma s (.here d) (.dma cc0_scratch2.sem) hsrc hdst hsem) k) Q) := by
  subst hs hd'
  iintro ⟨HB, Hd, Hs⟩ Hk
  iapply (Transfers.wp_dmaBatch (countersEmb (U := Pipeline.UD sig nD τ)) 𝒱 (c : Thread nD τ) bd (src := erow n hn) (dst := lrow M r)
    (q := q) (fs := y) (Sd := lset c M r) (fd := f) (D := D) (j := j.val) (u := 0) () N hN
    (Finset.Subset.refl _) j.isLt (Nat.zero_le _) ?_) $$ [Hs Hd HB] [Hk]
  · exact (sep_mono (Entails.of_eq (pointsTo_congr fun i hi => copy_row (F := F) n hn M r f f₀ y x hx i hi)) .rfl).trans hD
  · isplitl [Hs]; · iexact Hs
    isplitl [Hd]; · iexact Hd
    iexact HB
  · iexact Hk

/-- A word of the table, as the kernel reads it. -/
theorem word_read {off : Fin 1 → ℕ} (n : Fin 131072) (h : off = ![n.val]) (p : ∀ a, off a + S1.size a ≤ S131072.size a)
    (x : (Rect.unit (s := S131072) off S1.size p).shape.Idx) :
    ((Memref.whole main_arg0).access (Rect.unit (s := S131072) off S1.size p)).read (Elt F) tb x = tb (tix n) := by
  subst h
  refine congrArg tb ?_
  funext a; apply Fin.ext; fin_cases a
  have hx : (x 0).val < 1 := (x 0).isLt
  show n.val + 1 * (x 0).val = n.val
  omega

/-- The table's word read: the program goes on at that word. -/
theorem wp_word (𝒱 : Variants) (bd : Option 𝒱.V) {α : Type} {Q : α → sProp 𝕄} {off : Fin 1 → ℕ} (n : Fin 131072) (h : off = ![n.val])
    {p : ∀ a, off a + S1.size a ≤ S131072.size a} {hl} (q : PosShare TreeShare)
    {k : ((Rect.unit (s := S131072) off S1.size p).shape.Idx → Elt F .i32) → Prog (TpuEff nD τ sig (Elt F) Λ₀ .tc) α} :
    tableAt c tb q
      ⊢ iprop((tableAt c tb q -∗ wp frame (wpE defs₀ 𝒱 (c : Thread nD τ) bd) Set.univ (k (fun _ => tb (tix n))) Q)
        -∗ wp frame (wpE defs₀ 𝒱 (c : Thread nD τ) bd) Set.univ
            (.op (.load (Memref.whole main_arg0) (Rect.unit (s := S131072) off S1.size p) hl) k) Q) := by
  have e : ((Memref.whole main_arg0).access (Rect.unit (s := S131072) off S1.size p)).read (Elt F) tb = fun _ => tb (tix n) :=
    funext (word_read tb n h p)
  rw [show k (fun _ => tb (tix n)) = k (((Memref.whole main_arg0).access (Rect.unit (s := S131072) off S1.size p)).read (Elt F) tb) from congrArg k e.symm]
  exact wp_load_rect (defs := defs₀ (F := F)) 𝒱 (c : Thread nD τ) bd (Γ := .empty) Set.univ (Q := Q) (m := Memref.whole main_arg0)
    (r := Rect.unit (s := S131072) off S1.size p) (hl := hl) (k := k) (S := Finset.univ) (q := q) (f := tb) (Finset.subset_univ _)

/-- The loop makes 512 trips. -/
theorem trips_eq : k0_t1_loop.trips = 512 := by decide +kernel

/-- What an even copy holds. -/
theorem copyAt_even (f0 : buf0.view.ty.Contents (Elt F)) (f1 : buf1.view.ty.Contents (Elt F)) (k : ℕ) (hk : k < 512) :
    copyAt c y tb t hd f0 f1 ⟨2 * k, by omega⟩ = iprop((buf0.view.loc (c : Thread nD τ) ↦[lset c buf0 ⟨k, hk⟩]{fullShare} f0)
      ∗ ((Memref.whole main_arg1).view.loc (c : Thread nD τ) ↦[eset c (src tb t ⟨2 * k, by omega⟩) (hd _)]{part (2 * k)} y)) := by
  unfold copyAt
  rw [if_pos (show (2 * k) % 2 = 0 by omega), show half ⟨2 * k, by omega⟩ = ⟨k, hk⟩ from Fin.ext (show 2 * k / 2 = k by omega)]

/-- What an odd copy holds. -/
theorem copyAt_odd (f0 : buf0.view.ty.Contents (Elt F)) (f1 : buf1.view.ty.Contents (Elt F)) (k : ℕ) (hk : k < 512) :
    copyAt c y tb t hd f0 f1 ⟨2 * k + 1, by omega⟩ = iprop((buf1.view.loc (c : Thread nD τ) ↦[lset c buf1 ⟨k, hk⟩]{fullShare} f1)
      ∗ ((Memref.whole main_arg1).view.loc (c : Thread nD τ) ↦[eset c (src tb t ⟨2 * k + 1, by omega⟩) (hd _)]{part (2 * k + 1)} y)) := by
  unfold copyAt
  rw [if_neg (show ¬ (2 * k + 1) % 2 = 0 by omega), show half ⟨2 * k + 1, by omega⟩ = ⟨k, hk⟩ from Fin.ext (show (2 * k + 1) / 2 = k by omega)]

variable (a2 : Memref sig .tc .vmem S512x128 .f32) (h2 : a2.IsWhole) (a3 : Memref sig .tc .vmem S512x1024 .f32) (h3 : a3.IsWhole)
variable (a4 : Memref sig .tc .vmem S512x1024 .f32) (h4 : a4.IsWhole)

/-- One trip: from the token's two copies still to come to both started. -/
theorem trip (𝒱 : Variants) (bd : Option 𝒱.V) (i : grid0.Coords) (hi : (i 0).val = t.val) (q : PosShare TreeShare)
    (f0 : buf0.view.ty.Contents (Elt F)) (f1 : buf1.view.ty.Contents (Elt F)) (k : Fin k0_t1_loop.trips) (a : Unit) :
    iprop(tripInv c y tb t hd q f0 f1 k.val) ⊢
      wp frame (wpE defs₀ 𝒱 (c : Thread nD τ) bd) Set.univ
        (k0_t1_body (F := F) i (Memref.whole main_arg0) (Memref.isWhole_whole _) (Memref.whole main_arg1) (Memref.isWhole_whole _) a2 h2 a3 h3 a4 h4
          buf0 (Memref.isWhole_whole _) buf1 (Memref.isWhole_whole _) cc0_scratch2 k a)
        (fun _ => tripInv c y tb t hd q f0 f1 (k.val + 1)) := by
  have hk : k.val < 512 := lt_of_lt_of_eq k.isLt trips_eq
  unfold tripInv
  rw [Ring.bigSep_rangeSet_head (Φ := copyAt c y tb t hd f0 f1) (lo := 2 * k.val) (by omega) (by omega),
    Ring.bigSep_rangeSet_head (Φ := copyAt c y tb t hd f0 f1) (lo := 2 * k.val + 1) (by omega) (by omega),
    show 2 * (k.val + 1) = 2 * k.val + 1 + 1 by omega, copyAt_even (hk := hk), copyAt_odd (hk := hk)]
  iintro ⟨HB, ⟨⟨H0, S0⟩, ⟨H1, S1⟩, Hs⟩, HT⟩
  simp only [k0_t1_body, smemLoad, smemLoadElt, Prog.lift, Prog.bind_op, Prog.bind_ret, Prog.pure_eq_ret, Prog.bind_assoc]
  have e1 : k0_off1 i k = ![(⟨1024 * t.val + 2 * k.val, by omega⟩ : Fin 131072).val] := by rw [k0_off1_eq, hi]
  have e4 : k0_off4 i k = ![(⟨1024 * t.val + (2 * k.val + 1), by omega⟩ : Fin 131072).val] := by rw [k0_off4_eq, hi]; rfl
  iapply (wp_word c tb 𝒱 bd ⟨1024 * t.val + 2 * k.val, by omega⟩ e1 q) $$ HT
  iintro HT
  generalize hv : (tb (tix ⟨1024 * t.val + 2 * k.val, by omega⟩) : BitVec 32) = v
  have hv' : k0_off3 v = ![src tb t ⟨2 * k.val, by omega⟩, 0, 0] := by unfold src; rw [hv]; rfl
  have hc : k0_chk1 v := by unfold k0_chk1; rw [hv']; exact erow_inb _ (hd _)
  iapply (wp_assume 𝒱 (c : Thread nD τ) bd Set.univ (P := k0_chk1 v) hc)
  iapply (wp_copy c y 𝒱 bd buf0 ⟨k.val, hk⟩ f0 f0 (fetched y tb t hd 0) (src tb t ⟨2 * k.val, by omega⟩) (hd _) (part (2 * k.val)) (fun _ => rfl)
    (copyAt c y tb t hd (full0 y tb t hd f0) (full1 y tb t hd f1)) ⟨2 * k.val, by omega⟩ rfl (Entails.of_eq (copyAt_even c y tb t hd _ _ k.val hk).symm)
    (congrArg (fun z => Memref.squeeze z S1x1024 squeezes_S1x1x1024_S1x1024) (Memref.slice_unit_congr (Memref.whole main_arg1) hv' _ _ _ _))
    (congrArg (fun z => Memref.squeeze z S1x1024 squeezes_S1x1x1024_S1x1024) (Memref.slice_unit_congr buf0 (k0_off2_eq k) _ _ _ _))) $$ [HB H0 S0]
  · isplitl [HB]; · iexact HB
    isplitl [H0]; · iexact H0
    iexact S0
  iintro HB
  iapply (wp_word c tb 𝒱 bd ⟨1024 * t.val + (2 * k.val + 1), by omega⟩ e4 q) $$ HT
  iintro HT
  generalize hw : (tb (tix ⟨1024 * t.val + (2 * k.val + 1), by omega⟩) : BitVec 32) = w
  have hw' : k0_off6 w = ![src tb t ⟨2 * k.val + 1, by omega⟩, 0, 0] := by unfold src; rw [hw]; rfl
  have hc' : k0_chk2 w := by unfold k0_chk2; rw [hw']; exact erow_inb _ (hd _)
  iapply (wp_assume 𝒱 (c : Thread nD τ) bd Set.univ (P := k0_chk2 w) hc')
  iapply (wp_copy c y 𝒱 bd buf1 ⟨k.val, hk⟩ f1 f1 (fetched y tb t hd 1) (src tb t ⟨2 * k.val + 1, by omega⟩) (hd _) (part (2 * k.val + 1)) (fun _ => rfl)
    (copyAt c y tb t hd (full0 y tb t hd f0) (full1 y tb t hd f1)) ⟨2 * k.val + 1, by omega⟩ N_second (Entails.of_eq (copyAt_odd c y tb t hd _ _ k.val hk).symm)
    (congrArg (fun z => Memref.squeeze z S1x1024 squeezes_S1x1x1024_S1x1024) (Memref.slice_unit_congr (Memref.whole main_arg1) hw' _ _ _ _))
    (congrArg (fun z => Memref.squeeze z S1x1024 squeezes_S1x1x1024_S1x1024) (Memref.slice_unit_congr buf1 (k0_off5_eq k) _ _ _ _))) $$ [HB H1 S1]
  · isplitl [HB]; · iexact HB
    isplitl [H1]; · iexact H1
    iexact S1
  iintro HB
  sl_step
  isplitl [HB]; · iexact HB
  isplitl [Hs]; · iexact Hs
  iexact HT

end

end Cert.Combine
-- ==== Proof.Combine.Body.lean ====
/- The combination at one grid point: the experts' rows shared out among the copies, the loop, the two waits, the shares put together,
   and the block computed from what was fetched. -/
module

public import proofs.«01_k».proof.Proof.Combine.Trip
public import Idealize.ShloMosaic.Lib.Pipeline.FrameBody
public import Idealize.ShloMosaic.Lib.VecWindow
public import Idealize.ShloMosaic.Lib.WholeRead

@[expose] public section

set_option maxRecDepth 16384

noncomputable section

namespace Cert.Combine

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable (c : Dev nD) (y : main_arg1.ty.Contents (Elt F))
variable (tb : main_arg0.ty.Contents (Elt F)) (t : Fin 128) (hd : ∀ j, src tb t j < 147456)

/-- The experts' rows, all of them, held at a share. -/
abbrev rowsAt (q : PosShare TreeShare) : sProp 𝕄 := (Memref.whole main_arg1).view.loc (c : Thread nD τ) ↦{q} y

/-- The experts' rows held whole are the first `n` copies' shares and what is left. -/
theorem share_out (n : ℕ) : (rowsAt c y fullShare : sProp 𝕄) ⊣⊢ iprop((bigSep (Finset.range n) fun j => rowsAt c y (part j)) ∗ rowsAt c y (left n)) := by
  induction n with
  | zero =>
    rw [Finset.range_zero, bigSep_empty]
    constructor
    · iintro H
      isplitr; · iempintro
      iexact H
    · iintro ⟨-, H⟩
      iexact H
  | succ n ih =>
    rw [show (bigSep (Finset.range (n + 1)) fun j => rowsAt c y (part j) : sProp 𝕄) = iprop(rowsAt c y (part n) ∗ bigSep (Finset.range n) fun j => rowsAt c y (part j)) by
      rw [Finset.range_add_one]; exact BI.bigSep_insert Finset.notMem_range_self]
    have e : (rowsAt c y (left n) : sProp 𝕄) ⊣⊢ iprop(rowsAt c y (part n) ∗ rowsAt c y (left (n + 1))) := pointsTo_share (PosShare.mem_left_op_right (left n))
    constructor
    · refine ih.1.trans ((sep_mono .rfl e.1).trans ?_)
      iintro ⟨H1, H2, H3⟩
      isplitl [H1 H2]
      · isplitl [H2]; · iexact H2
        iexact H1
      iexact H3
    · refine BIBase.Entails.trans ?_ ((sep_mono .rfl e.2).trans ih.2)
      iintro ⟨⟨H2, H1⟩, H3⟩
      isplitl [H1]; · iexact H1
      isplitl [H2]; · iexact H2
      iexact H3

/-- What the copies of a grid point leave of the experts' rows: of each copy's share all but the row it reads, and the share left over. -/
def restAt : sProp 𝕄 :=
  iprop((bigSep Finset.univ fun j : Fin 1024 => ((Memref.whole main_arg1).view.loc (c : Thread nD τ) ↦[Finset.univ \ eset c (src tb t j) (hd j)]{part j.val} y))
    ∗ rowsAt c y (left 1024))

/-- The experts' rows held whole are the row each copy reads, at its share, and the rest. -/
theorem rows_split : (rowsAt c y fullShare : sProp 𝕄)
    ⊣⊢ iprop((bigSep Finset.univ fun j : Fin 1024 => ((Memref.whole main_arg1).view.loc (c : Thread nD τ) ↦[eset c (src tb t j) (hd j)]{part j.val} y)) ∗ restAt c y tb t hd) := by
  have e1 : (bigSep (Finset.range 1024) fun j => rowsAt c y (part j) : sProp 𝕄) = bigSep Finset.univ fun j : Fin 1024 => rowsAt c y (part j.val) :=
    (Ring.bigSep_fin_eq_range 1024 _ _ fun _ _ => rfl).symm
  have e2 : ∀ j : Fin 1024, (rowsAt c y (part j.val) : sProp 𝕄) ⊣⊢ iprop(((Memref.whole main_arg1).view.loc (c : Thread nD τ) ↦[eset c (src tb t j) (hd j)]{part j.val} y)
      ∗ ((Memref.whole main_arg1).view.loc (c : Thread nD τ) ↦[Finset.univ \ eset c (src tb t j) (hd j)]{part j.val} y)) :=
    fun j => pointsTo_split_subset (Finset.subset_univ _)
  have e3 : (bigSep Finset.univ fun j : Fin 1024 => iprop(((Memref.whole main_arg1).view.loc (c : Thread nD τ) ↦[eset c (src tb t j) (hd j)]{part j.val} y)
      ∗ ((Memref.whole main_arg1).view.loc (c : Thread nD τ) ↦[Finset.univ \ eset c (src tb t j) (hd j)]{part j.val} y)) : sProp 𝕄)
      = iprop((bigSep Finset.univ fun j : Fin 1024 => ((Memref.whole main_arg1).view.loc (c : Thread nD τ) ↦[eset c (src tb t j) (hd j)]{part j.val} y))
        ∗ bigSep Finset.univ fun j : Fin 1024 => ((Memref.whole main_arg1).view.loc (c : Thread nD τ) ↦[Finset.univ \ eset c (src tb t j) (hd j)]{part j.val} y)) :=
    BI.bigSep_sep _ _ _
  have h := share_out c y 1024
  rw [e1] at h
  unfold restAt
  constructor
  · refine h.1.trans ((sep_mono ((BI.bigSep_mono fun j _ => (e2 j).1).trans (Entails.of_eq e3)) .rfl).trans ?_)
    iintro ⟨⟨H1, H2⟩, H3⟩
    isplitl [H1]; · iexact H1
    isplitl [H2]; · iexact H2
    iexact H3
  · refine BIBase.Entails.trans ?_ ((sep_mono ((Entails.of_eq e3.symm).trans (BI.bigSep_mono fun j _ => (e2 j).2)) .rfl).trans h.2)
    iintro ⟨H1, H2, H3⟩
    isplitl [H1 H2]
    · isplitl [H1]; · iexact H1
      iexact H2
    iexact H3

/-- Row `i` of a buffer, nothing for a number that is no row. -/
def rowN (M : Memref sig .tc .vmem S512x1x1024 .f32) (f : M.view.ty.Contents (Elt F)) (i : ℕ) : sProp 𝕄 :=
  if h : i < 512 then iprop(M.view.loc (c : Thread nD τ) ↦[lset c M ⟨i, h⟩]{fullShare} f) else iprop(emp)

/-- A buffer held whole is its rows. -/
theorem buf_rows (M : Memref sig .tc .vmem S512x1x1024 .f32) (f : M.view.ty.Contents (Elt F)) :
    (M.view.loc (c : Thread nD τ) ↦[M.view.set]{fullShare} f : sProp 𝕄) = bigSep (Finset.range 512) (rowN c M f) := by
  rw [← Ring.bigSep_fin_eq_range 512 (fun r => iprop(M.view.loc (c : Thread nD τ) ↦[lset c M r]{fullShare} f)) (rowN c M f) (fun i h => by unfold rowN; rw [dif_pos h])]
  exact Ring.pointsTo_sub_blocks (lset c M) (lrow_disjoint M) M.view.set (lrow_cover M) f

/-- The two buffers and the rows to read are what the copies hold. -/
theorem copies_split (f0 : buf0.view.ty.Contents (Elt F)) (f1 : buf1.view.ty.Contents (Elt F)) :
    (bigSep Finset.univ (copyAt c y tb t hd f0 f1) : sProp 𝕄)
      = iprop(((buf0.view.loc (c : Thread nD τ) ↦[buf0.view.set]{fullShare} f0) ∗ (buf1.view.loc (c : Thread nD τ) ↦[buf1.view.set]{fullShare} f1))
        ∗ bigSep Finset.univ fun j : Fin 1024 => ((Memref.whole main_arg1).view.loc (c : Thread nD τ) ↦[eset c (src tb t j) (hd j)]{part j.val} y)) := by
  have e : (bigSep Finset.univ (copyAt c y tb t hd f0 f1) : sProp 𝕄)
      = iprop((bigSep Finset.univ (Ring.interleaved 512 (rowN c buf0 f0) (rowN c buf1 f1)))
        ∗ bigSep Finset.univ fun j : Fin 1024 => ((Memref.whole main_arg1).view.loc (c : Thread nD τ) ↦[eset c (src tb t j) (hd j)]{part j.val} y)) := by
    refine Eq.trans (BI.bigSep_congr fun j _ => ?_) (BI.bigSep_sep _ _ _)
    unfold copyAt Ring.interleaved rowN half
    have hj : j.val / 2 < 512 := by have := j.isLt; omega
    rw [dif_pos hj, dif_pos hj]
    rfl
  rw [e, Ring.bigSep_interleaved, buf_rows, buf_rows]

/-- A whole block loaded is what the buffer reads. -/
theorem load_eq {s : Shape} {e : EltTy} {M : Memref sig .tc .vmem s e} (h : M.IsWhole) (X : s.Idx → Elt F e) {off : Fin s.rank → ℕ}
    (inb : ∀ a, off a + s.size a ≤ s.size a) : View.readAt (Elt F) M.view (Rect.unit (s := s) off s.size inb).toLoadRect (h.unread X) = X := by
  funext x
  rw [h.readAt_unread]
  refine congrArg X ?_
  funext a
  apply Fin.ext
  have : off a = 0 := by have := inb a; omega
  show off a + 1 * (x a).val = (x a).val
  omega

variable (a2 : Memref sig .tc .vmem S512x128 .f32) (h2 : a2.IsWhole) (a3 : Memref sig .tc .vmem S512x1024 .f32) (h3 : a3.IsWhole)
variable (a4 : Memref sig .tc .vmem S512x1024 .f32) (h4 : a4.IsWhole)

set_option maxHeartbeats 1000000 in
/-- One grid point: from the token's record `x2` and its residual `x3`, the block is what the kernel computes from them and the rows fetched;
    everything else is as before but the two buffers. -/
theorem point (i : grid0.Coords) (hi : (i 0).val = t.val) (q : PosShare TreeShare)
    (x2 : Vec F S512x128 .f32) (x3 : Vec F S512x1024 .f32) (W : Waits sig Unit) :
    iprop((∃ f0 : buf0.view.ty.Contents (Elt F), buf0.view.loc (c : Thread nD τ) ↦[buf0.view.set]{fullShare} f0)
        ∗ (∃ f1 : buf1.view.ty.Contents (Elt F), buf1.view.loc (c : Thread nD τ) ↦[buf1.view.set]{fullShare} f1) ∗ rowsAt c y fullShare
        ∗ owns (c : Thread nD τ) a2 fullShare x2 ∗ owns (c : Thread nD τ) a3 fullShare x3 ∗ (∃ d, owns (c : Thread nD τ) a4 fullShare d)
        ∗ tableAt c tb q ∗ semVal ((c : Thread nD τ), SemLoc.dma cc0_scratch2.sem) 0 ∗ owes (c : Thread nD τ) 0 W)
      ⊢ wp (M := 𝕄) frame (wpE (defs₀ (F := F)) Variants.none (c : Thread nD τ) none) Set.univ
        (cc0_moe_combine (F := F) i (Memref.whole main_arg0) (Memref.isWhole_whole _) (Memref.whole main_arg1) (Memref.isWhole_whole _) a2 h2 a3 h3 a4 h4
          buf0 (Memref.isWhole_whole _) buf1 (Memref.isWhole_whole _) cc0_scratch2)
        (fun _ => iprop((∃ f0 : buf0.view.ty.Contents (Elt F), buf0.view.loc (c : Thread nD τ) ↦[buf0.view.set]{fullShare} f0)
          ∗ (∃ f1 : buf1.view.ty.Contents (Elt F), buf1.view.loc (c : Thread nD τ) ↦[buf1.view.set]{fullShare} f1) ∗ rowsAt c y fullShare
          ∗ owns (c : Thread nD τ) a2 fullShare x2 ∗ owns (c : Thread nD τ) a3 fullShare x3
          ∗ owns (c : Thread nD τ) a4 fullShare (k0_pay1 x2 (fetched y tb t hd 0) (fetched y tb t hd 1) x3)
          ∗ tableAt c tb q ∗ semVal ((c : Thread nD τ), SemLoc.dma cc0_scratch2.sem) 0 ∗ ∃ W', owes (c : Thread nD τ) 0 W')) := by
  rw [cc0_moe_combine_eq_skeleton]
  iintro ⟨⟨%f0, HA⟩, ⟨%f1, HB⟩, HY, H2, H3, H4, HT, HS, HO⟩
  ihave HY' := (rows_split c y tb t hd).1 $$ HY
  icases HY' with ⟨HY, HR⟩
  ihave HD := (Entails.of_eq (copies_split c y tb t hd f0 f1).symm) $$ [HA HB HY]
  · isplitr [HY]
    · isplitl [HA]; · iexact HA
      iexact HB
    iexact HY
  imod (Transfers.batch_alloc' (Lvl := ℕ) (countersEmb (U := Pipeline.UD sig nD τ)) (c : Thread nD τ) (n := 1024) () N
    (copyAt c y tb t hd (full0 y tb t hd f0) (full1 y tb t hd f1)) (sm := SemLoc.dma cc0_scratch2.sem) (E := Set.univ)) $$ HS with HB
  unfold cc0_moe_combine_skel
  sl_for (fun k _ => tripInv c y tb t hd q f0 f1 k) $$ [HB HD HT]
  · intro k a
    exact trip c y tb t hd a2 h2 a3 h3 a4 h4 Variants.none none i hi q f0 f1 k a
  · unfold tripInv
    rw [Nat.mul_zero, Ring.rangeSet_univ]
    isplitl [HB]; · iexact HB
    isplitl [HD]; · iexact HD
    iexact HT
  iintro %a HI
  unfold tripInv
  rw [show Scf.trips k0_t1_loop.lb k0_t1_loop.ub k0_t1_loop.st = 512 from trips_eq]
  icases HI with ⟨HB, -, HT⟩
  unfold point.sl.prog.cont_1
  simp only [Prog.lift, Prog.bind_op, Prog.bind_ret, Prog.pure_eq_ret]
  iapply (Transfers.wp_waitBatchMul (countersEmb (U := Pipeline.UD sig nD τ)) Variants.none (c : Thread nD τ) none (n := 1024) () (N := N) 512 wait_credit
    (D := copyAt c y tb t hd (full0 y tb t hd f0) (full1 y tb t hd f1)) (j := 2 * 512) (u := 0) (by omega) (W := W)) $$ [HB HO]
  · isplitl [HB]; · iexact HB
    iexact HO
  iintro ⟨HB, HO⟩
  iapply (Transfers.wp_waitBatchAll (countersEmb (U := Pipeline.UD sig nD τ)) Variants.none (c : Thread nD τ) none (n := 1024) () (N := N) (J := 512 * N) wait_credit' N_pos
    (D := copyAt c y tb t hd (full0 y tb t hd f0) (full1 y tb t hd f1)) (u := 0 + 512 * N) (by omega)) $$ [HB HO]
  · isplitl [HB]; · iexact HB
    iexact HO
  iintro ⟨HD, HS, HO⟩
  ihave HD' := (Entails.of_eq (copies_split c y tb t hd (full0 y tb t hd f0) (full1 y tb t hd f1))) $$ HD
  icases HD' with ⟨⟨HA, HB⟩, HY⟩
  ihave HY' := (rows_split c y tb t hd).2 $$ [HY HR]
  · isplitl [HY]; · iexact HY
    iexact HR
  have w0 : buf0.IsWhole := Memref.isWhole_whole _
  have w1 : buf1.IsWhole := Memref.isWhole_whole _
  rw [show full0 y tb t hd f0 = w0.unread (fetched y tb t hd 0) from w0.eq_unread (View.read_write_univ ..),
    show full1 y tb t hd f1 = w1.unread (fetched y tb t hd 1) from w1.eq_unread (View.read_write_univ ..)]
  unfold owns
  icases H2 with ⟨%g2, %hg2, H2⟩
  icases H3 with ⟨%g3, %hg3, H3⟩
  icases H4 with ⟨%d4, %g4, -, H4⟩
  obtain rfl := h2.eq_unread hg2; obtain rfl := h3.eq_unread hg3
  sl_exec
  sl_step
  isplitl [HA]; · iexists _; iexact HA
  isplitl [HB]; · iexists _; iexact HB
  isplitl [HY']; · iexact HY'
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    unfold point.sl.v5 point.sl.v7
    rw [View.read_writes_full, load_eq, load_eq, load_eq, load_eq]
  isplitl [HT]; · iexact HT
  isplitl [HS]; · iexact HS
  iexists _; iexact HO

end

end Cert.Combine
-- ==== Proof.Combine.Run.lean ====
/- The combination run whole: the pipeline's data, its body at every grid point, and the run of the program. -/
module

public import proofs.«01_k».proof.Proof.Combine.Body
public import Idealize.ShloMosaic.Lib.Pipeline.ValueKit.Geometry
public import Idealize.ShloMosaic.Lib.ValueLayout

@[expose] public section

set_option maxRecDepth 16384

noncomputable section

namespace Cert.Combine

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values

variable (tb : main_arg0.ty.Contents (Elt F))

/-- The row assignment `a` is fetched from, out of the table. -/
def place (a : Fin 131072) : ℕ := (tb (tix a) : BitVec 32).toNat

/-- Every assignment's row is one of the experts' rows. -/
def Within : Prop := ∀ a, place tb a < 147456

/-- The `j`th copy of point `t` is assignment `1024 * t + j`'s. -/
theorem src_lt {tb : main_arg0.ty.Contents (Elt F)} (hA : Within tb) (t : Fin 128) (j : Fin 1024) : src tb t j < 147456 := hA _

/-- The routing's record of a point's 512 tokens. -/
def recOf (R : main_arg2.ty.Contents (Elt F)) (t : Fin 128) : S512x128.Idx → Elt F .f32 :=
  fun x => R (ix2 ⟨512 * t.val + (x 0).val, by have : (x 0).val < 512 := (x 0).isLt; omega⟩ (x 1) : S65536x128.Idx)

/-- The residual stream at a point's 512 tokens. -/
def resOf (X : main_arg3.ty.Contents (Elt F)) (t : Fin 128) : S512x1024.Idx → Elt F .f32 :=
  fun x => X (ix2 ⟨512 * t.val + (x 0).val, by have : (x 0).val < 512 := (x 0).isLt; omega⟩ (x 1) : S65536x1024.Idx)

end Values

section Launch

variable (m : (ℓ : Loc nD τ sig) → Buf (Elt F) ℓ)

/-- The buffers when the region is entered: as launched. -/
def V (c : Dev nD) (b : Ref sig .tc) : Buf (Elt F) ((c.tc : Thread nD τ).loc b) := m ((c.tc : Thread nD τ).loc b)

/-- The launch contents of the table. -/
abbrev tbl (c : Dev nD) : main_arg0.ty.Contents (Elt F) := m ((c : Thread nD τ).loc main_arg0)
/-- The experts' rows at launch. -/
abbrev rows (c : Dev nD) : main_arg1.ty.Contents (Elt F) := m ((c : Thread nD τ).loc main_arg1)
/-- The routing's record at launch. -/
abbrev recs (c : Dev nD) : main_arg2.ty.Contents (Elt F) := m ((c : Thread nD τ).loc main_arg2)
/-- The residual stream at launch. -/
abbrev resid (c : Dev nD) : main_arg3.ty.Contents (Elt F) := m ((c : Thread nD τ).loc main_arg3)

/-- The table's contents as the pipeline takes them. -/
def pf : pre0.Contents (Elt F) := fun j => V m (0 : Dev nD) (pre0.ref j)
/-- The prefetched table is the table. -/
theorem V_pre (c : Dev nD) (j : Fin 1) : V m c (pre0.ref j) = pf m j := by
  obtain rfl : c = 0 := Subsingleton.elim _ _; rfl
/-- No index map reads the table, so any contents are admissible. -/
abbrev adm : (p : Fin 1) → (pcfgs (F := F) p).Adm := fun _ => ⟨pf m, trivial⟩

/-- The kernel's one semaphore of its own. -/
def osem : Unit → SemLoc sig := fun _ => SemLoc.dma cc0_scratch2.sem

/-- That semaphore is a scoped one and none of the windows'. -/
theorem ownFacts : Pipeline.OwnSemFacts spec0 osem := by decide

/-- The experts' rows are neither a window's array nor the table. -/
theorem held_rest : {main_arg1} ⊆ Pipeline.restRefsP sig pre0 spec0 := by decide

variable (hA : ∀ c, Within (tbl m c))

/-- What grid point `t` leaves in its block. -/
def block (c : Dev nD) (t : Fin grid0.N) : Vec F S512x1024 .f32 :=
  k0_pay1 (recOf (recs m c) (t.cast N_0)) (fetched (rows m c) (tbl m c) (t.cast N_0) (src_lt (hA c) _) 0)
    (fetched (rows m c) (tbl m c) (t.cast N_0) (src_lt (hA c) _) 1) (resOf (resid m c) (t.cast N_0))

/-- What the body holds at any grid point: the two buffers, the semaphore, the experts' rows, the table. -/
def Inv (c : Dev nD) : sProp 𝕄 := iprop(Pipeline.ΦDRG osem spec0 {main_arg1} ∅ (V m) (V m) c ∗ Pipeline.ΦT pre0 (pf m) c)

/-- The pipeline's data: the arrays at their launch contents, each input's buffer at its block, the output's at `block`. -/
def dats (p : Fin 1) (c : Dev nD) : Pipeline.Dat τ (Elt F) Unit ℕ (Pipeline.UD sig nD τ) ℕ (Pipeline.pin (pcfgs (F := F)) (adm m) p) c where
  A w := V m c (Pipeline.arrRef spec0 w)
  after := fun
    | 0 => fun t => recOf (recs m c) (t.cast N_0)
    | 1 => fun t => resOf (resid m c) (t.cast N_0)
    | 2 => fun t => block m hA c t
    | ⟨_ + 3, h⟩ => absurd h (Nat.not_lt.2 (Nat.le_add_left _ _))
  Φ _ := Inv m c
  q _ := fullShare
  owed _ := 0

/-- The invariant spelled out. -/
theorem Inv_eq (c : Dev nD) : Inv m c
    = iprop((((∃ f0 : buf0.view.ty.Contents (Elt F), buf0.view.loc (c : Thread nD τ) ↦[buf0.view.set]{fullShare} f0)
          ∗ (∃ f1 : buf1.view.ty.Contents (Elt F), buf1.view.loc (c : Thread nD τ) ↦[buf1.view.set]{fullShare} f1))
        ∗ (∃ r, prngReg c r) ∗ semVal ((c : Thread nD τ), SemLoc.dma cc0_scratch2.sem) 0 ∗ rowsAt c (rows m c) fullShare ∗ emp) ∗ tableAt c (tbl m c) fullShare.right) := by
  obtain rfl : c = 0 := Subsingleton.elim _ _
  unfold Inv
  simp only [View.set_whole]
  rw [Pipeline.ΦDRG_eq, scopedRest0_eq, bigSep_singleton]
  unfold Pipeline.ownSems0 Pipeline.ΦT Pipeline.prefHeld Pipeline.routed
  rw [show (Finset.univ : Finset Unit) = {()} from rfl, bigSep_singleton, show (Finset.univ : Finset (Fin 1)) = {(0 : Fin 1)} from by decide, bigSep_singleton, bigSep_empty]
  rfl

/-- The grid coordinate of a point is the point. -/
theorem coord_eq (t : Fin grid0.N) : (grid0.coords t 0).val = t.val := by
  have h : t.val < 128 := t.isLt.trans_eq N_0
  rw [Pipeline.Grid.coords_val t 0 (S := 1) (B := 128) (by decide) rfl]
  omega

/-- The record fetched at a point is its tokens'. -/
theorem block0_eq (c : Dev nD) (t : Fin grid0.N) : (dats m hA 0 c).blockOf 0 t = recOf (recs m c) (t.cast N_0) := by
  funext (x : S512x128.Idx)
  have h : t.val < 128 := t.isLt.trans_eq N_0
  show recs m c _ = recs m c _
  refine congrArg (recs m c) ?_
  funext a; apply Fin.ext
  fin_cases a
  · show cc0_transform_1 (grid0.coords t) 0 * 512 + 1 * (x 0).val = 512 * t.val + (x 0).val
    rw [show cc0_transform_1 (grid0.coords t) 0 = (BitVec.ofNat 32 (grid0.coords t 0).val).toNat from rfl, coord_eq, BitVec.toNat_ofNat]
    omega
  · show 0 * 128 + 1 * (x 1).val = (x 1).val
    omega

/-- The residual fetched at a point is its tokens'. -/
theorem block1_eq (c : Dev nD) (t : Fin grid0.N) : (dats m hA 0 c).blockOf 1 t = resOf (resid m c) (t.cast N_0) := by
  funext (x : S512x1024.Idx)
  have h : t.val < 128 := t.isLt.trans_eq N_0
  show resid m c _ = resid m c _
  refine congrArg (resid m c) ?_
  funext a; apply Fin.ext
  fin_cases a
  · show cc0_transform_2 (grid0.coords t) 0 * 512 + 1 * (x 0).val = 512 * t.val + (x 0).val
    rw [show cc0_transform_2 (grid0.coords t) 0 = (BitVec.ofNat 32 (grid0.coords t 0).val).toNat from rfl, coord_eq, BitVec.toNat_ofNat]
    omega
  · show 0 * 1024 + 1 * (x 1).val = (x 1).val
    omega

/-- The record's buffer holds its block when the body runs. -/
theorem before0_eq (c : Dev nD) (t : Fin grid0.N) (d) : (dats m hA 0 c).before 0 t d = recOf (recs m c) (t.cast N_0) := by
  rw [Pipeline.Dat.before_in_eq_fetched (dats m hA 0 c) 0 rfl (fun _ => rfl) (fun _ _ _ => rfl) (fun t => (block0_eq m hA c t).symm) t d, ← block0_eq m hA c t]
  rfl
/-- So does the residual's. -/
theorem before1_eq (c : Dev nD) (t : Fin grid0.N) (d) : (dats m hA 0 c).before 1 t d = resOf (resid m c) (t.cast N_0) := by
  rw [Pipeline.Dat.before_in_eq_fetched (dats m hA 0 c) 1 rfl (fun _ => rfl) (fun _ _ _ => rfl) (fun t => (block1_eq m hA c t).symm) t d, ← block1_eq m hA c t]
  rfl

/-- The body at every grid point. -/
theorem body (c : Dev nD) : Pipeline.BodyObligationLoose (dats m hA 0 c) (defs₀ (F := F)) Variants.none () Set.univ := by
  intro t
  rw [bigSep_W0, bigSep_W0]
  show iprop(Inv m c ∗ Pipeline.owesWithin c 0 _
      ∗ (∃ d, owns (c : Thread nD τ) (spec0_0.stage ((Pipeline.pin (pcfgs (F := F)) (adm m) 0).slots t 0)) fullShare ((dats m hA 0 c).before 0 t d))
      ∗ (∃ d, owns (c : Thread nD τ) (spec0_1.stage ((Pipeline.pin (pcfgs (F := F)) (adm m) 0).slots t 1)) fullShare ((dats m hA 0 c).before 1 t d))
      ∗ (∃ d, owns (c : Thread nD τ) (spec0_2.stage ((Pipeline.pin (pcfgs (F := F)) (adm m) 0).slots t 2)) fullShare ((dats m hA 0 c).before 2 t d)))
    ⊢ wp frame (wpE (defs₀ (F := F)) Variants.none (c : Thread nD τ) none) Set.univ
        (cc0_moe_combine (F := F) (grid0.coords t) (Memref.whole main_arg0) (Memref.isWhole_whole _) (Memref.whole main_arg1) (Memref.isWhole_whole _)
          (spec0_0.stage ((Pipeline.pin (pcfgs (F := F)) (adm m) 0).slots t 0)) (hstage0_0 (((Pipeline.pin (pcfgs (F := F)) (adm m) 0).slots t 0).cast nbuf0_0))
          (spec0_1.stage ((Pipeline.pin (pcfgs (F := F)) (adm m) 0).slots t 1)) (hstage0_1 (((Pipeline.pin (pcfgs (F := F)) (adm m) 0).slots t 1).cast nbuf0_1))
          (spec0_2.stage ((Pipeline.pin (pcfgs (F := F)) (adm m) 0).slots t 2)) (hstage0_2 (((Pipeline.pin (pcfgs (F := F)) (adm m) 0).slots t 2).cast nbuf0_2))
          (Memref.whole cc0_scratch0) (Memref.isWhole_whole _) (Memref.whole cc0_scratch1) (Memref.isWhole_whole _) cc0_scratch2)
        fun _ => iprop(Inv m c ∗ Pipeline.owesWithin c 0 _
          ∗ owns (c : Thread nD τ) (spec0_0.stage ((Pipeline.pin (pcfgs (F := F)) (adm m) 0).slots t 0)) fullShare (recOf (recs m c) (t.cast N_0))
          ∗ owns (c : Thread nD τ) (spec0_1.stage ((Pipeline.pin (pcfgs (F := F)) (adm m) 0).slots t 1)) fullShare (resOf (resid m c) (t.cast N_0))
          ∗ owns (c : Thread nD τ) (spec0_2.stage ((Pipeline.pin (pcfgs (F := F)) (adm m) 0).slots t 2)) fullShare (block m hA c t))
  simp only [before0_eq, before1_eq]
  rw [Inv_eq]
  iintro ⟨⟨⟨⟨HA, HB⟩, HP, HS, HY, -⟩, HT⟩, ⟨%W, -, HO⟩, ⟨%d0, H0⟩, ⟨%d1, H1⟩, ⟨%d2, H2⟩⟩
  ihave Hw := (point c (rows m c) (tbl m c) (t.cast N_0) (src_lt (hA c) _) _ (hstage0_0 (((Pipeline.pin (pcfgs (F := F)) (adm m) 0).slots t 0).cast nbuf0_0))
    _ (hstage0_1 (((Pipeline.pin (pcfgs (F := F)) (adm m) 0).slots t 1).cast nbuf0_1)) _ (hstage0_2 (((Pipeline.pin (pcfgs (F := F)) (adm m) 0).slots t 2).cast nbuf0_2))
    (grid0.coords t) (coord_eq t) fullShare.right (recOf (recs m c) (t.cast N_0)) (resOf (resid m c) (t.cast N_0)) W) $$ [HA HB HY H0 H1 H2 HT HS HO]
  · isplitl [HA]; · iexact HA
    isplitl [HB]; · iexact HB
    isplitl [HY]; · iexact HY
    isplitl [H0]; · iexact H0
    isplitl [H1]; · iexact H1
    isplitl [H2]; · iexists _; iexact H2
    isplitl [HT]; · iexact HT
    isplitl [HS]; · iexact HS
    iexact HO
  iapply (wp_wand _ _ _) $$ Hw
  iintro %a ⟨HA, HB, HY, H0, H1, H2, HT, HS, %W', HO⟩
  isplitl [HA HB HP HS HY HT]
  · isplitr [HT]
    · isplitl [HA HB]
      · isplitl [HA]; · iexact HA
        iexact HB
      isplitl [HP]; · iexact HP
      isplitl [HS]; · iexact HS
      isplitl [HY]; · iexact HY
      iempintro
    iexact HT
  isplitl [HO]
  · iexists W'
    isplitr; · ipureintro; exact fun _ _ => Or.inl trivial
    iexact HO
  isplitl [H0]; · iexact H0
  isplitl [H1]; · iexact H1
  unfold block
  iexact H2

/-- The result array: each grid point's block in its place. -/
def filled (c : Dev nD) : main_v0.ty.Contents (Elt F) := fun x =>
  block m hA c ⟨(x 0 : Fin 65536).val / 512, by rw [N_0]; have : (x 0 : Fin 65536).val < 65536 := (x 0).isLt; omega⟩
    (ix2 ⟨(x 0 : Fin 65536).val % 512, Nat.mod_lt _ (by omega)⟩ (x 1) : S512x1024.Idx)

/-- Every grid point's block of the result is written back. -/
theorem flushes : ∀ t : Fin grid0.N, Pipeline.Window.flushOf grid0 true cc0_transform_3 t = true := by decide +kernel

/-- Where grid point `t`'s block of the result lies. -/
theorem emb2_eq (t : Fin grid0.N) (x : S512x1024.Idx) :
    ((((Pipeline.pin (pcfgs (F := F)) (adm m) 0).win 2).blk t).view.emb x : S65536x1024.Idx)
      = ix2 ⟨512 * t.val + (x 0).val, by have : (x 0).val < 512 := (x 0).isLt; have : t.val < 128 := t.isLt.trans_eq N_0; omega⟩ (x 1) := by
  have h : t.val < 128 := t.isLt.trans_eq N_0
  funext a; apply Fin.ext
  fin_cases a
  · show cc0_transform_3 (grid0.coords t) 0 * 512 + 1 * (x 0).val = 512 * t.val + (x 0).val
    rw [show cc0_transform_3 (grid0.coords t) 0 = (BitVec.ofNat 32 (grid0.coords t 0).val).toNat from rfl, coord_eq, BitVec.toNat_ofNat]
    omega
  · show 0 * 1024 + 1 * (x 1).val = (x 1).val
    omega

/-- The result array at a token of a block. -/
theorem filled_at (c : Dev nD) (t : Fin grid0.N) (x : S512x1024.Idx) (h) :
    filled m hA c (ix2 ⟨512 * t.val + (x 0).val, h⟩ (x 1) : S65536x1024.Idx) = block m hA c t x := by
  have hx : (x 0).val < 512 := (x 0).isLt
  unfold filled
  refine congrArg₂ (block m hA c) (Fin.ext ?_) ?_
  · show (512 * t.val + (x 0).val) / 512 = t.val
    omega
  · funext a; apply Fin.ext
    fin_cases a
    · show (512 * t.val + (x 0).val) % 512 = (x 0).val
      omega
    · rfl

/-- An index of the result in grid point `t`'s block. -/
theorem mem2 (t : Fin grid0.N) (x : S512x1024.Idx) (i : S65536x1024.Idx)
    (h : (ix2 ⟨512 * t.val + (x 0).val, by have : (x 0).val < 512 := (x 0).isLt; have : t.val < 128 := t.isLt.trans_eq N_0; omega⟩ (x 1) : S65536x1024.Idx) = i) :
    i ∈ (((Pipeline.pin (pcfgs (F := F)) (adm m) 0).win 2).blk t).view.set :=
  Eq.subst (motive := fun z => z ∈ (((Pipeline.pin (pcfgs (F := F)) (adm m) 0).win 2).blk t).view.set) ((emb2_eq m t x).trans h)
    (View.emb_mem_set (((Pipeline.pin (pcfgs (F := F)) (adm m) 0).win 2).blk t).view x)

/-- The result array after the last grid point: every block in its place. -/
theorem arr2_eq (c : Dev nD) : (dats m hA 0 c).arrAt 2 (Pipeline.pin (pcfgs (F := F)) (adm m) 0).N = filled m hA c := by
  refine (dats m hA 0 c).arrAt_eq_of_emb 2 (filled m hA c) (fun t _ (x : S512x1024.Idx) => ?_) (fun (i : S65536x1024.Idx) => ?_)
  · exact ((congrArg (filled m hA c) (emb2_eq m t x)).trans (filled_at m hA c t x _)).symm
  · have hi : (i 0).val < 65536 := (i 0).isLt
    refine ⟨⟨(i 0).val / 512, by show _ < grid0.N; rw [N_0]; omega⟩, flushes _, ?_⟩
    refine mem2 m _ (ix2 ⟨(i 0).val % 512, Nat.mod_lt _ (by omega)⟩ (i 1) : S512x1024.Idx) i ?_
    funext a; apply Fin.ext
    fin_cases a
    · show 512 * ((i 0).val / 512) + (i 0).val % 512 = (i 0).val
      omega
    · rfl

/-- The table is no window of the pipeline. -/
theorem rest0 : main_arg0 ∈ Pipeline.restRefs sig spec0 \ ∅ := by decide
/-- Nor are the experts' rows. -/
theorem rest1 : main_arg1 ∈ Pipeline.restRefs sig spec0 \ ∅ := by decide

/-- The run: from any launch whose table names rows there are, every semaphore ends at zero, the arguments end unchanged, and the result
    array holds every token's block. -/
theorem run (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_v0) = filled m hA c)
      ∧ r.2.sem = fun _ => 0) := by
  refine Pipeline.θ_run_frameP_dmaRG (Q' := _) (pcfgs (F := F)) (adm m) (dats m hA) 0 launch0 osem defs₀ Variants.none
    ownFacts {main_arg1} ∅ held_rest (Finset.empty_subset _) m ρ main
    (body m hA) (fun c w => (dats m hA 0 c).share_full (fun _ => rfl) w) (fun _ _ => rfl) (V m)
    (Pipeline.hmainP_region (pcfgs (F := F)) 0 defs₀ Variants.none m main (fun c => main_chain c))
    (fun _ _ => rfl) (V_pre m) (V m) (fun _ => .rfl) (fun _ => sep_elim_left) ?_
  intro r h
  refine ⟨fun c => ⟨?_, ?_, ?_, ?_, ?_⟩, h.2⟩
  · exact (h.1.toR c).2 main_arg0 rest0
  · exact (h.1.toR c).2 main_arg1 rest1
  · have e := (h.1.toR c).1 0
    rw [Pipeline.Dat.arrAt_in _ _ rfl] at e
    exact e
  · have e := (h.1.toR c).1 1
    rw [Pipeline.Dat.arrAt_in _ _ rfl] at e
    exact e
  · exact ((h.1.toR c).1 2).trans (arr2_eq m hA c)

end Launch

end Cert.Combine
-- ==== Proof.Combine.Spec.lean ====
/-
  What the combination computes, as one function of the four arguments (`combined`). A token has two assignments, `2 n` and
  `2 n + 1`, each with a row of the experts' results and a weight, entry 4 or 5 of the token's record. The token's result is the
  residual stream plus the two rows by their weights.
-/
module

public import proofs.«01_k».proof.Proof.Gen.Kernel4Ideal
public import Idealize.ShloMosaic.Lib.Pointwise
public import Idealize.ShloMosaic.Lib.ValueLayout

@[expose] public section

set_option maxRecDepth 16384

noncomputable section

namespace Cert.Combine

open Cert.Kernel4Ideal Idealize.ShloMosaic

/-- Assignment `k` of token `n`. -/
def slot (n : Fin 65536) (k : Fin 2) : Fin 131072 := ⟨2 * n.val + k.val, by have := n.isLt; have := k.isLt; omega⟩

/-- Entry `j` of token `n`'s result. -/
def combinedAt (dest : Fin 131072 → Fin 147456) (Y : S147456x1x1024.Idx → EReal) (R : S65536x128.Idx → EReal) (X : S65536x1024.Idx → EReal) (n : Fin 65536) (j : Fin 1024) : EReal :=
  X (ix2 n j) + R (ix2 n (4 : Fin 128)) * Y (ix3 (dest (slot n 0)) (0 : Fin 1) j) + R (ix2 n (5 : Fin 128)) * Y (ix3 (dest (slot n 1)) (0 : Fin 1) j)

/-- The tokens' results. -/
def combined (dest : Fin 131072 → Fin 147456) (Y : S147456x1x1024.Idx → EReal) (R : S65536x128.Idx → EReal) (X : S65536x1024.Idx → EReal) : S65536x1024.Idx → EReal :=
  fun z => combinedAt dest Y R X (z 0) (z 1)

end Cert.Combine
-- ==== Proof.Combine.Value.lean ====
/- The combination's kernel computes `combined` of its arguments. -/
module

public import proofs.«01_k».proof.Proof.Combine.Run
public import proofs.«01_k».proof.Proof.Combine.Spec

@[expose] public section

set_option maxRecDepth 16384

noncomputable section

namespace Cert.Combine

open Cert.Kernel4Ideal Cert.Kernel4Ideal.Gen Idealize.ShloMosaic Idealize.ShloMosaic.TcCoe Idealize.SL.Sem

/-- What a point computes, at an index. -/
theorem pay1_apply (r : Vec Ideal S512x128 .f32) (a b : Vec Ideal S512x1x1024 .f32) (x : Vec Ideal S512x1024 .f32) (n : Fin 512) (j : Fin 1024) :
    (k0_pay1 r a b x (ix2 n j) : EReal)
      = x (ix2 n j) + r (ix2 n (4 : Fin 128)) * a (ix3 n (0 : Fin 1) j) + r (ix2 n (5 : Fin 128)) * b (ix3 n (0 : Fin 1) j) := by
  pointwise [k0_pay1]

/-- The row an assignment is fetched from. -/
def dest {tb : main_arg0.ty.Contents (Elt Ideal)} (hA : Within tb) (a : Fin 131072) : Fin 147456 := ⟨place tb a, hA a⟩

variable (m : (ℓ : Loc nD τ sig) → Buf (Elt Ideal) ℓ) (hA : ∀ c, Within (tbl m c))

/-- A point's fetched row is its token's assignment's. -/
theorem fetched_eq (c : Dev nD) (t : Fin 128) (r : Fin 512) (j : Fin 1024) (p : Fin 2) (n : Fin 65536) (hn : 512 * t.val + r.val = n.val) :
    fetched (rows m c) (tbl m c) t (src_lt (hA c) _) p (ix3 r (0 : Fin 1) j) = rows m c (ix3 (dest (hA c) (slot n p)) (0 : Fin 1) j : S147456x1x1024.Idx) := by
  unfold fetched
  refine congrArg (fun q : Fin 147456 => rows m c (ix3 q (0 : Fin 1) j : S147456x1x1024.Idx)) (Fin.ext ?_)
  show (tbl m c (tix _) : BitVec 32).toNat = (tbl m c (tix _) : BitVec 32).toNat
  refine congrArg (fun a : Fin 131072 => (tbl m c (tix a) : BitVec 32).toNat) (Fin.ext ?_)
  show 1024 * t.val + (2 * r.val + p.val) = 2 * n.val + p.val
  omega

/-- A point's block, at an index. -/
theorem block_apply (c : Dev nD) (t : Fin grid0.N) (r : Fin 512) (j : Fin 1024) (n : Fin 65536) (hn : 512 * t.val + r.val = n.val) :
    (block m hA c t (ix2 r j) : EReal) = combinedAt (dest (hA c)) (rows m c) (recs m c) (resid m c) n j := by
  unfold block
  refine (pay1_apply _ _ _ _ r j).trans ?_
  rw [fetched_eq m hA c (t.cast N_0) r j 0 n hn, fetched_eq m hA c (t.cast N_0) r j 1 n hn]
  have hb : 512 * t.val + r.val < 65536 := by have := n.isLt; omega
  obtain rfl : (⟨512 * t.val + r.val, hb⟩ : Fin 65536) = n := Fin.ext hn
  rfl

/-- The kernel's result array is `combined` of the arguments. -/
theorem filled_eq (c : Dev nD) : filled m hA c = combined (dest (hA c)) (rows m c) (recs m c) (resid m c) := by
  funext (y : S65536x1024.Idx)
  have hy : (y 0).val < 65536 := (y 0).isLt
  exact block_apply m hA c ⟨(y 0).val / 512, by rw [N_0]; omega⟩ ⟨(y 0).val % 512, Nat.mod_lt _ (by omega)⟩ (y 1) (y 0)
    (by show 512 * ((y 0).val / 512) + (y 0).val % 512 = (y 0).val; omega)

end Cert.Combine
-- ==== Proof.Combine.Reference.lean ====
/- The combination's reference computes `combined` of its arguments, and what its precondition says of the table. -/
module

public import proofs.«01_k».proof.Proof.Combine.Value
public import proofs.«01_k».proof.Proof.Gen.Reference4Ideal.Run
public import proofs.«01_k».proof.Proof.Gen.Pre_rows_exist
public import Idealize.ShloMosaic.Lib.KernelVsHost
public import Idealize.ShloMosaic.Lib.StableHlo.Predicate
public import Idealize.ShloMosaic.Lib.WordCmp

@[expose] public section

set_option maxRecDepth 16384

noncomputable section

namespace Cert.Combine

open Idealize.ShloMosaic Idealize.ShloMosaic.TcCoe Idealize.SL.Sem

section Pre

open Cert.Pre_rows_exist

/-- The precondition: every assignment names one of the experts' rows. -/
theorem within_of_pre {F : FTy → Type} [FloatOps F] (tb : IVec S131072 32) (Y : FVec F S147456x1x1024 .f32) (R : FVec F S65536x128 .f32) (X : FVec F S65536x1024 .f32)
    (h : Cert.Pre_rows_exist.fn (F := F) tb Y R X = fun _ => 1#1) : Within (F := F) tb := by
  intro b
  have e := congrFun h (ix1 b)
  unfold fn at e
  simp only [Idealize.ShloMosaic.andi, cmpi, IntOp.cmpi, WordCmp.andi_ofBool, StableHlo.Predicate.ofBool_eq_one_iff, Bool.and_eq_true] at e
  obtain ⟨e0, e1⟩ := e
  have e0' : (0#32).sle (tb (ix1 b)) = true := e0
  have e1' : (tb (ix1 b)).slt 147456#32 = true := e1
  show (tb (ix1 b)).toNat < 147456
  simp only [BitVec.sle, BitVec.slt, decide_eq_true_eq, BitVec.toInt, BitVec.toNat_ofNat] at e0' e1'
  have := (tb (ix1 b)).isLt
  omega

end Pre

section Reference

open Cert.Reference4Ideal Cert.Reference4Ideal.Gen

/-- The table by tokens: two assignments each. -/
def byToken (tb : IVec S131072 32) : IVec S65536x2 32 := shapeCast S65536x2 tb shapeCasts_S131072_S65536x2

/-- A token's assignment in the table. -/
theorem byToken_apply (tb : IVec S131072 32) (n : Fin 65536) (k : Fin 2) : byToken tb (ix2 n k) = tb (ix1 (slot n k)) := by
  unfold byToken
  pointwise
  refine congrArg (fun a : Fin 131072 => tb (ix1 a)) (Fin.ext ?_)
  show n.val * 2 + k.val = 2 * n.val + k.val
  omega

/-- The indices the reference takes the rows by: the table, a negative word taken from the end. -/
def words (tb : IVec S131072 32) : IVec S65536x2x1 32 :=
  broadcastInDim S65536x2x1 ![0, 1] bcast_S65536x2_S65536x2x1_0_1
    (select (cmpi .slt (byToken tb) (broadcastInDim S65536x2 ![] bcast_S_S65536x2 (constantI S_ 32 0#32)))
      (addi (byToken tb) (broadcastInDim S65536x2 ![] bcast_S_S65536x2 (constantI S_ 32 147456#32))) (byToken tb))

/-- Of a table that names rows there are, the index is the table's word. -/
theorem words_apply (tb : IVec S131072 32) (hA : Within (F := Ideal) tb) (n : Fin 65536) (k : Fin 2) : words tb (ix3 n k (0 : Fin 1)) = tb (ix1 (slot n k)) := by
  have h : (tb (ix1 (slot n k))).toNat < 147456 := hA (slot n k)
  have hs : (tb (ix1 (slot n k))).slt 0#32 = false := by
    simp only [BitVec.slt, decide_eq_false_iff_not, BitVec.toInt, BitVec.toNat_ofNat]
    omega
  rw [← byToken_apply tb n k] at hs ⊢
  unfold words
  pointwise
  show (if BitVec.ofBool ((byToken tb (ix2 n k)).slt 0#32) = 1#1 then _ else byToken tb (ix2 n k)) = byToken tb (ix2 n k)
  rw [hs, if_neg (by decide)]

/-- The tokens' rows, two each. -/
def taken (Y : S147456x1x1024.Idx → EReal) (e : Fin 131072 → Fin 147456) : S65536x2x1024.Idx → EReal := fun y => Y (ix3 (e (slot (y 0) (y 1))) (0 : Fin 1) (y 2))

/-- The rows as a matrix. -/
def flat (Y : FVec Ideal S147456x1x1024 .f32) : FVec Ideal S147456x1024 .f32 := shapeCast S147456x1024 Y shapeCasts_S147456x1x1024_S147456x1024

/-- An entry of the matrix. -/
theorem flat_apply (Y : FVec Ideal S147456x1x1024 .f32) (q : Fin 147456) (j : Fin 1024) : (flat Y (ix2 q j) : EReal) = Y (ix3 q (0 : Fin 1) j) := by
  pointwise [flat]

/-- Taking rows by the indices takes each token's two. -/
theorem taken_eq (tb : IVec S131072 32) (hA : Within (F := Ideal) tb) (Y : FVec Ideal S147456x1x1024 .f32) :
    Host.gather gather_S147456x1024_S65536x2x1_S65536x2x1024_2_0_n_n_0_2_11024 (flat Y) (words tb) = taken Y (dest hA) := by
  funext y
  obtain ⟨n, k, j, rfl⟩ : ∃ (n : Fin 65536) (k : Fin 2) (j : Fin 1024), y = ix3 n k j := ⟨y 0, y 1, y 2, eq_ix3 y⟩
  have h : (tb (ix1 (slot n k))).toNat < 147456 := hA (slot n k)
  refine Eq.trans (congrArg (flat Y) (?_ : _ = (ix2 (dest hA (slot n k)) j : S147456x1024.Idx))) (flat_apply Y _ _)
  funext a; apply Fin.ext
  match a with
  | ⟨0, _⟩ =>
    have hi : ∀ z : S65536x2x1.Idx, z = ix3 n k (0 : Fin 1) → min (words tb z).toInt.toNat 147455 = (tb (ix1 (slot n k))).toNat := by
      rintro z rfl
      rw [words_apply tb hA]
      simp only [BitVec.toInt]
      omega
    refine hi _ (funext fun a => Fin.ext ?_)
    match a with
    | ⟨0, _⟩ => rfl
    | ⟨1, _⟩ => rfl
    | ⟨2, _⟩ => rfl
  | ⟨1, _⟩ => show 0 + 0 + j.val = j.val; omega

/-- What the reference computes of its four arguments, its rows taken by `words`. -/
def result (tb : IVec S131072 32) (Y : FVec Ideal S147456x1x1024 .f32) (R : FVec Ideal S65536x128 .f32) (X : FVec Ideal S65536x1024 .f32) : FVec Ideal S65536x1024 .f32 :=
  addf X (Host.reduceAdd (mulf (broadcastInDim S65536x2x1024 ![0, 1, 2] bcast_S65536x2x1_S65536x2x1024_0_1_2 (broadcastInDim S65536x2x1 ![0, 1] bcast_S65536x2_S65536x2x1_0_1
      (extractStridedSlice S65536x2 ![0, 4] R slices_S65536x128_S65536x2_0_4)))
    (Host.gather gather_S147456x1024_S65536x2x1_S65536x2x1024_2_0_n_n_0_2_11024 (flat Y) (words tb))) (constant S_ .f32 0x00000000#32) reducesTo_S65536x2x1024_S65536x1024_d1 h_S_)

/-- The reference's results are `combined`. -/
theorem result_eq (tb : IVec S131072 32) (hA : Within (F := Ideal) tb) (Y : FVec Ideal S147456x1x1024 .f32) (R : FVec Ideal S65536x128 .f32) (X : FVec Ideal S65536x1024 .f32) :
    result tb Y R X = combined (dest hA) Y R X := by
  unfold result
  rw [taken_eq tb hA Y]
  funext y
  obtain ⟨n, j, rfl⟩ : ∃ (n : Fin 65536) (j : Fin 1024), y = ix2 n j := ⟨y 0, y 1, eq_ix2 y⟩
  pointwise
  rw [Fin.sum_univ_two]
  exact (add_assoc (X (ix2 n j) : EReal) _ _).symm

end Reference

end Cert.Combine
-- ==== Proof.Combine.Same.lean ====
/- The experts' kernel and its ideal program have one text: their definitions are equal at any floats. -/
module

public import proofs.«01_k».proof.Proof.Gen.Kernel4
public import proofs.«01_k».proof.Proof.Gen.Kernel4Ideal

@[expose] public section

set_option maxRecDepth 10000
set_option maxHeartbeats 400000

namespace Cert.Combine

open Idealize.ShloMosaic Idealize.ShloMosaic.TcCoe

variable {F : FTy → Type} [FloatOps F]

/-- The bodies are equal. -/
theorem same_body : @Cert.Kernel4.cc0_moe_combine F _ _ = @Cert.Kernel4Ideal.cc0_moe_combine F _ _ := by
  unfold Cert.Kernel4.cc0_moe_combine Cert.Kernel4Ideal.cc0_moe_combine
  rfl

/-- The body tables are equal. -/
theorem same_table : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun same_body _) _) _) _) _) _) _) _) _) _) _) _) _) _) _) _
  | ⟨n + 1, h⟩, _ => exact absurd h (by omega)

/-- The programs' definitions are equal. -/
theorem same_defs : Cert.Kernel4.defs (F := F) = Cert.Kernel4Ideal.defs (F := F) := congrArg (Pipeline.defs Cert.Kernel4Ideal.pcfgs) same_table

/-- What the ideal program's text does from a state, the kernel's does. -/
theorem same_run (s : MemSt Cert.Kernel4.nD Cert.Kernel4.τ Cert.Kernel4.sig (Elt F)) (Q : _ → Prop)
    (h : θ_run (Cert.Kernel4Ideal.defs (F := F)) (onTc (τ := Cert.Kernel4Ideal.τ) (Cert.Kernel4Ideal.main (F := F))) s Q) :
    θ_run (Cert.Kernel4.defs (F := F)) (onTc (τ := Cert.Kernel4.τ) (Cert.Kernel4.main (F := F))) s Q := by
  rw [same_defs]
  exact h

end Cert.Combine
-- ==== Proof.Experts.Body.lean ====
/- The experts' kernel at one grid point: with the point below the number of blocks in use the block's rows go through the
   expert's weights, otherwise the block is filled with zeros. -/
module

public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.Claim

@[expose] public section

set_option maxRecDepth 16384

noncomputable section

namespace Cert.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one index of the table holding the number of blocks in use. -/
def uix : main_arg1.ty.shape.Idx := fun a => ⟨0, by revert a; decide⟩

/-- The two branches' conditions are opposite. -/
theorem cond2_iff (i : grid0.Coords) (v : BitVec 32) : k0_cond2 i v = 1#1 ↔ ¬ k0_cond1 i v = 1#1 := by
  show Scalar.cmpi .ne (Scalar.extui (Scalar.xori (Scalar.cmpi .slt (BitVec.ofNat 32 (i 0).val) v) 1#1)) (0#32) = 1#1
    ↔ ¬ Scalar.cmpi .ne (Scalar.extui (Scalar.cmpi .slt (BitVec.ofNat 32 (i 0).val) v)) (0#32) = 1#1
  generalize Scalar.cmpi .slt (BitVec.ofNat 32 (i 0).val) v = b
  revert b
  decide

/-- What a grid point leaves in its block: the rows through the expert's weights, or zeros. -/
def made (i : grid0.Coords) (v : BitVec 32) (x0 : Vec F S512x1x512 .i32) (x1 x2 : Vec F S1x1024x512 .bf16) (x3 : Vec F S1x512x1024 .bf16) :
    Vec F S512x1x1024 .f32 :=
  if k0_cond1 i v = 1#1 then k0_pay1 x0 x1 x2 x3 else k0_pay2

variable (c : Dev nD) (u : main_arg1.ty.Contents (Elt F))

/-- The number of blocks in use, held at a share. -/
abbrev usedAt (q : PosShare TreeShare) : sProp 𝕄 := (Memref.whole main_arg1).view.loc (c : Thread nD τ) ↦{q} u

/-- The word of the table read: the program goes on at that word. -/
theorem wp_used (𝒱 : Variants) (bd : Option 𝒱.V) {α : Type} {Q : α → sProp 𝕄} {off : Fin 1 → ℕ}
    {p : ∀ a, off a + S1.size a ≤ S1.size a} {hl} (q : PosShare TreeShare)
    {k : ((Rect.unit (s := S1) off S1.size p).shape.Idx → Elt F .i32) → Prog (TpuEff nD τ sig (Elt F) Λ₀ .tc) α} :
    usedAt c u q
      ⊢ iprop((usedAt c u q -∗ wp frame (wpE (defs₀ (F := F)) 𝒱 (c : Thread nD τ) bd) Set.univ (k (fun _ => u uix)) Q)
        -∗ wp frame (wpE defs₀ 𝒱 (c : Thread nD τ) bd) Set.univ
            (.op (.load (Memref.whole main_arg1) (Rect.unit (s := S1) off S1.size p) hl) k) Q) := by
  have e : ((Memref.whole main_arg1).access (Rect.unit (s := S1) off S1.size p)).read (Elt F) u = fun _ => u uix := by
    funext x
    refine congrArg u ?_
    funext a
    fin_cases a
    exact Subsingleton.elim (α := Fin 1) _ _
  rw [show k (fun _ => u uix) = k (((Memref.whole main_arg1).access (Rect.unit (s := S1) off S1.size p)).read (Elt F) u) from congrArg k e.symm]
  exact wp_load_rect (defs := defs₀ (F := F)) 𝒱 (c : Thread nD τ) bd (Γ := .empty) Set.univ (Q := Q) (m := Memref.whole main_arg1)
    (r := Rect.unit (s := S1) off S1.size p) (hl := hl) (k := k) (S := Finset.univ) (q := q) (f := u) (Finset.subset_univ _)

/-- A whole block loaded is what the buffer reads. -/
theorem load_eq {s : Shape} {e : EltTy} {M : Memref sig .tc .vmem s e} (h : M.IsWhole) (X : s.Idx → Elt F e) {off : Fin s.rank → ℕ}
    (inb : ∀ a, off a + s.size a ≤ s.size a) : View.readAt (Elt F) M.view (Rect.unit (s := s) off s.size inb).toLoadRect (h.unread X) = X := by
  funext x
  rw [h.readAt_unread]
  refine congrArg X ?_
  funext a
  apply Fin.ext
  have : off a = 0 := by have := inb a; omega
  show off a + 1 * (x a).val = (x a).val
  omega

set_option maxHeartbeats 1000000 in
/-- The body on whole staging buffers: the inputs unchanged, the output's at `made`. -/
theorem point (i : grid0.Coords) (t0 : Memref sig .tc .smem S288 .i32) (ht0 : t0.IsWhole)
    (M0 : Memref sig .tc .vmem S512x1x512 .i32) (h0 : M0.IsWhole) (M1 : Memref sig .tc .vmem S1x1024x512 .bf16) (h1 : M1.IsWhole)
    (M2 : Memref sig .tc .vmem S1x1024x512 .bf16) (h2 : M2.IsWhole) (M3 : Memref sig .tc .vmem S1x512x1024 .bf16) (h3 : M3.IsWhole)
    (M4 : Memref sig .tc .vmem S512x1x1024 .f32) (h4 : M4.IsWhole) (q : PosShare TreeShare)
    (x0 : Vec F S512x1x512 .i32) (x1 x2 : Vec F S1x1024x512 .bf16) (x3 : Vec F S1x512x1024 .bf16) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d) ∗ usedAt c u q)
      ⊢ wp (M := 𝕄) frame (wpE (defs₀ (F := F)) Variants.none (c : Thread nD τ) none) Set.univ
        (cc0_moe_ffn (F := F) i t0 ht0 (Memref.whole main_arg1) (Memref.isWhole_whole _) M0 h0 M1 h1 M2 h2 M3 h3 M4 h4)
        (fun _ => iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare (made i (u uix) x0 x1 x2 x3) ∗ usedAt c u q)) := by
  rw [cc0_moe_ffn_eq_skeleton]; unfold cc0_moe_ffn_skel owns
  simp only [smemLoad, smemLoadElt, Prog.lift, Prog.bind_op, Prog.bind_ret, Prog.pure_eq_ret, Prog.bind_assoc]
  iintro ⟨⟨%f0, %hf0, H0⟩, ⟨%f1, %hf1, H1⟩, ⟨%f2, %hf2, H2⟩, ⟨%f3, %hf3, H3⟩, ⟨%d4, %f4, -, H4⟩, HT⟩
  obtain rfl := h0.eq_unread hf0; obtain rfl := h1.eq_unread hf1; obtain rfl := h2.eq_unread hf2; obtain rfl := h3.eq_unread hf3
  iapply (wp_used c u Variants.none none q) $$ HT
  iintro HT
  by_cases hc : k0_cond1 i (u uix) = 1#1
  · have hc2 : ¬ k0_cond2 i (u uix) = 1#1 := fun h => (cond2_iff i _).1 h hc
    sl_exec (disch := first | sl_exact hc | sl_exact hc2)
    sl_step
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitr [HT]
    · iexists _; isplitr
      swap; · iexact H4
      ipureintro
      rw [View.read_writes_full, load_eq, load_eq, load_eq, load_eq, made, if_pos hc]
    iexact HT
  · have hc2 : k0_cond2 i (u uix) = 1#1 := (cond2_iff i _).2 hc
    sl_exec (disch := first | sl_exact hc | sl_exact hc2)
    sl_step
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitr [HT]
    · iexists _; isplitr
      swap; · iexact H4
      ipureintro
      rw [View.read_writes_full, made, if_neg hc]
    iexact HT

end Cert.Experts
-- ==== Proof.Experts.Run.lean ====
/- The experts' run whole: the tables' admissibility, the pipeline's data, its body at every grid point, and the run of the program. -/
module

public import proofs.«01_k».proof.Proof.Experts.Body
public import Idealize.ShloMosaic.Lib.Pipeline.ValueKit.Geometry
public import Idealize.ShloMosaic.Lib.ValueLayout

@[expose] public section

set_option maxRecDepth 16384

noncomputable section

namespace Cert.Experts

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Values

variable (tb : main_arg0.ty.Contents (Elt F))

/-- The number block `b`'s expert has in the table. -/
def named (b : Fin 288) : ℕ := (tb (ix1 b : S288.Idx) : BitVec 32).toNat

/-- Every block names one of the 32 experts. -/
def Exist : Prop := ∀ b, named tb b < 32

variable {tb}

/-- Block `b`'s expert. -/
def expert (hE : Exist tb) (b : Fin 288) : Fin 32 := ⟨named tb b, hE b⟩

/-- Block `b`'s rows of the buffer. -/
def rowsOf (X : main_arg2.ty.Contents (Elt F)) (b : Fin 288) : S512x1x512.Idx → Elt F .i32 :=
  fun y => X (ix3 ⟨512 * b.val + (y 0).val, by have : (y 0).val < 512 := (y 0).isLt; omega⟩ (0 : Fin 1) (y 2) : S147456x1x512.Idx)

/-- Expert `e`'s matrix of an array of matrices into the expert's inner width. -/
def upOf (W : main_v0.ty.Contents (Elt F)) (e : Fin 32) : S1x1024x512.Idx → Elt F .bf16 :=
  fun y => W (ix3 e (y 1) (y 2) : S32x1024x512.Idx)

/-- Expert `e`'s matrix of an array of matrices back to the model's width. -/
def downOf (W : main_v2.ty.Contents (Elt F)) (e : Fin 32) : S1x512x1024.Idx → Elt F .bf16 :=
  fun y => W (ix3 e (y 1) (y 2) : S32x512x1024.Idx)

end Values

section General

/-- At a point where no window is idle, a body that leaves every buffer at its stated contents meets the pipeline's obligation. -/
theorem obligation_of {cfg : Pipeline.Cfg sig Λ₀} {c : Dev nD} (dat : Pipeline.Dat τ (Elt F) Unit ℕ (UR sig nD τ) ℕ cfg c) (D : Defs nD τ sig (Elt F) Λ₀)
    (hidle : ∀ w t, cfg.idle w (cfg.grid.coords t) = false)
    (h : ∀ t : Fin cfg.N, (iprop(dat.Φ t.castSucc ∗ dat.owesAt () t.castSucc
        ∗ bigSep Finset.univ fun w : Fin cfg.W => iprop(∃ d, owns (c : Thread nD τ) ((cfg.win w).stage (cfg.slots t w)) fullShare (dat.before w t d))) : sProp 𝕄)
      ⊢ wp frame (wpE D Variants.none (c : Thread nD τ) none) Set.univ (D .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    Pipeline.BodyObligationLoose dat D Variants.none () Set.univ :=
  Pipeline.BodyObligation.loose (dat := dat) fun t => (h t).trans (wp_mono _ _ _ fun _ => sep_mono .rfl (sep_mono .rfl (Idealize.SL.BI.bigSep_mono fun w _ =>
    show (owns (c : Thread nD τ) ((cfg.win w).stage (cfg.slots t w)) fullShare (dat.after w t) : sProp 𝕄) ⊢ dat.leavesExact w t from by
      unfold Pipeline.Dat.leavesExact
      rw [hidle w t])))

end General

section Launch

variable (m : (ℓ : Loc nD τ sig) → Buf (Elt F) ℓ)

/-- The buffers when the region is entered. -/
def V (c : Dev nD) (b : Ref sig .tc) : Buf (Elt F) ((c.tc : Thread nD τ).loc b) := StableHlo.after hostOps0 (fun b => m (c, b)) b

/-- The launch contents of the table of experts. -/
abbrev tbl (c : Dev nD) : main_arg0.ty.Contents (Elt F) := m ((c : Thread nD τ).loc main_arg0)
/-- The launch contents of the number of blocks in use. -/
abbrev used (c : Dev nD) : main_arg1.ty.Contents (Elt F) := m ((c : Thread nD τ).loc main_arg1)
/-- The packed rows at launch. -/
abbrev packed (c : Dev nD) : main_arg2.ty.Contents (Elt F) := m ((c : Thread nD τ).loc main_arg2)

/-- The gate's weights as the region finds them. -/
abbrev gateW (c : Dev nD) : main_v0.ty.Contents (Elt F) := V m c main_v0
/-- The value's weights as the region finds them. -/
abbrev valueW (c : Dev nD) : main_v1.ty.Contents (Elt F) := V m c main_v1
/-- The output's weights as the region finds them. -/
abbrev outW (c : Dev nD) : main_v2.ty.Contents (Elt F) := V m c main_v2

/-- The tables' contents as the pipeline takes them. -/
def pf : pre0.Contents (Elt F) := fun j => V m (0 : Dev nD) (pre0.ref j)
/-- The prefetched tables are the tables. -/
theorem V_pre (c : Dev nD) (j : Fin 2) : V m c (pre0.ref j) = pf m j := by
  obtain rfl : c = 0 := Subsingleton.elim _ _; rfl

/-- The table's word an index map reads at a point. -/
theorem word_at (i : grid0.Coords) : ((pf m).at 0 (Rect.unit (s := S288) ![(Scalar.indexCast (BitVec.ofNat 32 (i 0).val)).toNat] S1.size (k0_off1_inb i)) numel1_S1 : BitVec 32)
    = tbl m 0 (ix1 (i 0) : S288.Idx) := by
  refine congrArg (tbl m 0) ?_
  funext a; apply Fin.ext; fin_cases a
  have hi : (i 0).val < 288 := (i 0).isLt
  have hz : ((Shape.Idx.first (numel1_S1.symm ▸ Nat.one_pos : 0 < S1.numel) : S1.Idx) 0).val < 1 := Fin.isLt _
  show (BitVec.ofNat 32 (i 0).val).toNat + 1 * ((Shape.Idx.first (numel1_S1.symm ▸ Nat.one_pos : 0 < S1.numel) : S1.Idx) 0).val = (i 0).val
  rw [BitVec.toNat_ofNat]
  omega

/-- The weights' index maps: the point's expert. -/
theorem map1_eq (i : grid0.Coords) : cc0_transform_1 k0_off1_inb numel1_S1 (pf m) i = ![named (tbl m 0) (i 0), 0, 0] :=
  congrArg (fun w : BitVec 32 => ![w.toNat, 0, 0]) (word_at m i)
/-- The second weights' index map is the same. -/
theorem map2_eq (i : grid0.Coords) : cc0_transform_2 k0_off1_inb numel1_S1 (pf m) i = ![named (tbl m 0) (i 0), 0, 0] :=
  congrArg (fun w : BitVec 32 => ![w.toNat, 0, 0]) (word_at m i)
/-- The third weights' index map is the same. -/
theorem map3_eq (i : grid0.Coords) : cc0_transform_3 k0_off1_inb numel1_S1 (pf m) i = ![named (tbl m 0) (i 0), 0, 0] :=
  congrArg (fun w : BitVec 32 => ![w.toNat, 0, 0]) (word_at m i)

/-- An expert's matrix lies inside the array of matrices. -/
theorem up_inb {n : ℕ} (hn : n < 32) : ∀ a, ((![n, 0, 0] : Fin 3 → ℕ) a + 1) * S1x1024x512.size a ≤ S32x1024x512.size a := by
  intro a; fin_cases a
  · show (n + 1) * 1 ≤ 32; omega
  · show (0 + 1) * 1024 ≤ 1024; omega
  · show (0 + 1) * 512 ≤ 512; omega
/-- So does its matrix back to the model's width. -/
theorem down_inb {n : ℕ} (hn : n < 32) : ∀ a, ((![n, 0, 0] : Fin 3 → ℕ) a + 1) * S1x512x1024.size a ≤ S32x512x1024.size a := by
  intro a; fin_cases a
  · show (n + 1) * 1 ≤ 32; omega
  · show (0 + 1) * 512 ≤ 512; omega
  · show (0 + 1) * 1024 ≤ 1024; omega

/-- Tables that name experts there are, are admissible. -/
theorem ok_of (hE : Exist (tbl m 0)) : ok0 (pf m) :=
  ⟨fun i => ⟨by rw [map1_eq]; exact up_inb (hE _), .inr (Affine.block_words_dvd (of_decide_eq_true rfl) (by decide))⟩,
    fun i => ⟨by rw [map2_eq]; exact up_inb (hE _), .inr (Affine.block_words_dvd (of_decide_eq_true rfl) (by decide))⟩,
    fun i => ⟨by rw [map3_eq]; exact down_inb (hE _), .inr (Affine.block_words_dvd (of_decide_eq_true rfl) (by decide))⟩⟩

variable (hE : ∀ c, Exist (tbl m c))

/-- The tables' contents, admissible. -/
abbrev adm : (p : Fin 1) → (pcfgs (F := F) p).Adm := fun _ => ⟨pf m, ok_of m (hE 0)⟩

/-- What grid point `t` leaves in its block. -/
def block (c : Dev nD) (t : Fin grid0.N) : Vec F S512x1x1024 .f32 :=
  made (grid0.coords t) (used m c uix) (rowsOf (packed m c) (t.cast N_0)) (upOf (gateW m c) (expert (hE c) (t.cast N_0)))
    (upOf (valueW m c) (expert (hE c) (t.cast N_0))) (downOf (outW m c) (expert (hE c) (t.cast N_0)))

/-- What the body holds at any grid point: the tables. -/
def Inv (c : Dev nD) : sProp 𝕄 := iprop(Pipeline.ΦA spec0 c ∗ Pipeline.ΦT pre0 (pf m) c)

/-- The pipeline's data: the arrays at their contents at the region's entry, each input's buffer at its block, the output's at `block`. -/
def dats (p : Fin 1) (c : Dev nD) : Pipeline.Dat τ (Elt F) Unit ℕ (UR sig nD τ) ℕ (Pipeline.pin (pcfgs (F := F)) (adm m hE) p) c where
  A w := V m c (Pipeline.arrRef spec0 w)
  after := fun
    | 0 => fun t => rowsOf (packed m c) (t.cast N_0)
    | 1 => fun t => upOf (gateW m c) (expert (hE c) (t.cast N_0))
    | 2 => fun t => upOf (valueW m c) (expert (hE c) (t.cast N_0))
    | 3 => fun t => downOf (outW m c) (expert (hE c) (t.cast N_0))
    | 4 => fun t => block m hE c t
    | ⟨_ + 5, h⟩ => absurd h (Nat.not_lt.2 (Nat.le_add_left _ _))
  Φ _ := Inv m c
  q _ := fullShare
  owed _ := 0

/-- The invariant spelled out. -/
theorem Inv_eq (c : Dev nD) : Inv m c
    = iprop((emp ∗ ∃ r, prngReg c r) ∗ ((Memref.whole main_arg0).view.loc (c : Thread nD τ) ↦{fullShare.right} tbl m c) ∗ usedAt c (used m c) fullShare.right) := by
  obtain rfl : c = 0 := Subsingleton.elim _ _
  unfold Inv Pipeline.ΦA Pipeline.ΦT Pipeline.prefHeld
  rw [scopedRest0_eq, bigSep_univ_eq_bigSepL [(0 : Fin 2), (1 : Fin 2)] (by decide) (by decide)]
  rfl

/-- The grid coordinate of a point is the point. -/
theorem coord_eq (t : Fin grid0.N) : (grid0.coords t 0).val = t.val := by
  have h : t.val < 288 := t.isLt.trans_eq N_0
  rw [Pipeline.Grid.coords_val t 0 (S := 1) (B := 288) (by decide) rfl]
  omega

/-- The grid coordinate as a block's number. -/
theorem coord_cast (t : Fin grid0.N) : (grid0.coords t 0 : Fin 288) = t.cast N_0 := Fin.ext (coord_eq t)

/-- The rows fetched at a point are its block's. -/
theorem block0_eq (c : Dev nD) (t : Fin grid0.N) : (dats m hE 0 c).blockOf 0 t = rowsOf (packed m c) (t.cast N_0) := by
  funext (y : S512x1x512.Idx)
  have h : t.val < 288 := t.isLt.trans_eq N_0
  show packed m c _ = packed m c _
  refine congrArg (packed m c) ?_
  funext a; apply Fin.ext
  fin_cases a
  · show cc0_transform_0 (grid0.coords t) 0 * 512 + 1 * (y 0).val = 512 * t.val + (y 0).val
    rw [show cc0_transform_0 (grid0.coords t) 0 = (BitVec.ofNat 32 (grid0.coords t 0).val).toNat from rfl, coord_eq, BitVec.toNat_ofNat]
    omega
  · exact congrArg Fin.val (Subsingleton.elim (α := Fin 1) _ _)
  · show 0 * 512 + 1 * (y 2).val = (y 2).val
    omega

/-- The gate's weights fetched at a point are its expert's. -/
theorem block1_eq (c : Dev nD) (t : Fin grid0.N) : (dats m hE 0 c).blockOf 1 t = upOf (gateW m c) (expert (hE c) (t.cast N_0)) := by
  obtain rfl : c = 0 := Subsingleton.elim _ _
  funext (y : S1x1024x512.Idx)
  have hy : (y 0).val < 1 := (y 0).isLt
  refine congrArg (gateW m 0) ?_
  funext a; apply Fin.ext
  fin_cases a
  · show cc0_transform_1 k0_off1_inb numel1_S1 (pf m) (grid0.coords t) 0 * 1 + 1 * (y 0).val = named (tbl m 0) (t.cast N_0)
    rw [map1_eq, coord_cast]
    show named (tbl m 0) (t.cast N_0) * 1 + 1 * (y 0).val = _
    omega
  · show 0 * 1024 + 1 * (y 1).val = (y 1).val
    omega
  · show 0 * 512 + 1 * (y 2).val = (y 2).val
    omega

/-- The value's weights fetched at a point are its expert's. -/
theorem block2_eq (c : Dev nD) (t : Fin grid0.N) : (dats m hE 0 c).blockOf 2 t = upOf (valueW m c) (expert (hE c) (t.cast N_0)) := by
  obtain rfl : c = 0 := Subsingleton.elim _ _
  funext (y : S1x1024x512.Idx)
  have hy : (y 0).val < 1 := (y 0).isLt
  refine congrArg (valueW m 0) ?_
  funext a; apply Fin.ext
  fin_cases a
  · show cc0_transform_2 k0_off1_inb numel1_S1 (pf m) (grid0.coords t) 0 * 1 + 1 * (y 0).val = named (tbl m 0) (t.cast N_0)
    rw [map2_eq, coord_cast]
    show named (tbl m 0) (t.cast N_0) * 1 + 1 * (y 0).val = _
    omega
  · show 0 * 1024 + 1 * (y 1).val = (y 1).val
    omega
  · show 0 * 512 + 1 * (y 2).val = (y 2).val
    omega

/-- The output's weights fetched at a point are its expert's. -/
theorem block3_eq (c : Dev nD) (t : Fin grid0.N) : (dats m hE 0 c).blockOf 3 t = downOf (outW m c) (expert (hE c) (t.cast N_0)) := by
  obtain rfl : c = 0 := Subsingleton.elim _ _
  funext (y : S1x512x1024.Idx)
  have hy : (y 0).val < 1 := (y 0).isLt
  refine congrArg (outW m 0) ?_
  funext a; apply Fin.ext
  fin_cases a
  · show cc0_transform_3 k0_off1_inb numel1_S1 (pf m) (grid0.coords t) 0 * 1 + 1 * (y 0).val = named (tbl m 0) (t.cast N_0)
    rw [map3_eq, coord_cast]
    show named (tbl m 0) (t.cast N_0) * 1 + 1 * (y 0).val = _
    omega
  · show 0 * 512 + 1 * (y 1).val = (y 1).val
    omega
  · show 0 * 1024 + 1 * (y 2).val = (y 2).val
    omega

/-- Each input's buffer holds its block when the body runs. -/
theorem before0_eq (c : Dev nD) (t : Fin grid0.N) (d) : (dats m hE 0 c).before 0 t d = rowsOf (packed m c) (t.cast N_0) := by
  rw [Pipeline.Dat.before_in_eq_fetched (dats m hE 0 c) 0 rfl (fun _ => rfl) (fun _ _ _ => rfl) (fun t => (block0_eq m hE c t).symm) t d, ← block0_eq m hE c t]
  rfl
/-- So does the second. -/
theorem before1_eq (c : Dev nD) (t : Fin grid0.N) (d) : (dats m hE 0 c).before 1 t d = upOf (gateW m c) (expert (hE c) (t.cast N_0)) := by
  rw [Pipeline.Dat.before_in_eq_fetched (dats m hE 0 c) 1 rfl (fun _ => rfl) (fun _ _ _ => rfl) (fun t => (block1_eq m hE c t).symm) t d, ← block1_eq m hE c t]
  rfl
/-- So does the third. -/
theorem before2_eq (c : Dev nD) (t : Fin grid0.N) (d) : (dats m hE 0 c).before 2 t d = upOf (valueW m c) (expert (hE c) (t.cast N_0)) := by
  rw [Pipeline.Dat.before_in_eq_fetched (dats m hE 0 c) 2 rfl (fun _ => rfl) (fun _ _ _ => rfl) (fun t => (block2_eq m hE c t).symm) t d, ← block2_eq m hE c t]
  rfl
/-- So does the fourth. -/
theorem before3_eq (c : Dev nD) (t : Fin grid0.N) (d) : (dats m hE 0 c).before 3 t d = downOf (outW m c) (expert (hE c) (t.cast N_0)) := by
  rw [Pipeline.Dat.before_in_eq_fetched (dats m hE 0 c) 3 rfl (fun _ => rfl) (fun _ _ _ => rfl) (fun t => (block3_eq m hE c t).symm) t d, ← block3_eq m hE c t]
  rfl

/-- The number of blocks in use, as the idle table reads it. -/
theorem atD_eq : ((pf m).atD 1 ![0] : BitVec 32) = used m 0 uix := by
  have h : ∀ a, (![0] : Fin 1 → ℕ) a + 1 ≤ S1.size a := by decide
  refine (dif_pos h).trans ?_
  refine congrArg (used m 0) ?_
  funext a; fin_cases a
  rfl

/-- The output's window is never idle. -/
theorem not_idle (i : grid0.Coords) : idle0 (pf m) 4 i = false := by
  show (!(k0_cond1 i ((pf m).atD 1 ![0]) == 1#1) && !(k0_cond2 i ((pf m).atD 1 ![0]) == 1#1)) = false
  by_cases h : k0_cond1 i ((pf m).atD 1 ![0]) = 1#1
  · rw [h]; rfl
  · rw [(cond2_iff i _).2 h, Bool.and_comm]; rfl

/-- No window is idle at any point. -/
theorem idle_eq (w : Fin 5) (i : grid0.Coords) : idle0 (pf m) w i = false := by
  match w with
  | 0 => rfl
  | 1 => rfl
  | 2 => rfl
  | 3 => rfl
  | 4 => exact not_idle m i

/-- The body at every grid point. -/
theorem body (c : Dev nD) : Pipeline.BodyObligationLoose (dats m hE 0 c) (defs₀ (F := F)) Variants.none () Set.univ := by
  refine obligation_of (dats m hE 0 c) defs₀ (fun w t => idle_eq m w (grid0.coords t)) fun t => ?_
  refine (Entails.of_eq (congrArg (fun z => iprop(_ ∗ _ ∗ z)) (bigSep_W0 _))).trans (BIBase.Entails.trans ?_ (wp_mono _ _ _ fun _ => Entails.of_eq (congrArg (fun z => iprop(_ ∗ _ ∗ z)) (bigSep_W0 _).symm)))
  show iprop(Inv m c ∗ Pipeline.owesWithin c 0 _
      ∗ (∃ d, owns (c : Thread nD τ) (spec0_0.stage ((Pipeline.pin (pcfgs (F := F)) (adm m hE) 0).slots t 0)) fullShare ((dats m hE 0 c).before 0 t d))
      ∗ (∃ d, owns (c : Thread nD τ) (spec0_1.stage ((Pipeline.pin (pcfgs (F := F)) (adm m hE) 0).slots t 1)) fullShare ((dats m hE 0 c).before 1 t d))
      ∗ (∃ d, owns (c : Thread nD τ) (spec0_2.stage ((Pipeline.pin (pcfgs (F := F)) (adm m hE) 0).slots t 2)) fullShare ((dats m hE 0 c).before 2 t d))
      ∗ (∃ d, owns (c : Thread nD τ) (spec0_3.stage ((Pipeline.pin (pcfgs (F := F)) (adm m hE) 0).slots t 3)) fullShare ((dats m hE 0 c).before 3 t d))
      ∗ (∃ d, owns (c : Thread nD τ) (spec0_4.stage ((Pipeline.pin (pcfgs (F := F)) (adm m hE) 0).slots t 4)) fullShare ((dats m hE 0 c).before 4 t d)))
    ⊢ wp frame (wpE (defs₀ (F := F)) Variants.none (c : Thread nD τ) none) Set.univ
        (cc0_moe_ffn (F := F) (grid0.coords t) (Memref.whole main_arg0) (Memref.isWhole_whole _) (Memref.whole main_arg1) (Memref.isWhole_whole _)
          (spec0_0.stage ((Pipeline.pin (pcfgs (F := F)) (adm m hE) 0).slots t 0)) (hstage0_0 (((Pipeline.pin (pcfgs (F := F)) (adm m hE) 0).slots t 0).cast nbuf0_0))
          (spec0_1.stage ((Pipeline.pin (pcfgs (F := F)) (adm m hE) 0).slots t 1)) (hstage0_1 (((Pipeline.pin (pcfgs (F := F)) (adm m hE) 0).slots t 1).cast nbuf0_1))
          (spec0_2.stage ((Pipeline.pin (pcfgs (F := F)) (adm m hE) 0).slots t 2)) (hstage0_2 (((Pipeline.pin (pcfgs (F := F)) (adm m hE) 0).slots t 2).cast nbuf0_2))
          (spec0_3.stage ((Pipeline.pin (pcfgs (F := F)) (adm m hE) 0).slots t 3)) (hstage0_3 (((Pipeline.pin (pcfgs (F := F)) (adm m hE) 0).slots t 3).cast nbuf0_3))
          (spec0_4.stage ((Pipeline.pin (pcfgs (F := F)) (adm m hE) 0).slots t 4)) (hstage0_4 (((Pipeline.pin (pcfgs (F := F)) (adm m hE) 0).slots t 4).cast nbuf0_4)))
        fun _ => iprop(Inv m c ∗ Pipeline.owesWithin c 0 _
          ∗ owns (c : Thread nD τ) (spec0_0.stage ((Pipeline.pin (pcfgs (F := F)) (adm m hE) 0).slots t 0)) fullShare (rowsOf (packed m c) (t.cast N_0))
          ∗ owns (c : Thread nD τ) (spec0_1.stage ((Pipeline.pin (pcfgs (F := F)) (adm m hE) 0).slots t 1)) fullShare (upOf (gateW m c) (expert (hE c) (t.cast N_0)))
          ∗ owns (c : Thread nD τ) (spec0_2.stage ((Pipeline.pin (pcfgs (F := F)) (adm m hE) 0).slots t 2)) fullShare (upOf (valueW m c) (expert (hE c) (t.cast N_0)))
          ∗ owns (c : Thread nD τ) (spec0_3.stage ((Pipeline.pin (pcfgs (F := F)) (adm m hE) 0).slots t 3)) fullShare (downOf (outW m c) (expert (hE c) (t.cast N_0)))
          ∗ owns (c : Thread nD τ) (spec0_4.stage ((Pipeline.pin (pcfgs (F := F)) (adm m hE) 0).slots t 4)) fullShare (block m hE c t))
  simp only [before0_eq, before1_eq, before2_eq, before3_eq]
  rw [Inv_eq]
  iintro ⟨⟨HA, HT, HU⟩, HO, ⟨%d0, H0⟩, ⟨%d1, H1⟩, ⟨%d2, H2⟩, ⟨%d3, H3⟩, ⟨%d4, H4⟩⟩
  ihave Hw := (point c (used m c) (grid0.coords t) (Memref.whole main_arg0) (Memref.isWhole_whole _) _ (hstage0_0 (((Pipeline.pin (pcfgs (F := F)) (adm m hE) 0).slots t 0).cast nbuf0_0))
    _ (hstage0_1 (((Pipeline.pin (pcfgs (F := F)) (adm m hE) 0).slots t 1).cast nbuf0_1)) _ (hstage0_2 (((Pipeline.pin (pcfgs (F := F)) (adm m hE) 0).slots t 2).cast nbuf0_2))
    _ (hstage0_3 (((Pipeline.pin (pcfgs (F := F)) (adm m hE) 0).slots t 3).cast nbuf0_3)) _ (hstage0_4 (((Pipeline.pin (pcfgs (F := F)) (adm m hE) 0).slots t 4).cast nbuf0_4))
    fullShare.right (rowsOf (packed m c) (t.cast N_0)) (upOf (gateW m c) (expert (hE c) (t.cast N_0))) (upOf (valueW m c) (expert (hE c) (t.cast N_0)))
    (downOf (outW m c) (expert (hE c) (t.cast N_0)))) $$ [H0 H1 H2 H3 H4 HU]
  · isplitl [H0]; · iexact H0
    isplitl [H1]; · iexact H1
    isplitl [H2]; · iexact H2
    isplitl [H3]; · iexact H3
    isplitl [H4]; · iexists _; iexact H4
    iexact HU
  iapply (wp_wand _ _ _) $$ Hw
  iintro %a ⟨H0, H1, H2, H3, H4, HU⟩
  isplitl [HA HT HU]
  · isplitl [HA]; · iexact HA
    isplitl [HT]; · iexact HT
    iexact HU
  isplitl [HO]; · iexact HO
  isplitl [H0]; · iexact H0
  isplitl [H1]; · iexact H1
  isplitl [H2]; · iexact H2
  isplitl [H3]; · iexact H3
  unfold block
  iexact H4

/-- The result array: each grid point's block in its place. -/
def filled (c : Dev nD) : main_v3.ty.Contents (Elt F) := fun y =>
  block m hE c ⟨(y 0 : Fin 147456).val / 512, by rw [N_0]; have : (y 0 : Fin 147456).val < 147456 := (y 0).isLt; omega⟩
    (ix3 ⟨(y 0 : Fin 147456).val % 512, Nat.mod_lt _ (by omega)⟩ (0 : Fin 1) (y 2) : S512x1x1024.Idx)

/-- Every grid point's block of the result is written back. -/
theorem flushes : ∀ t : Fin grid0.N, Pipeline.Window.flushOf grid0 true cc0_transform_4 t = true := by decide +kernel

/-- Where grid point `t`'s block of the result lies. -/
theorem emb4_eq (t : Fin grid0.N) (y : S512x1x1024.Idx) :
    ((((Pipeline.pin (pcfgs (F := F)) (adm m hE) 0).win 4).blk t).view.emb y : S147456x1x1024.Idx)
      = ix3 ⟨512 * t.val + (y 0).val, by have : (y 0).val < 512 := (y 0).isLt; have : t.val < 288 := t.isLt.trans_eq N_0; omega⟩ (0 : Fin 1) (y 2) := by
  have h : t.val < 288 := t.isLt.trans_eq N_0
  funext a; apply Fin.ext
  fin_cases a
  · show cc0_transform_4 (grid0.coords t) 0 * 512 + 1 * (y 0).val = 512 * t.val + (y 0).val
    rw [show cc0_transform_4 (grid0.coords t) 0 = (BitVec.ofNat 32 (grid0.coords t 0).val).toNat from rfl, coord_eq, BitVec.toNat_ofNat]
    omega
  · exact congrArg Fin.val (Subsingleton.elim (α := Fin 1) _ _)
  · show 0 * 1024 + 1 * (y 2).val = (y 2).val
    omega

/-- The result array at a row of a block. -/
theorem filled_at (c : Dev nD) (t : Fin grid0.N) (y : S512x1x1024.Idx) (h) :
    filled m hE c (ix3 ⟨512 * t.val + (y 0).val, h⟩ (0 : Fin 1) (y 2) : S147456x1x1024.Idx) = block m hE c t y := by
  have hy : (y 0).val < 512 := (y 0).isLt
  unfold filled
  refine congrArg₂ (block m hE c) (Fin.ext ?_) ?_
  · show (512 * t.val + (y 0).val) / 512 = t.val
    omega
  · funext a; apply Fin.ext
    fin_cases a
    · show (512 * t.val + (y 0).val) % 512 = (y 0).val
      omega
    · exact congrArg Fin.val (Subsingleton.elim (α := Fin 1) _ _)
    · rfl

/-- An index of the result in grid point `t`'s block. -/
theorem mem4 (t : Fin grid0.N) (y : S512x1x1024.Idx) (i : S147456x1x1024.Idx)
    (h : (ix3 ⟨512 * t.val + (y 0).val, by have : (y 0).val < 512 := (y 0).isLt; have : t.val < 288 := t.isLt.trans_eq N_0; omega⟩ (0 : Fin 1) (y 2) : S147456x1x1024.Idx) = i) :
    i ∈ (((Pipeline.pin (pcfgs (F := F)) (adm m hE) 0).win 4).blk t).view.set :=
  Eq.subst (motive := fun z => z ∈ (((Pipeline.pin (pcfgs (F := F)) (adm m hE) 0).win 4).blk t).view.set) ((emb4_eq m hE t y).trans h)
    (View.emb_mem_set (((Pipeline.pin (pcfgs (F := F)) (adm m hE) 0).win 4).blk t).view y)

/-- The result array after the last grid point: every block in its place. -/
theorem arr4_eq (c : Dev nD) : (dats m hE 0 c).arrAt 4 (Pipeline.pin (pcfgs (F := F)) (adm m hE) 0).N = filled m hE c := by
  refine (dats m hE 0 c).arrAt_eq_of_emb 4 (filled m hE c) (fun t _ (y : S512x1x1024.Idx) => ?_) (fun (i : S147456x1x1024.Idx) => ?_)
  · exact ((congrArg (filled m hE c) (emb4_eq m hE t y)).trans (filled_at m hE c t y _)).symm
  · have hi : (i 0).val < 147456 := (i 0).isLt
    refine ⟨⟨(i 0).val / 512, by show _ < grid0.N; rw [N_0]; omega⟩, flushes _, ?_⟩
    refine mem4 m hE _ (ix3 ⟨(i 0).val % 512, Nat.mod_lt _ (by omega)⟩ (0 : Fin 1) (i 2) : S512x1x1024.Idx) i ?_
    funext a; apply Fin.ext
    fin_cases a
    · show 512 * ((i 0).val / 512) + (i 0).val % 512 = (i 0).val
      omega
    · exact congrArg Fin.val (Subsingleton.elim (α := Fin 1) _ _)
    · rfl

/-- The table is no window of the pipeline. -/
theorem rest0 : main_arg0 ∈ Pipeline.restRefs sig spec0 := Pipeline.mem_restRefs_of main_arg0 (by decide) (by decide)
/-- Nor is the number of blocks in use. -/
theorem rest1 : main_arg1 ∈ Pipeline.restRefs sig spec0 := Pipeline.mem_restRefs_of main_arg1 (by decide) (by decide)
/-- Nor are the gate's weights as they came. -/
theorem rest3 : main_arg3 ∈ Pipeline.restRefs sig spec0 := Pipeline.mem_restRefs_of main_arg3 (by decide) (by decide)
/-- Nor the value's. -/
theorem rest4 : main_arg4 ∈ Pipeline.restRefs sig spec0 := Pipeline.mem_restRefs_of main_arg4 (by decide) (by decide)
/-- Nor the output's. -/
theorem rest5 : main_arg5 ∈ Pipeline.restRefs sig spec0 := Pipeline.mem_restRefs_of main_arg5 (by decide) (by decide)

/-- The run: from any launch whose table names experts there are, every semaphore ends at zero, the arguments end unchanged, and the result
    array holds every block's rows through its expert. -/
theorem run (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_v3) = filled m hE c)
      ∧ r.2.sem = fun _ => 0) := by
  refine Pipeline.θ_run_frameP (Q' := _) (pcfgs (F := F)) (adm m hE) (dats m hE) 0 launch0 defs₀ Variants.none m ρ main
    (body m hE) (fun c w => (dats m hE 0 c).share_full (fun _ => rfl) w) (fun _ _ => rfl) (V m)
    (Pipeline.hmainP_prefix (pcfgs (F := F)) 0 defs₀ Variants.none m main hostOps0 hostOps0_sub ⟨rfl, rfl, rfl⟩ main_chain)
    (fun _ _ => rfl) (V_pre m) (fun _ _ => rfl) ?_
  intro r h
  refine ⟨fun c => ⟨?_, ?_, ?_, ?_, ?_, ?_, ?_⟩, h.2⟩
  · exact (h.1 c).2 main_arg0 rest0
  · exact (h.1 c).2 main_arg1 rest1
  · have e := (h.1 c).1 0
    rw [Pipeline.Dat.arrAt_in _ _ rfl] at e
    exact e
  · exact (h.1 c).2 main_arg3 rest3
  · exact (h.1 c).2 main_arg4 rest4
  · exact (h.1 c).2 main_arg5 rest5
  · exact ((h.1 c).1 4).trans (arr4_eq m hE c)

end Launch

end Cert.Experts
-- ==== Proof.Experts.Spec.lean ====
/-
  What the experts compute, as one function of the six arguments (`expertOut`). The buffer's rows come in blocks of 512, and
  each block has an expert. A row's 1024 entries come packed, two 16-bit floats to a word, the first 512 entries in the low
  halves. A row goes through its block's expert: two products, the first through `a · logistic a` and times the second, and a
  product back. The blocks past the number in use are zero.
-/
module

public import proofs.«01_k».proof.Proof.Gen.Kernel5Ideal
public import Idealize.ShloMosaic.Lib.Pointwise
public import Idealize.ShloMosaic.Lib.ValueLayout

@[expose] public section

set_option maxRecDepth 16384

noncomputable section

namespace Cert.Experts

open Cert.Kernel5Ideal Idealize.ShloMosaic

/-- The float in a word's low half. -/
def low (w : BitVec 32) : EReal := Ideal.ofBits .bf16 (w.extractLsb' 0 16)
/-- The float in a word's high half. -/
def high (w : BitVec 32) : EReal := Ideal.ofBits .bf16 (w.extractLsb' 16 16)

/-- Entry `d` of row `n`. -/
def unpacked (X : S147456x1x512.Idx → BitVec 32) (n : Fin 147456) (d : Fin 1024) : EReal :=
  if h : d.val < 512 then low (X (ix3 n (0 : Fin 1) (⟨d.val, h⟩ : Fin 512))) else high (X (ix3 n (0 : Fin 1) (⟨d.val - 512, by omega⟩ : Fin 512)))

/-- Entry `f` of row `n` through expert `e`'s matrix `W`. -/
def through (X : S147456x1x512.Idx → BitVec 32) (W : S32x1024x512.Idx → EReal) (e : Fin 32) (n : Fin 147456) (f : Fin 512) : EReal :=
  ∑ d : Fin 1024, unpacked X n d * W (ix3 e d f)

/-- Entry `j` of row `n` through expert `e`. -/
def outAt (X : S147456x1x512.Idx → BitVec 32) (G U : S32x1024x512.Idx → EReal) (D : S32x512x1024.Idx → EReal) (e : Fin 32) (n : Fin 147456) (j : Fin 1024) : EReal :=
  ∑ f : Fin 512, through X G e n f * Ideal.logistic (through X G e n f) * through X U e n f * D (ix3 e f j)

/-- The block of row `n`. -/
def blockOf (n : Fin 147456) : Fin 288 := ⟨n.val / 512, by omega⟩

/-- The result: each row through its block's expert while the block is in use, else zero. -/
def expertOut (e : Fin 288 → Fin 32) (k : BitVec 32) (X : S147456x1x512.Idx → BitVec 32) (G U : S32x1024x512.Idx → EReal) (D : S32x512x1024.Idx → EReal) :
    S147456x1x1024.Idx → EReal :=
  fun y => if (BitVec.ofNat 32 (blockOf (y 0)).val).slt k then outAt X G U D (e (blockOf (y 0))) (y 0) (y 2) else 0

/-- A power of two, sixteen steps up. -/
theorem two_shift (a : ℤ) : (2 : ℝ) ^ (a - 7) = 65536 * (2 : ℝ) ^ (a - 23) := by
  rw [show a - 7 = 16 + (a - 23) by ring, zpow_add₀ (by norm_num)]
  norm_num

/-- A 32-bit float whose lower 16 bits are zero is the 16-bit float of its upper half. -/
theorem ieee_half (b : BitVec 32) (h : BitVec 16) (e : b = h.setWidth 32 <<< 16) : Ideal.ieee 8 23 b = Ideal.ieee 8 7 h := by
  have hs : b.extractLsb' 31 1 = h.extractLsb' 15 1 := by
    subst e
    apply BitVec.eq_of_toNat_eq
    simp only [BitVec.extractLsb'_toNat, BitVec.toNat_shiftLeft, BitVec.toNat_setWidth, Nat.shiftRight_eq_div_pow, Nat.shiftLeft_eq]
    have := h.isLt
    omega
  have hx : b.extractLsb' 23 8 = h.extractLsb' 7 8 := by
    subst e
    apply BitVec.eq_of_toNat_eq
    simp only [BitVec.extractLsb'_toNat, BitVec.toNat_shiftLeft, BitVec.toNat_setWidth, Nat.shiftRight_eq_div_pow, Nat.shiftLeft_eq]
    have := h.isLt
    omega
  have hf : (b.extractLsb' 0 23).toNat = (h.extractLsb' 0 7).toNat * 2 ^ 16 := by
    subst e
    simp only [BitVec.extractLsb'_toNat, BitVec.toNat_shiftLeft, BitVec.toNat_setWidth, Nat.shiftRight_eq_div_pow, Nat.shiftLeft_eq]
    have := h.isLt
    omega
  unfold Ideal.ieee
  simp only [show (8 + 23 : ℕ) = 31 from rfl, show (8 + 7 : ℕ) = 15 from rfl, hs, hx, hf]
  generalize (h.extractLsb' 7 8).toNat = x
  generalize (h.extractLsb' 0 7).toNat = f
  generalize (h.extractLsb' 15 1 == 1#1) = n
  have e0 : f * 2 ^ 16 = 0 ↔ f = 0 := by omega
  simp only [e0]
  split_ifs
  all_goals first | rfl | skip
  all_goals congr 1
  all_goals push_cast
  · rw [show (2 : ℝ) ^ (-133 : ℤ) = 65536 * (2 : ℝ) ^ (-149 : ℤ) by have e := two_shift (-126); rwa [show (-126 : ℤ) - 7 = -133 by norm_num, show (-126 : ℤ) - 23 = -149 by norm_num] at e]; ring
  · rw [show (2 : ℝ) ^ (-133 : ℤ) = 65536 * (2 : ℝ) ^ (-149 : ℤ) by have e := two_shift (-126); rwa [show (-126 : ℤ) - 7 = -133 by norm_num, show (-126 : ℤ) - 23 = -149 by norm_num] at e]; ring
  · rw [two_shift]; ring
  · rw [two_shift]; ring

/-- A word moved up by a half is its low half's float. -/
theorem low_eq (w : BitVec 32) : Ideal.ofBits .f32 (w <<< 16) = low w := by
  refine ieee_half _ _ ?_
  apply BitVec.eq_of_toNat_eq
  simp only [BitVec.extractLsb'_toNat, BitVec.toNat_shiftLeft, BitVec.toNat_setWidth, Nat.shiftRight_eq_div_pow, Nat.shiftLeft_eq]
  have := w.isLt
  omega

/-- A word with its low half cleared is its high half's float. -/
theorem high_eq (w : BitVec 32) : Ideal.ofBits .f32 (w &&& 4294901760#32) = high w := by
  refine ieee_half _ _ ?_
  apply BitVec.eq_of_getLsbD_eq
  intro i hi
  have hm : (4294901760#32).getLsbD i = decide (16 ≤ i) := by
    have : ∀ i : Fin 32, (4294901760#32).getLsbD i.val = decide (16 ≤ i.val) := by decide
    exact this ⟨i, hi⟩
  rw [BitVec.getLsbD_and, hm, BitVec.getLsbD_shiftLeft, BitVec.getLsbD_setWidth, BitVec.getLsbD_extractLsb']
  by_cases h : 16 ≤ i
  · have h1 : i - 16 < 32 := by omega
    have h2 : i - 16 < 16 := by omega
    have h3 : 16 + (i - 16) = i := by omega
    have h4 : ¬ i < 16 := by omega
    simp [h, h1, h2, h3, h4, hi]
  · have h4 : i < 16 := by omega
    simp [h, h4]

end Cert.Experts
-- ==== Proof.Experts.Value.lean ====
/- The experts' kernel computes `expertOut` of its arguments. -/
module

public import proofs.«01_k».proof.Proof.Experts.Run
public import proofs.«01_k».proof.Proof.Experts.Spec

@[expose] public section

set_option maxRecDepth 16384

noncomputable section

namespace Cert.Experts

open Cert.Kernel5Ideal Cert.Kernel5Ideal.Gen Idealize.ShloMosaic Idealize.ShloMosaic.TcCoe Idealize.SL.Sem

/-- Entry `d` of a block's row `r`. -/
def rowEntry (x : Vec Ideal S512x1x512 .i32) (r : Fin 512) (d : Fin 1024) : EReal :=
  if h : d.val < 512 then low (x (ix3 r (0 : Fin 1) (⟨d.val, h⟩ : Fin 512))) else high (x (ix3 r (0 : Fin 1) (⟨d.val - 512, by omega⟩ : Fin 512)))

/-- Entry `f` of a block's row `r` through a matrix. -/
def rowThrough (x : Vec Ideal S512x1x512 .i32) (w : Vec Ideal S1x1024x512 .bf16) (r f : Fin 512) : EReal :=
  ∑ d : Fin 1024, rowEntry x r d * w (ix3 (0 : Fin 1) d f)

/-- Moving a word up by a half. -/
theorem shl_word (w : BitVec 32) : IntOp.shli ArithUnit.vector w 16#32 = w <<< 16 := rfl
/-- Clearing a word's low half. -/
theorem and_word (w : BitVec 32) : IntOp.andi w 4294901760#32 = w &&& 4294901760#32 := rfl

/-- What a point in use computes, at an index. -/
theorem pay1_apply (x : Vec Ideal S512x1x512 .i32) (g u : Vec Ideal S1x1024x512 .bf16) (w : Vec Ideal S1x512x1024 .bf16) (r : Fin 512) (j : Fin 1024) :
    k0_pay1 x g u w (ix3 r (0 : Fin 1) j)
      = ∑ f : Fin 512, rowThrough x g r f * Ideal.logistic (rowThrough x g r f) * rowThrough x u r f * w (ix3 (0 : Fin 1) f j) := by
  unfold rowThrough rowEntry
  simp only [← low_eq, ← high_eq]
  pointwise [k0_pay1]
  simp only [shl_word, and_word]

/-- What a point past those in use leaves. -/
theorem pay2_apply (y : S512x1x1024.Idx) : k0_pay2 (F := Ideal) y = (0 : EReal) := by
  pointwise [k0_pay2]

/-- A point's condition: it is below the number of blocks in use. -/
theorem cond1_iff (i : grid0.Coords) (v : BitVec 32) : k0_cond1 i v = 1#1 ↔ (BitVec.ofNat 32 (i 0).val).slt v = true := by
  show Scalar.cmpi .ne (Scalar.extui (BitVec.ofBool ((BitVec.ofNat 32 (i 0).val).slt v))) (0#32) = 1#1 ↔ _
  generalize (BitVec.ofNat 32 (i 0).val).slt v = b
  revert b
  decide

variable (m : (ℓ : Loc nD τ sig) → Buf (Elt Ideal) ℓ)

/-- The gate's weights are the argument's. -/
theorem gateW_apply (c : Dev nD) (z : S32x1024x512.Idx) : (gateW m c z : EReal) = m ((c : Thread nD τ).loc main_arg3) z := by
  unfold gateW V
  entry_read
  rfl

/-- The value's weights are the argument's. -/
theorem valueW_apply (c : Dev nD) (z : S32x1024x512.Idx) : (valueW m c z : EReal) = m ((c : Thread nD τ).loc main_arg4) z := by
  unfold valueW V
  entry_read
  rfl

/-- The output's weights are the argument's. -/
theorem outW_apply (c : Dev nD) (z : S32x512x1024.Idx) : (outW m c z : EReal) = m ((c : Thread nD τ).loc main_arg5) z := by
  unfold outW V
  entry_read
  rfl

/-- A block's row entry is the row's entry of the buffer. -/
theorem rowEntry_eq (X : main_arg2.ty.Contents (Elt Ideal)) (b : Fin 288) (r : Fin 512) (n : Fin 147456) (hn : 512 * b.val + r.val = n.val) (d : Fin 1024) :
    rowEntry (rowsOf X b) r d = unpacked X n d := by
  have hb : 512 * b.val + r.val < 147456 := by have := b.isLt; have := r.isLt; omega
  obtain rfl : (⟨512 * b.val + r.val, hb⟩ : Fin 147456) = n := Fin.ext hn
  rfl

/-- A block's row through an expert's matrix is the buffer's row through it. -/
theorem rowThrough_eq (X : main_arg2.ty.Contents (Elt Ideal)) (W : main_v0.ty.Contents (Elt Ideal)) (W' : S32x1024x512.Idx → EReal) (hW : ∀ z, (W z : EReal) = W' z)
    (e : Fin 32) (b : Fin 288) (r : Fin 512) (n : Fin 147456) (hn : 512 * b.val + r.val = n.val) (f : Fin 512) :
    rowThrough (rowsOf X b) (upOf W e) r f = through X W' e n f := by
  unfold rowThrough through
  refine Finset.sum_congr rfl fun d _ => ?_
  rw [rowEntry_eq X b r n hn d, ← hW]
  rfl

variable (hE : ∀ c, Exist (tbl m c))

/-- A point's block, at an index. -/
theorem block_apply (c : Dev nD) (t : Fin grid0.N) (r : Fin 512) (j : Fin 1024) (n : Fin 147456) (hn : 512 * t.val + r.val = n.val) :
    (block m hE c t (ix3 r (0 : Fin 1) j) : EReal)
      = if (BitVec.ofNat 32 t.val).slt (used m c uix) then
          outAt (packed m c) (m ((c : Thread nD τ).loc main_arg3)) (m ((c : Thread nD τ).loc main_arg4)) (m ((c : Thread nD τ).loc main_arg5)) (expert (hE c) (t.cast N_0)) n j
        else 0 := by
  have hc := cond1_iff (grid0.coords t) (used m c uix)
  rw [coord_eq] at hc
  unfold block made
  by_cases h : (BitVec.ofNat 32 t.val).slt (used m c uix) = true
  · rw [if_pos (hc.2 h), if_pos h]
    refine (pay1_apply _ _ _ _ r j).trans ?_
    unfold outAt
    refine Finset.sum_congr rfl fun f _ => ?_
    rw [rowThrough_eq (packed m c) (gateW m c) _ (gateW_apply m c) _ (t.cast N_0) r n hn f, rowThrough_eq (packed m c) (valueW m c) _ (valueW_apply m c) _ (t.cast N_0) r n hn f]
    exact congrArg (fun z : EReal => through (packed m c) _ _ n f * Ideal.logistic (through (packed m c) _ _ n f) * through (packed m c) _ _ n f * z)
      (outW_apply m c (ix3 (expert (hE c) (t.cast N_0)) f j))
  · rw [if_neg (fun h' => h (hc.1 h')), if_neg h]
    exact pay2_apply _

/-- The kernel's result array is `expertOut` of the arguments. -/
theorem filled_eq (c : Dev nD) : filled m hE c
    = expertOut (expert (hE c)) (used m c uix) (packed m c) (m ((c : Thread nD τ).loc main_arg3)) (m ((c : Thread nD τ).loc main_arg4)) (m ((c : Thread nD τ).loc main_arg5)) := by
  funext (y : S147456x1x1024.Idx)
  have hy : (y 0).val < 147456 := (y 0).isLt
  exact block_apply m hE c ⟨(y 0).val / 512, by rw [N_0]; omega⟩ ⟨(y 0).val % 512, Nat.mod_lt _ (by omega)⟩ (y 2) (y 0)
    (by show 512 * ((y 0).val / 512) + (y 0).val % 512 = (y 0).val; omega)

end Cert.Experts
-- ==== Proof.Experts.Reference.lean ====
/- The experts' reference computes `expertOut` of its arguments, and what its precondition says of the table. -/
module

public import proofs.«01_k».proof.Proof.Experts.Value
public import proofs.«01_k».proof.Proof.Gen.Reference5Ideal.Run
public import proofs.«01_k».proof.Proof.Gen.Pre_experts_exist
public import Idealize.ShloMosaic.Lib.KernelVsHost
public import Idealize.ShloMosaic.Lib.BitcastConvert
public import Idealize.ShloMosaic.Lib.StableHlo.Predicate
public import Idealize.ShloMosaic.Lib.WordCmp

@[expose] public section

set_option maxRecDepth 16384

noncomputable section

namespace Cert.Experts

open Idealize.ShloMosaic Idealize.ShloMosaic.TcCoe Idealize.SL.Sem

section Pre

open Cert.Pre_experts_exist

/-- The precondition: every block names one of the 32 experts. -/
theorem exist_of_pre {F : FTy → Type} [FloatOps F] (tb : IVec S288 32) (u : IVec S1 32) (X : IVec S147456x1x512 32) (G U : FVec F S32x1024x512 .f32) (D : FVec F S32x512x1024 .f32)
    (h : Cert.Pre_experts_exist.fn (F := F) tb u X G U D = fun _ => 1#1) : Exist (F := F) tb := by
  intro b
  have e := congrFun h (ix1 b)
  unfold fn at e
  simp only [Idealize.ShloMosaic.andi, cmpi, IntOp.cmpi, WordCmp.andi_ofBool, StableHlo.Predicate.ofBool_eq_one_iff, Bool.and_eq_true] at e
  obtain ⟨e0, e1⟩ := e
  have e0' : (0#32).sle (tb (ix1 b)) = true := e0
  have e1' : (tb (ix1 b)).slt 32#32 = true := e1
  show (tb (ix1 b)).toNat < 32
  simp only [BitVec.sle, BitVec.slt, decide_eq_true_eq, BitVec.toInt, BitVec.toNat_ofNat] at e0' e1'
  have := (tb (ix1 b)).isLt
  omega

end Pre

section Reference

open Cert.Reference5Ideal Cert.Reference5Ideal.Gen

/-- The indices the reference takes the experts' matrices by: the table, a negative word taken from the end. -/
def words (tb : IVec S288 32) : IVec S288x1 32 :=
  broadcastInDim S288x1 ![0] bcast_S288_S288x1_0 (select (cmpi .slt tb (broadcastInDim S288 ![] bcast_S_S288 (constantI S_ 32 0#32))) (addi tb (broadcastInDim S288 ![] bcast_S_S288 (constantI S_ 32 32#32))) tb)

/-- Of a table that names experts there are, the index is the table's word. -/
theorem words_apply (tb : IVec S288 32) (hE : Exist (F := Ideal) tb) (b : Fin 288) : words tb (ix2 b (0 : Fin 1)) = tb (ix1 b) := by
  have h : (tb (ix1 b)).toNat < 32 := hE b
  have hs : (tb (ix1 b)).slt 0#32 = false := by
    simp only [BitVec.slt, decide_eq_false_iff_not, BitVec.toInt, BitVec.toNat_ofNat]
    omega
  unfold words
  pointwise
  show (if BitVec.ofBool ((tb (ix1 b)).slt 0#32) = 1#1 then _ else tb (ix1 b)) = tb (ix1 b)
  rw [hs, if_neg (by decide)]

/-- The experts' matrices, one for each block. -/
def taken (W : S32x1024x512.Idx → EReal) (e : Fin 288 → Fin 32) : S288x1024x512.Idx → EReal := fun y => W (ix3 (e (y 0)) (y 1) (y 2))
/-- The same of the matrices back. -/
def takenDown (W : S32x512x1024.Idx → EReal) (e : Fin 288 → Fin 32) : S288x512x1024.Idx → EReal := fun y => W (ix3 (e (y 0)) (y 1) (y 2))

/-- Taking matrices by the indices takes each block's expert's. -/
theorem taken_eq (tb : IVec S288 32) (hE : Exist (F := Ideal) tb) (W : S32x1024x512.Idx → EReal) :
    Host.gather gather_S32x1024x512_S288x1_S288x1024x512_12_0_n_n_0_1_11024512 W (words tb) = taken W (expert hE) := by
  funext y
  obtain ⟨b, p, q, rfl⟩ : ∃ (b : Fin 288) (p : Fin 1024) (q : Fin 512), y = ix3 b p q := ⟨y 0, y 1, y 2, eq_ix3 y⟩
  refine congrArg W ?_
  have h : (tb (ix1 b)).toNat < 32 := hE b
  funext a; apply Fin.ext
  match a with
  | ⟨0, _⟩ =>
    have hi : ∀ k : S288x1.Idx, k = ix2 b (0 : Fin 1) → min (words tb k).toInt.toNat 31 = (tb (ix1 b)).toNat := by
      rintro k rfl
      rw [words_apply tb hE]
      simp only [BitVec.toInt]
      omega
    refine hi _ (funext fun a => Fin.ext ?_)
    match a with
    | ⟨0, _⟩ => rfl
    | ⟨1, _⟩ => rfl
  | ⟨1, _⟩ => show 0 + 0 + p.val = p.val; omega
  | ⟨2, _⟩ => show 0 + 0 + q.val = q.val; omega

/-- The same of the matrices back. -/
theorem takenDown_eq (tb : IVec S288 32) (hE : Exist (F := Ideal) tb) (W : S32x512x1024.Idx → EReal) :
    Host.gather gather_S32x512x1024_S288x1_S288x512x1024_12_0_n_n_0_1_15121024 W (words tb) = takenDown W (expert hE) := by
  funext y
  obtain ⟨b, p, q, rfl⟩ : ∃ (b : Fin 288) (p : Fin 512) (q : Fin 1024), y = ix3 b p q := ⟨y 0, y 1, y 2, eq_ix3 y⟩
  refine congrArg W ?_
  have h : (tb (ix1 b)).toNat < 32 := hE b
  funext a; apply Fin.ext
  match a with
  | ⟨0, _⟩ =>
    have hi : ∀ k : S288x1.Idx, k = ix2 b (0 : Fin 1) → min (words tb k).toInt.toNat 31 = (tb (ix1 b)).toNat := by
      rintro k rfl
      rw [words_apply tb hE]
      simp only [BitVec.toInt]
      omega
    refine hi _ (funext fun a => Fin.ext ?_)
    match a with
    | ⟨0, _⟩ => rfl
    | ⟨1, _⟩ => rfl
  | ⟨1, _⟩ => show 0 + 0 + p.val = p.val; omega
  | ⟨2, _⟩ => show 0 + 0 + q.val = q.val; omega

/-- A row's entry through a matrix, by the words' low and high halves. -/
theorem through_halves (X : S147456x1x512.Idx → BitVec 32) (W : S32x1024x512.Idx → EReal) (e : Fin 32) (n : Fin 147456) (f : Fin 512) :
    through X W e n f = (∑ p : Fin 512, low (X (ix3 n (0 : Fin 1) p)) * W (ix3 e (⟨p.val, by omega⟩ : Fin 1024) f))
      + ∑ p : Fin 512, high (X (ix3 n (0 : Fin 1) p)) * W (ix3 e (⟨512 + p.val, by omega⟩ : Fin 1024) f) := by
  unfold through
  refine (Fin.sum_univ_add (a := 512) (b := 512) _).trans (congrArg₂ (fun a b : EReal => a + b) (Finset.sum_congr rfl fun p _ => ?_) (Finset.sum_congr rfl fun p _ => ?_))
  · have h : unpacked X n (Fin.castAdd 512 p) = low (X (ix3 n (0 : Fin 1) p)) := dif_pos (show p.val < 512 from p.isLt)
    rw [h]
    rfl
  · have h : unpacked X n (Fin.natAdd 512 p) = high (X (ix3 n (0 : Fin 1) p)) := by
      unfold unpacked
      refine (dif_neg (show ¬ 512 + p.val < 512 by omega)).trans ?_
      refine congrArg (fun q : Fin 512 => high (X (ix3 n (0 : Fin 1) q))) (Fin.ext ?_)
      show 512 + p.val - 512 = p.val
      omega
    rw [h]
    rfl

/-- The choice by a comparison of words. -/
theorem select_slt (a b : BitVec 32) (x y : EReal) : Scalar.select (IntOp.cmpi .slt a b) x y = if a.slt b then x else y := by
  show (if BitVec.ofBool (a.slt b) = 1#1 then x else y) = _
  cases a.slt b <;> rfl

/-- The reference's rows are the experts'. -/
theorem reference_eq (m : (ℓ : Loc nD τ sig) → Buf (Elt Ideal) ℓ) (c : Dev nD) (hE : Exist (F := Ideal) (m ((c.tc : Thread nD τ).loc main_arg0))) :
    Cert.Reference5Ideal.Value.res_out0 m c
      = expertOut (expert hE) ((m ((c.tc : Thread nD τ).loc main_arg1) : IVec S1 32) (ix1 (0 : Fin 1))) (m ((c.tc : Thread nD τ).loc main_arg2)) (m ((c.tc : Thread nD τ).loc main_arg3))
          (m ((c.tc : Thread nD τ).loc main_arg4)) (m ((c.tc : Thread nD τ).loc main_arg5)) := by
  have h3 := taken_eq (m ((c.tc : Thread nD τ).loc main_arg0)) hE (m ((c.tc : Thread nD τ).loc main_arg3))
  have h4 := taken_eq (m ((c.tc : Thread nD τ).loc main_arg0)) hE (m ((c.tc : Thread nD τ).loc main_arg4))
  have h5 := takenDown_eq (m ((c.tc : Thread nD τ).loc main_arg0)) hE (m ((c.tc : Thread nD τ).loc main_arg5))
  unfold words at h3 h4 h5
  unfold Cert.Reference5Ideal.Value.res_out0 Cert.Reference5Ideal.Value.res_main_v40
  erw [h3, h4, h5]
  funext y
  obtain ⟨n, z, j, rfl⟩ : ∃ (n : Fin 147456) (z : Fin 1) (j : Fin 1024), y = ix3 n z j := ⟨y 0, y 1, y 2, eq_ix3 y⟩
  pointwise
  refine (select_slt _ _ _ _).trans ?_
  show _ = (if (BitVec.ofNat 32 (n.val / 512)).slt _ then outAt _ _ _ _ (expert hE (blockOf n)) n j else (0 : EReal))
  refine congrArg₂ (fun a b : EReal => if (BitVec.ofNat 32 (n.val / 512)).slt _ then a else b) ?_ (Ideal.ofBits_zero_f32)
  unfold outAt
  refine Finset.sum_congr rfl fun f _ => ?_
  rw [through_halves, through_halves]
  rfl

end Reference

end Cert.Experts
-- ==== Proof.Experts.Same.lean ====
/- The experts' kernel and its ideal program have one text: their definitions are equal at any floats. -/
module

public import proofs.«01_k».proof.Proof.Gen.Kernel5
public import proofs.«01_k».proof.Proof.Gen.Kernel5Ideal

@[expose] public section

set_option maxRecDepth 10000
set_option maxHeartbeats 400000

namespace Cert.Experts

open Idealize.ShloMosaic Idealize.ShloMosaic.TcCoe

variable {F : FTy → Type} [FloatOps F]

/-- The bodies are equal. -/
theorem same_body : @Cert.Kernel5.cc0_moe_ffn F _ _ = @Cert.Kernel5Ideal.cc0_moe_ffn F _ _ := by
  unfold Cert.Kernel5.cc0_moe_ffn Cert.Kernel5Ideal.cc0_moe_ffn
  rfl

/-- The body tables are equal. -/
theorem same_table : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun same_body _) _) _) _) _) _) _) _) _) _) _) _) _) _) _
  | ⟨n + 1, h⟩, _ => exact absurd h (by omega)

/-- The programs' definitions are equal. -/
theorem same_defs : Cert.Kernel5.defs (F := F) = Cert.Kernel5Ideal.defs (F := F) := congrArg (Pipeline.defs Cert.Kernel5Ideal.pcfgs) same_table

/-- What the ideal program's text does from a state, the kernel's does. -/
theorem same_run (s : MemSt Cert.Kernel5.nD Cert.Kernel5.τ Cert.Kernel5.sig (Elt F)) (Q : _ → Prop)
    (h : θ_run (Cert.Kernel5Ideal.defs (F := F)) (onTc (τ := Cert.Kernel5Ideal.τ) (Cert.Kernel5Ideal.main (F := F))) s Q) :
    θ_run (Cert.Kernel5.defs (F := F)) (onTc (τ := Cert.Kernel5.τ) (Cert.Kernel5.main (F := F))) s Q := by
  rw [same_defs]
  exact h

end Cert.Experts
-- ==== Proof.Prepare.Spec.lean ====
/-
  What the sparse attention's preparation computes, from the projection `u` and the four gains. A token's queries are eight
  heads of 64 columns from column 3072 on, each head normalised, scaled by the first gain and divided by eight. Two of the four
  parts of 128 columns from column 4352 on are keys, two groups of 64, each normalised and scaled by its gain; the two others
  are values and are passed on as they are.
-/
module

public import proofs.«01_k».proof.Proof.Gen.Kernel7Ideal
public import Idealize.ShloMosaic.Lib.Pointwise

@[expose] public section

set_option maxRecDepth 16384

noncomputable section

namespace Cert.Prepare

open Cert.Kernel7Ideal Idealize.ShloMosaic

/-- An entry of a normalised head: the head's entry over the root of the mean of its squares, a small number added to the mean,
    times the gain. -/
def normal (x g : Fin 64 → EReal) (d : Fin 64) : EReal :=
  x d * Ideal.rsqrt (Ideal.div (∑ e, x e * x e) (Ideal.ofBits .f32 0x42800000#32) + Ideal.ofBits .f32 0x358637BD#32) * g d

/-- The column of `u` that holds entry `e` of query column `q`'s head. -/
def queryColumn (q : Fin 512) (e : Fin 64) : Fin 4992 := ⟨3072 + (64 * (q.val / 64) + e.val), by omega⟩

/-- The column of `u` that holds entry `e` of the group of column `q`, in part `s` of four. -/
def keyColumn (s : Fin 4) (q : Fin 128) (e : Fin 64) : Fin 4992 := ⟨4352 + 128 * s.val + (64 * (q.val / 64) + e.val), by omega⟩

/-- The column of `u` that holds column `q` of part `s`. -/
def plainColumn (s : Fin 4) (q : Fin 128) : Fin 4992 := ⟨4352 + 128 * s.val + q.val, by omega⟩

/-- A query column's place in its head. -/
def queryPlace (q : Fin 512) : Fin 64 := ⟨q.val % 64, by omega⟩

/-- A column's place in its group. -/
def keyPlace (q : Fin 128) : Fin 64 := ⟨q.val % 64, by omega⟩

/-- The queries. -/
def queries (u : Vec Ideal S65536x4992 .f32) (gain : Vec Ideal S4x64 .f32) : Vec Ideal S65536x512 .bf16 :=
  fun y => normal (fun e => u (ix2 (y 0) (queryColumn (y 1) e))) (fun e => gain (ix2 0 e)) (queryPlace (y 1))
    * Ideal.ofBits .f32 0x3E000000#32

/-- The keys of part `s`, with row `k` of the gains. -/
def keys (s k : Fin 4) (u : Vec Ideal S65536x4992 .f32) (gain : Vec Ideal S4x64 .f32) : Vec Ideal S65536x128 .bf16 :=
  fun y => normal (fun e => u (ix2 (y 0) (keyColumn s (y 1) e))) (fun e => gain (ix2 k e)) (keyPlace (y 1))

/-- The values of part `s`. -/
def values (s : Fin 4) (u : Vec Ideal S65536x4992 .f32) : Vec Ideal S65536x128 .bf16 :=
  fun y => u (ix2 (y 0) (plainColumn s (y 1)))

end Cert.Prepare
-- ==== Proof.Prepare.Point.lean ====
/-
  What one grid point of the preparation's kernel leaves in its five results, written with the kernel's own vectors.
-/
module

public import proofs.«01_k».proof.Proof.Gen.Kernel7Ideal.Value
public import proofs.«01_k».proof.Proof.Prepare.Spec
public import Idealize.ShloMosaic.Lib.KernelVsHost
public import Idealize.ShloMosaic.Lib.Pipeline.ValueKit
public import Idealize.ShloMosaic.Lib.WholeRead

@[expose] public section

set_option maxRecDepth 16384

noncomputable section

namespace Cert.Prepare

open Cert.Kernel7Ideal Cert.Kernel7Ideal.Gen Cert.Kernel7Ideal.Value Idealize.ShloMosaic Idealize.ShloMosaic.TcCoe Idealize.SL.Sem

/-- The normalisation of 512 rows of queries within their heads. -/
def queryNorm (y : FVec Ideal S512x512 .f32) (bd : Vec Ideal S512x512 .bf16) (g : Vec Ideal S1x512 .f32) : FVec Ideal S512x512 .f32 :=
  mulf (mulf y (rsqrt (addf (addf
      (matmul dot_S512x512_S512x512_S512x512_1_0_0_1_n_n none (truncf .bf16 (mulf y y) bitsLt_bf16_f32)
        (shapeCast S512x512 bd shapeCasts_S512x512_S512x512 : FVec Ideal S512x512 .bf16) (constant S512x512 .f32 0x00000000#32))
      (matmul dot_S512x512_S512x512_S512x512_1_0_0_1_n_n none
        (truncf .bf16 (subf (mulf y y) (extf .f32 (truncf .bf16 (mulf y y) bitsLt_bf16_f32) bitsLt_bf16_f32)) bitsLt_bf16_f32)
        (shapeCast S512x512 bd shapeCasts_S512x512_S512x512 : FVec Ideal S512x512 .bf16) (constant S512x512 .f32 0x00000000#32)))
      (broadcast S512x512 (Scalar.ofBits .f32 0x358637BD#32)))))
    (broadcastTo S512x512 (shapeCast S1x512 g shapeCasts_S1x512_S1x512) broadcasts_S1x512_S512x512)

/-- An entry of it. -/
theorem queryNorm_apply (y : FVec Ideal S512x512 .f32) (bd : Vec Ideal S512x512 .bf16) (g : Vec Ideal S1x512 .f32) (r : Fin 512) (q : Fin 512) :
    queryNorm y bd g (ix2 r q)
      = y (ix2 r q) * Ideal.rsqrt ((∑ j : Fin 512, y (ix2 r j) * y (ix2 r j) * bd (ix2 j q))
          + (∑ j : Fin 512, (y (ix2 r j) * y (ix2 r j) - y (ix2 r j) * y (ix2 r j)) * bd (ix2 j q))
          + Ideal.ofBits .f32 0x358637BD#32) * g (ix2 0 q) := by
  unfold queryNorm
  pointwise

/-- The normalisation of 512 rows of keys within their groups. -/
def keyNorm (y : FVec Ideal S512x128 .f32) (bd : Vec Ideal S128x128 .bf16) (g : Vec Ideal S1x128 .f32) : FVec Ideal S512x128 .f32 :=
  mulf (mulf y (rsqrt (addf (addf
      (matmul dot_S512x128_S128x128_S512x128_1_0_0_1_n_n none (truncf .bf16 (mulf y y) bitsLt_bf16_f32)
        (shapeCast S128x128 bd shapeCasts_S128x128_S128x128 : FVec Ideal S128x128 .bf16) (constant S512x128 .f32 0x00000000#32))
      (matmul dot_S512x128_S128x128_S512x128_1_0_0_1_n_n none
        (truncf .bf16 (subf (mulf y y) (extf .f32 (truncf .bf16 (mulf y y) bitsLt_bf16_f32) bitsLt_bf16_f32)) bitsLt_bf16_f32)
        (shapeCast S128x128 bd shapeCasts_S128x128_S128x128 : FVec Ideal S128x128 .bf16) (constant S512x128 .f32 0x00000000#32)))
      (broadcast S512x128 (Scalar.ofBits .f32 0x358637BD#32)))))
    (broadcastTo S512x128 (shapeCast S1x128 g shapeCasts_S1x128_S1x128) broadcasts_S1x128_S512x128)

/-- An entry of it. -/
theorem keyNorm_apply (y : FVec Ideal S512x128 .f32) (bd : Vec Ideal S128x128 .bf16) (g : Vec Ideal S1x128 .f32) (r : Fin 512) (q : Fin 128) :
    keyNorm y bd g (ix2 r q)
      = y (ix2 r q) * Ideal.rsqrt ((∑ j : Fin 128, y (ix2 r j) * y (ix2 r j) * bd (ix2 j q))
          + (∑ j : Fin 128, (y (ix2 r j) * y (ix2 r j) - y (ix2 r j) * y (ix2 r j)) * bd (ix2 j q))
          + Ideal.ofBits .f32 0x358637BD#32) * g (ix2 0 q) := by
  unfold keyNorm
  pointwise

variable (m : (ℓ : Loc nD τ sig) → Buf (Elt Ideal) ℓ)

/-- What a grid point leaves of the queries. -/
theorem point10 (c : Dev nD) (t : Fin cfg0.N) :
    (dats m 0 c).after 10 t = truncf .bf16 (mulf (queryNorm (X0_0 m c t) (iblk m c 8 t) (iblk m c 5 t))
      (broadcast S512x512 (Scalar.ofBits .f32 0x3E000000#32))) bitsLt_bf16_f32 := by
  rw [after0_10]
  unfold outsAt0
  frame_out
  sl_kernel_rfl

/-- What a grid point leaves of the first keys. -/
theorem point11 (c : Dev nD) (t : Fin cfg0.N) :
    (dats m 0 c).after 11 t = truncf .bf16 (keyNorm (iblk m c 1 t) (iblk m c 9 t) (iblk m c 6 t)) bitsLt_bf16_f32 := by
  rw [after0_11]
  unfold outsAt0
  frame_out
  sl_kernel_rfl

/-- What a grid point leaves of the first values. -/
theorem point12 (c : Dev nD) (t : Fin cfg0.N) :
    (dats m 0 c).after 12 t = truncf (F := Ideal) .bf16 (iblk m c 2 t : FVec Ideal S512x128 .f32) bitsLt_bf16_f32 := by
  rw [after0_12]
  unfold outsAt0
  frame_out
  sl_kernel_rfl

/-- What a grid point leaves of the second keys. -/
theorem point13 (c : Dev nD) (t : Fin cfg0.N) :
    (dats m 0 c).after 13 t = truncf .bf16 (keyNorm (iblk m c 3 t) (iblk m c 9 t) (iblk m c 7 t)) bitsLt_bf16_f32 := by
  rw [after0_13]
  unfold outsAt0
  frame_out
  sl_kernel_rfl

/-- What a grid point leaves of the second values. -/
theorem point14 (c : Dev nD) (t : Fin cfg0.N) :
    (dats m 0 c).after 14 t = truncf (F := Ideal) .bf16 (iblk m c 4 t : FVec Ideal S512x128 .f32) bitsLt_bf16_f32 := by
  rw [after0_14]
  unfold outsAt0
  frame_out
  sl_kernel_rfl

end Cert.Prepare
-- ==== Proof.Prepare.Prepared.lean ====
/-
  The arrays that the program prepares for the preparation's kernel before it starts: the gains of the queries and of the two
  parts of keys, once per head; and the two matrices that average within a head, one over 64 where row and column lie in the
  same head and zero elsewhere.
-/
module

public import proofs.«01_k».proof.Proof.Gen.Kernel7Ideal.Value
public import proofs.«01_k».proof.Proof.Prepare.Spec
public import Idealize.ShloMosaic.Lib.KernelVsHost
public import Idealize.ShloMosaic.Lib.Pipeline.ValueKit

@[expose] public section

set_option maxRecDepth 16384

noncomputable section

namespace Cert.Prepare

open Cert.Kernel7Ideal Cert.Kernel7Ideal.Gen Idealize.ShloMosaic Idealize.ShloMosaic.TcCoe Idealize.SL.Sem

/-- Whether two numbers below 512 are the same, as the program asks it of their words: one if they are, zero if not. -/
theorem same_number (a b : ℕ) (ha : a < 512) (hb : b < 512) :
    FloatOps.uitofp (F := Ideal) .f32 (IntOp.cmpi .eq (BitVec.ofNat 32 a) (BitVec.ofNat 32 b)) = (if a = b then 1 else 0 : EReal) := by
  by_cases h : a = b
  · subst h
    rw [if_pos rfl]
    show ((((IntOp.cmpi .eq (BitVec.ofNat 32 a) (BitVec.ofNat 32 a)).toNat : ℝ) : EReal)) = _
    simp [IntOp.cmpi]
  · rw [if_neg h]
    have hn : BitVec.ofNat 32 a ≠ BitVec.ofNat 32 b := fun e => h (by
      have := congrArg BitVec.toNat e
      simp only [BitVec.toNat_ofNat] at this
      omega)
    show ((((IntOp.cmpi .eq (BitVec.ofNat 32 a) (BitVec.ofNat 32 b)).toNat : ℝ) : EReal)) = _
    simp [IntOp.cmpi, hn]

/-- The head number of each of 512 columns, as the program computes it: the quotient by 64, lowered by one where the signs
    differ and the remainder is not zero. -/
def queryNumbers : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- A column's head number is its number divided by 64. -/
theorem queryNumbers_apply : ∀ j : Fin 512, queryNumbers (ix1 j) = BitVec.ofNat 32 (j.val / 64) := by
  decide +kernel

/-- The averaging matrix of the queries from the head numbers, as the program computes it. -/
def queryAveraging (n : IVec S512 32) : FVec Ideal S512x512 .bf16 :=
  truncf .bf16 (Host.divf (uitofp .f32 (cmpi .eq
      (broadcastInDim S512x512 ![0, 1] bcast_S512x1_S512x512_0_1 (broadcastInDim S512x1 ![0] bcast_S512_S512x1_0 n))
      (broadcastInDim S512x512 ![0, 1] bcast_S1x512_S512x512_0_1 (broadcastInDim S1x512 ![1] bcast_S512_S1x512_1 n))))
    (broadcastInDim S512x512 ![] bcast_S_S512x512 (constant S_ .f32 0x42800000#32))) bitsLt_bf16_f32

/-- An entry of the averaging matrix of the queries. -/
theorem queryAveraging_apply (j q : Fin 512) :
    queryAveraging queryNumbers (ix2 j q)
      = Ideal.div (if j.val / 64 = q.val / 64 then 1 else 0) (Ideal.ofBits .f32 0x42800000#32) := by
  have h : queryAveraging queryNumbers (ix2 j q)
      = Ideal.div (FloatOps.uitofp (F := Ideal) .f32 (IntOp.cmpi .eq (queryNumbers (ix1 j)) (queryNumbers (ix1 q))))
          (Ideal.ofBits .f32 0x42800000#32) := by
    unfold queryAveraging
    generalize queryNumbers = n
    pointwise
  have hj := j.isLt
  have hq := q.isLt
  rw [h, queryNumbers_apply, queryNumbers_apply]
  exact congrArg (fun x => Ideal.div x _) (same_number _ _ (by omega) (by omega))

/-- The head number of each of 128 columns, as the program computes it: the quotient by 64, lowered by one where the signs
    differ and the remainder is not zero. -/
def keyNumbers : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- A column's head number is its number divided by 64. -/
theorem keyNumbers_apply : ∀ j : Fin 128, keyNumbers (ix1 j) = BitVec.ofNat 32 (j.val / 64) := by
  decide +kernel

/-- The averaging matrix of the keys from the head numbers, as the program computes it. -/
def keyAveraging (n : IVec S128 32) : FVec Ideal S128x128 .bf16 :=
  truncf .bf16 (Host.divf (uitofp .f32 (cmpi .eq
      (broadcastInDim S128x128 ![0, 1] bcast_S128x1_S128x128_0_1 (broadcastInDim S128x1 ![0] bcast_S128_S128x1_0 n))
      (broadcastInDim S128x128 ![0, 1] bcast_S1x128_S128x128_0_1 (broadcastInDim S1x128 ![1] bcast_S128_S1x128_1 n))))
    (broadcastInDim S128x128 ![] bcast_S_S128x128 (constant S_ .f32 0x42800000#32))) bitsLt_bf16_f32

/-- An entry of the averaging matrix of the keys. -/
theorem keyAveraging_apply (j q : Fin 128) :
    keyAveraging keyNumbers (ix2 j q)
      = Ideal.div (if j.val / 64 = q.val / 64 then 1 else 0) (Ideal.ofBits .f32 0x42800000#32) := by
  have h : keyAveraging keyNumbers (ix2 j q)
      = Ideal.div (FloatOps.uitofp (F := Ideal) .f32 (IntOp.cmpi .eq (keyNumbers (ix1 j)) (keyNumbers (ix1 q))))
          (Ideal.ofBits .f32 0x42800000#32) := by
    unfold keyAveraging
    generalize keyNumbers = n
    pointwise
  have hj := j.isLt
  have hq := q.isLt
  rw [h, keyNumbers_apply, keyNumbers_apply]
  exact congrArg (fun x => Ideal.div x _) (same_number _ _ (by omega) (by omega))

variable (m : (ℓ : Loc nD τ sig) → Buf (Elt Ideal) ℓ)

/-- The gain of the queries as the kernel finds it: row 0, once per head. -/
theorem query_gain (c : Dev nD) (q : Fin 512) :
    V m c main_v5 (ix2 0 q) = m ((c : Thread nD τ).loc main_arg1) (ix2 0 (queryPlace q)) := by
  have h : V m c main_v5 = shapeCast S1x512 (shapeCast S512 (broadcastInDim S8x64 ![0, 1] bcast_S1x64_S8x64_0_1
      (shapeCast S1x64 (shapeCast S64 (extractStridedSlice S1x64 ![0, 0] (m ((c : Thread nD τ).loc main_arg1))
        slices_S4x64_S1x64_0_0) shapeCasts_S1x64_S64) shapeCasts_S64_S1x64)) shapeCasts_S8x64_S512) shapeCasts_S512_S1x512 := by
    simp only [V, List.flatten_cons, List.flatten_nil, List.append_nil, List.cons_append, List.nil_append]
    entry_read
    rfl
  rw [h]
  generalize m ((c : Thread nD τ).loc main_arg1) = g
  pointwise
  rfl

/-- The gain of the first keys as the kernel finds it: row 2, once per head. -/
theorem first_gain (c : Dev nD) (q : Fin 128) :
    V m c main_v11 (ix2 0 q) = m ((c : Thread nD τ).loc main_arg1) (ix2 2 (keyPlace q)) := by
  have h : V m c main_v11 = shapeCast S1x128 (shapeCast S128 (broadcastInDim S2x64 ![0, 1] bcast_S1x64_S2x64_0_1
      (shapeCast S1x64 (shapeCast S64 (extractStridedSlice S1x64 ![2, 0] (m ((c : Thread nD τ).loc main_arg1))
        slices_S4x64_S1x64_2_0) shapeCasts_S1x64_S64) shapeCasts_S64_S1x64)) shapeCasts_S2x64_S128) shapeCasts_S128_S1x128 := by
    simp only [V, List.flatten_cons, List.flatten_nil, List.append_nil, List.cons_append, List.nil_append]
    entry_read
    rfl
  rw [h]
  generalize m ((c : Thread nD τ).loc main_arg1) = g
  pointwise
  rfl

/-- The gain of the second keys as the kernel finds it: row 3, once per head. -/
theorem second_gain (c : Dev nD) (q : Fin 128) :
    V m c main_v17 (ix2 0 q) = m ((c : Thread nD τ).loc main_arg1) (ix2 3 (keyPlace q)) := by
  have h : V m c main_v17 = shapeCast S1x128 (shapeCast S128 (broadcastInDim S2x64 ![0, 1] bcast_S1x64_S2x64_0_1
      (shapeCast S1x64 (shapeCast S64 (extractStridedSlice S1x64 ![3, 0] (m ((c : Thread nD τ).loc main_arg1))
        slices_S4x64_S1x64_3_0) shapeCasts_S1x64_S64) shapeCasts_S64_S1x64)) shapeCasts_S2x64_S128) shapeCasts_S128_S1x128 := by
    simp only [V, List.flatten_cons, List.flatten_nil, List.append_nil, List.cons_append, List.nil_append]
    entry_read
    rfl
  rw [h]
  generalize m ((c : Thread nD τ).loc main_arg1) = g
  pointwise
  rfl

/-- The averaging matrix of the queries as the kernel finds it. -/
theorem query_averaging (c : Dev nD) : V m c main_v28 = queryAveraging queryNumbers := by
  simp only [V, List.flatten_cons, List.flatten_nil, List.append_nil, List.cons_append, List.nil_append]
  entry_read
  sl_kernel_rfl

/-- The averaging matrix of the keys as the kernel finds it. -/
theorem key_averaging (c : Dev nD) : V m c main_v39 = keyAveraging keyNumbers := by
  simp only [V, List.flatten_cons, List.flatten_nil, List.append_nil, List.cons_append, List.nil_append]
  entry_read
  sl_kernel_rfl

end Cert.Prepare
-- ==== Proof.Compress.Spec.lean ====
/-
  What the compression computes, as one function of its five arguments. A sequence has 4096 tokens; a compressed token `r` of
  256 reads the 32 tokens from `16 r` on, those past the sequence's end taken from its start. For either of two head groups it
  adds the positions' vectors, multiplies with the first weights, applies the activation and multiplies with the second
  weights. The keys are normalised within each group and scaled by the gain; the values are not.
-/
module

public import proofs.«01_k».proof.Proof.Gen.Kernel6Ideal
public import Idealize.ShloMosaic.Lib.Pointwise

@[expose] public section

set_option maxRecDepth 16384

noncomputable section

namespace Cert.Compress

open Cert.Kernel6Ideal Idealize.ShloMosaic

/-- The token that compressed token `r` reads at place `l` of 32. -/
def source (r : Fin 256) (l : Fin 32) : Fin 4096 :=
  ⟨16 * ((r.val + l.val / 16) % 256) + l.val % 16, by omega⟩

/-- The hidden entry of compressed token `r`, from a group's tokens `x`, the positions' vectors and the first weights. -/
def hidden (x : Fin 4096 → Fin 64 → EReal) (pe : Fin 32 → Fin 64 → EReal) (w : Fin 2048 → Fin 256 → EReal)
    (r : Fin 256) (h : Fin 256) : EReal :=
  ∑ l : Fin 32, ∑ d : Fin 64, (x (source r l) d + pe l d) * w ⟨64 * l.val + d.val, by omega⟩ h

/-- The activation. -/
def act (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

/-- An entry of a compressed token, before any normalisation. -/
def compressed (x : Fin 4096 → Fin 64 → EReal) (pe : Fin 32 → Fin 64 → EReal) (w : Fin 2048 → Fin 256 → EReal)
    (v : Fin 256 → Fin 64 → EReal) (r : Fin 256) (d : Fin 64) : EReal :=
  ∑ h : Fin 256, act (hidden x pe w r h) * v h d

/-- The entry for keys (`kv = 0`) or values (`kv = 1`) of sequence `b`, group `g`, from the whole arguments. -/
def entry (u : Vec Ideal S16x4096x4992 .f32) (pe : Vec Ideal S2x32x64 .f32) (w1 : Vec Ideal S2x2048x256 .f32)
    (w2 : Vec Ideal S2x256x64 .f32) (kv : Fin 2) (b : Fin 16) (g : Fin 2) (r : Fin 256) (d : Fin 64) : EReal :=
  compressed (fun n e => u (ix3 b n ⟨4096 + 128 * kv.val + 64 * g.val + e.val, by omega⟩)) (fun l e => pe (ix3 kv l e))
    (fun k h => w1 (ix3 kv k h)) (fun h e => w2 (ix3 kv h e)) r d

/-- The factor of a group's entries: one over the square root of the mean of their squares, a small number added to it. -/
def scale (y : Fin 64 → EReal) : EReal :=
  Ideal.rsqrt (Ideal.div (∑ e, y e * y e) (Ideal.ofBits .f32 0x42800000#32) + Ideal.ofBits .f32 0x358637BD#32)

/-- The group of a column of 128. -/
def groupOf (q : Fin 128) : Fin 2 := ⟨q.val / 64, by omega⟩

/-- The column's place in its group. -/
def placeOf (q : Fin 128) : Fin 64 := ⟨q.val % 64, by omega⟩

/-- The compressed keys. -/
def keys (u : Vec Ideal S16x4096x4992 .f32) (gain : Vec Ideal S4x64 .f32) (pe : Vec Ideal S2x32x64 .f32)
    (w1 : Vec Ideal S2x2048x256 .f32) (w2 : Vec Ideal S2x256x64 .f32) : Vec Ideal S16x256x128 .bf16 :=
  fun y => entry u pe w1 w2 0 (y 0) (groupOf (y 2)) (y 1) (placeOf (y 2))
    * scale (fun e => entry u pe w1 w2 0 (y 0) (groupOf (y 2)) (y 1) e) * gain (ix2 1 (placeOf (y 2)))

/-- The compressed values. -/
def values (u : Vec Ideal S16x4096x4992 .f32) (pe : Vec Ideal S2x32x64 .f32)
    (w1 : Vec Ideal S2x2048x256 .f32) (w2 : Vec Ideal S2x256x64 .f32) : Vec Ideal S16x256x128 .bf16 :=
  fun y => entry u pe w1 w2 1 (y 0) (groupOf (y 2)) (y 1) (placeOf (y 2))

end Cert.Compress
-- ==== Proof.Compress.Finite.lean ====
/-
  Finite numbers. Where the arguments of the keys are finite, so are the compressed entries, and then the kernel's way to a
  group's mean of squares, a product with the averaging matrix of the squares and of what narrowing them leaves over, gives
  the sum of the group's squares divided by 64 (`mean_eq`).
-/
module

public import proofs.«01_k».proof.Proof.Compress.Spec

@[expose] public section

set_option maxRecDepth 16384

noncomputable section

namespace Cert.Compress

open Cert.Kernel6Ideal Idealize.ShloMosaic

/-- The number is finite: a real one. -/
def IsReal (x : EReal) : Prop := ∃ r : ℝ, x = (r : EReal)

/-- A sum of two is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real sum, as an extended real, is the sum of its terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite numbers is finite. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- The hyperbolic tangent of a finite number is finite. -/
theorem IsReal.tanh {x : EReal} (hx : IsReal x) : IsReal (Ideal.tanh x) := by
  obtain ⟨a, rfl⟩ := hx
  exact ⟨Real.tanh a, rfl⟩

/-- A number given by a finite pattern of bits is finite. -/
theorem isReal_bits (b : BitVec 32) (h : (b.extractLsb' 23 8).toNat ≠ 255) : IsReal (Ideal.ofBits .f32 b) := by
  show IsReal (Ideal.ieee 8 23 b)
  unfold Ideal.ieee
  dsimp only
  rw [if_neg (by simpa using h)]
  split <;> exact ⟨_, rfl⟩

/-- The activation of a finite number is finite. -/
theorem IsReal.act {x : EReal} (hx : IsReal x) : IsReal (act x) := by
  unfold Compress.act
  exact hx.mul ((isReal_bits _ (by decide)).mul ((isReal_bits _ (by decide)).add
    (((isReal_bits _ (by decide)).mul (hx.add ((isReal_bits _ (by decide)).mul ((hx.mul hx).mul hx)))).tanh)))

/-- A compressed entry of finite arguments is finite. -/
theorem isReal_compressed {x : Fin 4096 → Fin 64 → EReal} {pe : Fin 32 → Fin 64 → EReal} {w : Fin 2048 → Fin 256 → EReal}
    {v : Fin 256 → Fin 64 → EReal} (hx : ∀ n d, IsReal (x n d)) (hpe : ∀ l d, IsReal (pe l d)) (hw : ∀ k h, IsReal (w k h))
    (hv : ∀ h d, IsReal (v h d)) (r : Fin 256) (d : Fin 64) : IsReal (compressed x pe w v r d) := by
  unfold compressed hidden
  exact IsReal.sum fun h => (IsReal.act (IsReal.sum fun l => IsReal.sum fun e => ((hx _ _).add (hpe _ _)).mul (hw _ _))).mul (hv _ _)

/-- The number that the mean divides by is 64. -/
theorem bits_64 : Ideal.ofBits .f32 0x42800000#32 = ((64 : ℝ) : EReal) := by
  show Ideal.ieee 8 23 0x42800000#32 = _
  simp [Ideal.ieee]
  norm_num
  rw [← EReal.coe_mul]
  exact congrArg _ (by norm_num)

/-- Dividing by 64 is multiplying by its reciprocal. -/
theorem div_64 (x : ℝ) : Ideal.div (x : EReal) (Ideal.ofBits .f32 0x42800000#32) = ((x * 64⁻¹ : ℝ) : EReal) := by
  rw [bits_64]
  unfold Ideal.div
  rw [if_neg (by norm_num), ← EReal.coe_inv, EReal.coe_mul]

/-- A sum over 128 columns is a sum over two groups of 64. -/
theorem sum_groups (f : Fin 2 → Fin 64 → ℝ) : ∑ j : Fin 128, f (groupOf j) (placeOf j) = ∑ g : Fin 2, ∑ e : Fin 64, f g e := by
  rw [← Fintype.sum_prod_type' f]
  refine (Fintype.sum_equiv (finProdFinEquiv (m := 2) (n := 64)) _ _ fun p => ?_).symm
  have h := p.2.isLt
  exact congrArg₂ f (Fin.ext (by show p.1.val = (p.2.val + 64 * p.1.val) / 64; omega))
    (Fin.ext (by show p.2.val = (p.2.val + 64 * p.1.val) % 64; omega))

/-- The kernel's mean of a group's squares is the group's sum of squares divided by 64. -/
theorem mean_eq (y : Fin 2 → Fin 64 → EReal) (hy : ∀ g e, IsReal (y g e)) (q : Fin 128) :
    (∑ j : Fin 128, y (groupOf j) (placeOf j) * y (groupOf j) (placeOf j)
        * Ideal.div (if groupOf j = groupOf q then 1 else 0) (Ideal.ofBits .f32 0x42800000#32))
      + (∑ j : Fin 128, (y (groupOf j) (placeOf j) * y (groupOf j) (placeOf j) - y (groupOf j) (placeOf j) * y (groupOf j) (placeOf j))
        * Ideal.div (if groupOf j = groupOf q then 1 else 0) (Ideal.ofBits .f32 0x42800000#32))
      = Ideal.div (∑ e, y (groupOf q) e * y (groupOf q) e) (Ideal.ofBits .f32 0x42800000#32) := by
  choose f hf using hy
  have a : ∀ j : Fin 128, (y (groupOf j) (placeOf j) * y (groupOf j) (placeOf j) - y (groupOf j) (placeOf j) * y (groupOf j) (placeOf j))
        * Ideal.div (if groupOf j = groupOf q then 1 else 0) (Ideal.ofBits .f32 0x42800000#32) = 0 := fun j => by
    rw [hf, ← EReal.coe_mul, ← EReal.coe_sub, sub_self, EReal.coe_zero, zero_mul]
  have b : ∀ j : Fin 128, y (groupOf j) (placeOf j) * y (groupOf j) (placeOf j)
        * Ideal.div (if groupOf j = groupOf q then 1 else 0) (Ideal.ofBits .f32 0x42800000#32)
      = ((f (groupOf j) (placeOf j) * f (groupOf j) (placeOf j) * ((if groupOf j = groupOf q then 1 else 0) * 64⁻¹) : ℝ) : EReal) := fun j => by
    have e : (if groupOf j = groupOf q then 1 else 0 : EReal) = ((if groupOf j = groupOf q then 1 else 0 : ℝ) : EReal) := by
      split <;> simp
    rw [hf, e, div_64, ← EReal.coe_mul, ← EReal.coe_mul]
  have c : ∀ e : Fin 64, y (groupOf q) e * y (groupOf q) e = ((f (groupOf q) e * f (groupOf q) e : ℝ) : EReal) := fun e => by
    rw [hf, ← EReal.coe_mul]
  simp only [a, b, c, Finset.sum_const_zero, add_zero]
  rw [← coe_sum, ← coe_sum, div_64]
  refine congrArg _ ?_
  rw [sum_groups fun g e => f g e * f g e * ((if g = groupOf q then 1 else 0) * 64⁻¹), Finset.sum_eq_single (groupOf q)]
  · simp only [if_true, one_mul]
    rw [Finset.sum_mul]
  · intro g _ hg
    simp [hg]
  · intro h
    exact absurd (Finset.mem_univ _) h

end Cert.Compress
-- ==== Proof.Prepare.Mean.lean ====
/-
  The mean of a head's squares. The kernel multiplies the squares of a whole row with a matrix that is one over 64 within a
  head and zero elsewhere, and adds the product of what narrowing the squares leaves over. Of finite entries nothing is left
  over, and the product is the head's sum of squares divided by 64 (`mean_eq`).
-/
module

public import proofs.«01_k».proof.Proof.Compress.Finite

@[expose] public section

set_option maxRecDepth 16384

noncomputable section

namespace Cert.Prepare

open Cert.Compress Idealize.ShloMosaic

/-- The column at place `e` of the head of column `q`, the columns being whole heads. -/
def mate {N : ℕ} (hN : 64 ∣ N) (q : Fin N) (e : Fin 64) : Fin N :=
  ⟨64 * (q.val / 64) + e.val, by have := q.isLt; have := e.isLt; omega⟩

/-- A sum over the columns of one head, the others left out, is the sum over the head's 64 places. -/
theorem sum_head {N : ℕ} (hN : 64 ∣ N) (f : Fin N → ℝ) (q : Fin N) :
    ∑ j : Fin N, (if j.val / 64 = q.val / 64 then f j else 0) = ∑ e : Fin 64, f (mate hN q e) := by
  rw [← Finset.sum_filter]
  refine Finset.sum_nbij' (fun j => ⟨j.val % 64, by omega⟩) (fun e => mate hN q e) ?_ ?_ ?_ ?_ ?_
  · intro j _
    exact Finset.mem_univ _
  · intro e _
    refine Finset.mem_filter.2 ⟨Finset.mem_univ _, ?_⟩
    show (64 * (q.val / 64) + e.val) / 64 = q.val / 64
    omega
  · intro j hj
    have h := (Finset.mem_filter.1 hj).2
    refine Fin.ext ?_
    show 64 * (q.val / 64) + j.val % 64 = j.val
    omega
  · intro e _
    refine Fin.ext ?_
    show (64 * (q.val / 64) + e.val) % 64 = e.val
    omega
  · intro j hj
    have h := (Finset.mem_filter.1 hj).2
    refine congrArg f (Fin.ext ?_)
    show j.val = 64 * (q.val / 64) + j.val % 64
    omega

/-- The kernel's mean of a head's squares is the head's sum of squares divided by 64. -/
theorem mean_eq {N : ℕ} (hN : 64 ∣ N) (y : Fin N → EReal) (hy : ∀ j, IsReal (y j)) (q : Fin N) :
    (∑ j : Fin N, y j * y j * Ideal.div (if j.val / 64 = q.val / 64 then 1 else 0) (Ideal.ofBits .f32 0x42800000#32))
      + (∑ j : Fin N, (y j * y j - y j * y j) * Ideal.div (if j.val / 64 = q.val / 64 then 1 else 0) (Ideal.ofBits .f32 0x42800000#32))
      = Ideal.div (∑ e : Fin 64, y (mate hN q e) * y (mate hN q e)) (Ideal.ofBits .f32 0x42800000#32) := by
  choose f hf using hy
  have a : ∀ j : Fin N, (y j * y j - y j * y j)
        * Ideal.div (if j.val / 64 = q.val / 64 then 1 else 0) (Ideal.ofBits .f32 0x42800000#32) = 0 := fun j => by
    rw [hf, ← EReal.coe_mul, ← EReal.coe_sub, sub_self, EReal.coe_zero, zero_mul]
  have b : ∀ j : Fin N, y j * y j * Ideal.div (if j.val / 64 = q.val / 64 then 1 else 0) (Ideal.ofBits .f32 0x42800000#32)
      = ((if j.val / 64 = q.val / 64 then f j * f j * 64⁻¹ else 0 : ℝ) : EReal) := fun j => by
    have e : (if j.val / 64 = q.val / 64 then 1 else 0 : EReal) = ((if j.val / 64 = q.val / 64 then 1 else 0 : ℝ) : EReal) := by
      split <;> simp
    rw [hf, e, div_64, ← EReal.coe_mul, ← EReal.coe_mul]
    refine congrArg _ ?_
    split <;> ring
  have c : ∀ e : Fin 64, y (mate hN q e) * y (mate hN q e) = ((f (mate hN q e) * f (mate hN q e) : ℝ) : EReal) := fun e => by
    rw [hf, ← EReal.coe_mul]
  simp only [a, b, c, Finset.sum_const_zero, add_zero]
  rw [← coe_sum, ← coe_sum, div_64]
  refine congrArg _ ?_
  rw [sum_head hN (fun j => f j * f j * 64⁻¹) q, Finset.sum_mul]

end Cert.Prepare
-- ==== Proof.Prepare.Value.lean ====
/-
  The preparation's kernel as one function of its arguments: each grid point writes its 512 rows of the five results, and the
  blocks fill the results. Queries and keys are `queries` and `keys` where what they are computed from is finite; the values are
  `values`.
-/
module

public import proofs.«01_k».proof.Proof.Prepare.Point
public import proofs.«01_k».proof.Proof.Prepare.Prepared
public import proofs.«01_k».proof.Proof.Prepare.Mean

@[expose] public section

set_option maxRecDepth 16384

noncomputable section

namespace Cert.Prepare

open Cert.Kernel7Ideal Cert.Kernel7Ideal.Gen Cert.Kernel7Ideal.Value Idealize.ShloMosaic Idealize.ShloMosaic.TcCoe Idealize.SL.Sem Cert.Compress

variable (m : (ℓ : Loc nD τ sig) → Buf (Elt Ideal) ℓ) (ρ : Dev nD → PrngReg)

/-- The queries at point `t`: its 512 rows, columns from 3072 on. -/
theorem index0 : ∀ t : Fin cfg0.N, win0_0.index t = ![t.val, 6] := (by decide +kernel : ∀ t : Fin grid0.N, _)

/-- The first keys at point `t`: its 512 rows, columns from 4352 on. -/
theorem index1 : ∀ t : Fin cfg0.N, win0_1.index t = ![t.val, 34] := (by decide +kernel : ∀ t : Fin grid0.N, _)

/-- The first values at point `t`: its 512 rows, columns from 4480 on. -/
theorem index2 : ∀ t : Fin cfg0.N, win0_2.index t = ![t.val, 35] := (by decide +kernel : ∀ t : Fin grid0.N, _)

/-- The second keys at point `t`: its 512 rows, columns from 4608 on. -/
theorem index3 : ∀ t : Fin cfg0.N, win0_3.index t = ![t.val, 36] := (by decide +kernel : ∀ t : Fin grid0.N, _)

/-- The second values at point `t`: its 512 rows, columns from 4736 on. -/
theorem index4 : ∀ t : Fin cfg0.N, win0_4.index t = ![t.val, 37] := (by decide +kernel : ∀ t : Fin grid0.N, _)

/-- The queries' gain's one block is the whole array. -/
theorem index5 : ∀ t : Fin cfg0.N, win0_5.index t = ![0, 0] := (by decide +kernel : ∀ t : Fin grid0.N, _)

/-- The first keys' gain's one block is the whole array. -/
theorem index6 : ∀ t : Fin cfg0.N, win0_6.index t = ![0, 0] := (by decide +kernel : ∀ t : Fin grid0.N, _)

/-- The second keys' gain's one block is the whole array. -/
theorem index7 : ∀ t : Fin cfg0.N, win0_7.index t = ![0, 0] := (by decide +kernel : ∀ t : Fin grid0.N, _)

/-- The queries' averaging matrix's one block is the whole array. -/
theorem index8 : ∀ t : Fin cfg0.N, win0_8.index t = ![0, 0] := (by decide +kernel : ∀ t : Fin grid0.N, _)

/-- The keys' averaging matrix's one block is the whole array. -/
theorem index9 : ∀ t : Fin cfg0.N, win0_9.index t = ![0, 0] := (by decide +kernel : ∀ t : Fin grid0.N, _)

/-- The queries' block at point `t` is its 512 rows. -/
theorem index10 : ∀ t : Fin cfg0.N, win0_10.index t = ![t.val, 0] := (by decide +kernel : ∀ t : Fin grid0.N, _)

/-- The first keys' block at point `t` is its 512 rows. -/
theorem index11 : ∀ t : Fin cfg0.N, win0_11.index t = ![t.val, 0] := (by decide +kernel : ∀ t : Fin grid0.N, _)

/-- The first values' block at point `t` is its 512 rows. -/
theorem index12 : ∀ t : Fin cfg0.N, win0_12.index t = ![t.val, 0] := (by decide +kernel : ∀ t : Fin grid0.N, _)

/-- The second keys' block at point `t` is its 512 rows. -/
theorem index13 : ∀ t : Fin cfg0.N, win0_13.index t = ![t.val, 0] := (by decide +kernel : ∀ t : Fin grid0.N, _)

/-- The second values' block at point `t` is its 512 rows. -/
theorem index14 : ∀ t : Fin cfg0.N, win0_14.index t = ![t.val, 0] := (by decide +kernel : ∀ t : Fin grid0.N, _)

/-- The row of `u` that row `r` of point `t`'s blocks is. -/
def rowOf (t : Fin cfg0.N) (r : Fin 512) : Fin 65536 := ⟨512 * t.val + r.val, by have h : t.val < 128 := N_0 ▸ t.isLt; omega⟩

/-- An index of the first keys is this index of the argument. -/
theorem emb1 (t : Fin cfg0.N) (r : Fin 512) (q : Fin 128) :
    (win0_1.blk t).view.emb (ix2 r q) = ix2 (rowOf t r) (plainColumn 0 q) := by
  have e0 := congrFun (index1 t) 0
  have e1 := congrFun (index1 t) 1
  funext a; apply Fin.ext
  match a with
  | ⟨0, _⟩ => show win0_1.index t (0 : Fin 2) * 512 + 1 * r.val = _; rw [e0]; simp [rowOf, ix2]; try omega
  | ⟨1, _⟩ => show win0_1.index t (1 : Fin 2) * 128 + 1 * q.val = _; rw [e1]; simp [plainColumn, ix2]; try omega

/-- An index of the first values is this index of the argument. -/
theorem emb2 (t : Fin cfg0.N) (r : Fin 512) (q : Fin 128) :
    (win0_2.blk t).view.emb (ix2 r q) = ix2 (rowOf t r) (plainColumn 1 q) := by
  have e0 := congrFun (index2 t) 0
  have e1 := congrFun (index2 t) 1
  funext a; apply Fin.ext
  match a with
  | ⟨0, _⟩ => show win0_2.index t (0 : Fin 2) * 512 + 1 * r.val = _; rw [e0]; simp [rowOf, ix2]; try omega
  | ⟨1, _⟩ => show win0_2.index t (1 : Fin 2) * 128 + 1 * q.val = _; rw [e1]; simp [plainColumn, ix2]; try omega

/-- An index of the second keys is this index of the argument. -/
theorem emb3 (t : Fin cfg0.N) (r : Fin 512) (q : Fin 128) :
    (win0_3.blk t).view.emb (ix2 r q) = ix2 (rowOf t r) (plainColumn 2 q) := by
  have e0 := congrFun (index3 t) 0
  have e1 := congrFun (index3 t) 1
  funext a; apply Fin.ext
  match a with
  | ⟨0, _⟩ => show win0_3.index t (0 : Fin 2) * 512 + 1 * r.val = _; rw [e0]; simp [rowOf, ix2]; try omega
  | ⟨1, _⟩ => show win0_3.index t (1 : Fin 2) * 128 + 1 * q.val = _; rw [e1]; simp [plainColumn, ix2]; try omega

/-- An index of the second values is this index of the argument. -/
theorem emb4 (t : Fin cfg0.N) (r : Fin 512) (q : Fin 128) :
    (win0_4.blk t).view.emb (ix2 r q) = ix2 (rowOf t r) (plainColumn 3 q) := by
  have e0 := congrFun (index4 t) 0
  have e1 := congrFun (index4 t) 1
  funext a; apply Fin.ext
  match a with
  | ⟨0, _⟩ => show win0_4.index t (0 : Fin 2) * 512 + 1 * r.val = _; rw [e0]; simp [rowOf, ix2]; try omega
  | ⟨1, _⟩ => show win0_4.index t (1 : Fin 2) * 128 + 1 * q.val = _; rw [e1]; simp [plainColumn, ix2]; try omega

/-- An index of the queries' gain is the same index of the array. -/
theorem emb5 (t : Fin cfg0.N) (q : Fin 512) :
    (win0_5.blk t).view.emb (ix2 0 q) = ix2 0 q := by
  have e0 := congrFun (index5 t) 0
  have e1 := congrFun (index5 t) 1
  funext a; apply Fin.ext
  match a with
  | ⟨0, _⟩ => show win0_5.index t (0 : Fin 2) * 1 + 1 * 0 = _; rw [e0]; simp [rowOf, ix2]; try omega
  | ⟨1, _⟩ => show win0_5.index t (1 : Fin 2) * 512 + 1 * q.val = _; rw [e1]; simp [plainColumn, ix2]; try omega

/-- An index of the first keys' gain is the same index of the array. -/
theorem emb6 (t : Fin cfg0.N) (q : Fin 128) :
    (win0_6.blk t).view.emb (ix2 0 q) = ix2 0 q := by
  have e0 := congrFun (index6 t) 0
  have e1 := congrFun (index6 t) 1
  funext a; apply Fin.ext
  match a with
  | ⟨0, _⟩ => show win0_6.index t (0 : Fin 2) * 1 + 1 * 0 = _; rw [e0]; simp [rowOf, ix2]; try omega
  | ⟨1, _⟩ => show win0_6.index t (1 : Fin 2) * 128 + 1 * q.val = _; rw [e1]; simp [plainColumn, ix2]; try omega

/-- An index of the second keys' gain is the same index of the array. -/
theorem emb7 (t : Fin cfg0.N) (q : Fin 128) :
    (win0_7.blk t).view.emb (ix2 0 q) = ix2 0 q := by
  have e0 := congrFun (index7 t) 0
  have e1 := congrFun (index7 t) 1
  funext a; apply Fin.ext
  match a with
  | ⟨0, _⟩ => show win0_7.index t (0 : Fin 2) * 1 + 1 * 0 = _; rw [e0]; simp [rowOf, ix2]; try omega
  | ⟨1, _⟩ => show win0_7.index t (1 : Fin 2) * 128 + 1 * q.val = _; rw [e1]; simp [plainColumn, ix2]; try omega

/-- An index of the queries' averaging matrix is the same index of the array. -/
theorem emb8 (t : Fin cfg0.N) (r : Fin 512) (q : Fin 512) :
    (win0_8.blk t).view.emb (ix2 r q) = ix2 r q := by
  have e0 := congrFun (index8 t) 0
  have e1 := congrFun (index8 t) 1
  funext a; apply Fin.ext
  match a with
  | ⟨0, _⟩ => show win0_8.index t (0 : Fin 2) * 512 + 1 * r.val = _; rw [e0]; simp [rowOf, ix2]; try omega
  | ⟨1, _⟩ => show win0_8.index t (1 : Fin 2) * 512 + 1 * q.val = _; rw [e1]; simp [plainColumn, ix2]; try omega

/-- An index of the keys' averaging matrix is the same index of the array. -/
theorem emb9 (t : Fin cfg0.N) (r : Fin 128) (q : Fin 128) :
    (win0_9.blk t).view.emb (ix2 r q) = ix2 r q := by
  have e0 := congrFun (index9 t) 0
  have e1 := congrFun (index9 t) 1
  funext a; apply Fin.ext
  match a with
  | ⟨0, _⟩ => show win0_9.index t (0 : Fin 2) * 128 + 1 * r.val = _; rw [e0]; simp [rowOf, ix2]; try omega
  | ⟨1, _⟩ => show win0_9.index t (1 : Fin 2) * 128 + 1 * q.val = _; rw [e1]; simp [plainColumn, ix2]; try omega

/-- An index of the queries' block is this index of the result. -/
theorem emb10 (t : Fin cfg0.N) (r : Fin 512) (q : Fin 512) :
    (win0_10.blk t).view.emb (ix2 r q) = ix2 (rowOf t r) q := by
  have e0 := congrFun (index10 t) 0
  have e1 := congrFun (index10 t) 1
  funext a; apply Fin.ext
  match a with
  | ⟨0, _⟩ => show win0_10.index t (0 : Fin 2) * 512 + 1 * r.val = _; rw [e0]; simp [rowOf, ix2]; try omega
  | ⟨1, _⟩ => show win0_10.index t (1 : Fin 2) * 512 + 1 * q.val = _; rw [e1]; simp [plainColumn, ix2]; try omega

/-- An index of the first keys' block is this index of the result. -/
theorem emb11 (t : Fin cfg0.N) (r : Fin 512) (q : Fin 128) :
    (win0_11.blk t).view.emb (ix2 r q) = ix2 (rowOf t r) q := by
  have e0 := congrFun (index11 t) 0
  have e1 := congrFun (index11 t) 1
  funext a; apply Fin.ext
  match a with
  | ⟨0, _⟩ => show win0_11.index t (0 : Fin 2) * 512 + 1 * r.val = _; rw [e0]; simp [rowOf, ix2]; try omega
  | ⟨1, _⟩ => show win0_11.index t (1 : Fin 2) * 128 + 1 * q.val = _; rw [e1]; simp [plainColumn, ix2]; try omega

/-- An index of the first values' block is this index of the result. -/
theorem emb12 (t : Fin cfg0.N) (r : Fin 512) (q : Fin 128) :
    (win0_12.blk t).view.emb (ix2 r q) = ix2 (rowOf t r) q := by
  have e0 := congrFun (index12 t) 0
  have e1 := congrFun (index12 t) 1
  funext a; apply Fin.ext
  match a with
  | ⟨0, _⟩ => show win0_12.index t (0 : Fin 2) * 512 + 1 * r.val = _; rw [e0]; simp [rowOf, ix2]; try omega
  | ⟨1, _⟩ => show win0_12.index t (1 : Fin 2) * 128 + 1 * q.val = _; rw [e1]; simp [plainColumn, ix2]; try omega

/-- An index of the second keys' block is this index of the result. -/
theorem emb13 (t : Fin cfg0.N) (r : Fin 512) (q : Fin 128) :
    (win0_13.blk t).view.emb (ix2 r q) = ix2 (rowOf t r) q := by
  have e0 := congrFun (index13 t) 0
  have e1 := congrFun (index13 t) 1
  funext a; apply Fin.ext
  match a with
  | ⟨0, _⟩ => show win0_13.index t (0 : Fin 2) * 512 + 1 * r.val = _; rw [e0]; simp [rowOf, ix2]; try omega
  | ⟨1, _⟩ => show win0_13.index t (1 : Fin 2) * 128 + 1 * q.val = _; rw [e1]; simp [plainColumn, ix2]; try omega

/-- An index of the second values' block is this index of the result. -/
theorem emb14 (t : Fin cfg0.N) (r : Fin 512) (q : Fin 128) :
    (win0_14.blk t).view.emb (ix2 r q) = ix2 (rowOf t r) q := by
  have e0 := congrFun (index14 t) 0
  have e1 := congrFun (index14 t) 1
  funext a; apply Fin.ext
  match a with
  | ⟨0, _⟩ => show win0_14.index t (0 : Fin 2) * 512 + 1 * r.val = _; rw [e0]; simp [rowOf, ix2]; try omega
  | ⟨1, _⟩ => show win0_14.index t (1 : Fin 2) * 128 + 1 * q.val = _; rw [e1]; simp [plainColumn, ix2]; try omega

/-- The queries' block, read at an index. -/
theorem block0_apply (c : Dev nD) (t : Fin cfg0.N) (r : Fin 512) (q : Fin 512) :
    X0_0 m c t (ix2 r q) = m ((c : Thread nD τ).loc main_arg0) (ix2 (rowOf t r) ⟨3072 + q.val, by omega⟩) := by
  unfold X0_0 Pipeline.Window.fill
  rw [dif_pos (moved0_0 t _)]
  refine (congrArg (V m c main_arg0) ?_).trans (congrFun (V_main_arg0 m c) _)
  have e0 := congrFun (index0 t) 0
  have e1 := congrFun (index0 t) 1
  funext a; apply Fin.ext
  match a with
  | ⟨0, _⟩ => show win0_0.index t (0 : Fin 2) * 512 + 1 * r.val = _; rw [e0]; simp [rowOf, ix2]; try omega
  | ⟨1, _⟩ => show win0_0.index t (1 : Fin 2) * 512 + 1 * q.val = _; rw [e1]; simp [ix2]

/-- The first keys' block, read at an index. -/
theorem block1_apply (c : Dev nD) (t : Fin cfg0.N) (r : Fin 512) (q : Fin 128) :
    iblk m c 1 t (ix2 r q) = m ((c : Thread nD τ).loc main_arg0) (ix2 (rowOf t r) (plainColumn 0 q)) :=
  (congrArg (V m c main_arg0) (emb1 t r q)).trans (congrFun (V_main_arg0 m c) _)

/-- The first values' block, read at an index. -/
theorem block2_apply (c : Dev nD) (t : Fin cfg0.N) (r : Fin 512) (q : Fin 128) :
    iblk m c 2 t (ix2 r q) = m ((c : Thread nD τ).loc main_arg0) (ix2 (rowOf t r) (plainColumn 1 q)) :=
  (congrArg (V m c main_arg0) (emb2 t r q)).trans (congrFun (V_main_arg0 m c) _)

/-- The second keys' block, read at an index. -/
theorem block3_apply (c : Dev nD) (t : Fin cfg0.N) (r : Fin 512) (q : Fin 128) :
    iblk m c 3 t (ix2 r q) = m ((c : Thread nD τ).loc main_arg0) (ix2 (rowOf t r) (plainColumn 2 q)) :=
  (congrArg (V m c main_arg0) (emb3 t r q)).trans (congrFun (V_main_arg0 m c) _)

/-- The second values' block, read at an index. -/
theorem block4_apply (c : Dev nD) (t : Fin cfg0.N) (r : Fin 512) (q : Fin 128) :
    iblk m c 4 t (ix2 r q) = m ((c : Thread nD τ).loc main_arg0) (ix2 (rowOf t r) (plainColumn 3 q)) :=
  (congrArg (V m c main_arg0) (emb4 t r q)).trans (congrFun (V_main_arg0 m c) _)

/-- The queries' gain, read at an index. -/
theorem block5_apply (c : Dev nD) (t : Fin cfg0.N) (q : Fin 512) :
    iblk m c 5 t (ix2 0 q) = m ((c : Thread nD τ).loc main_arg1) (ix2 0 (queryPlace q)) :=
  (congrArg (V m c main_v5) (emb5 t q)).trans (query_gain m c q)

/-- The first keys' gain, read at an index. -/
theorem block6_apply (c : Dev nD) (t : Fin cfg0.N) (q : Fin 128) :
    iblk m c 6 t (ix2 0 q) = m ((c : Thread nD τ).loc main_arg1) (ix2 2 (keyPlace q)) :=
  (congrArg (V m c main_v11) (emb6 t q)).trans (first_gain m c q)

/-- The second keys' gain, read at an index. -/
theorem block7_apply (c : Dev nD) (t : Fin cfg0.N) (q : Fin 128) :
    iblk m c 7 t (ix2 0 q) = m ((c : Thread nD τ).loc main_arg1) (ix2 3 (keyPlace q)) :=
  (congrArg (V m c main_v17) (emb7 t q)).trans (second_gain m c q)

/-- The queries' averaging matrix, read at an index. -/
theorem block8_apply (c : Dev nD) (t : Fin cfg0.N) (j q : Fin 512) :
    iblk m c 8 t (ix2 j q)
      = Ideal.div (if j.val / 64 = q.val / 64 then 1 else 0) (Ideal.ofBits .f32 0x42800000#32) :=
  (congrArg (V m c main_v28) (emb8 t j q)).trans ((congrFun (query_averaging m c) _).trans (queryAveraging_apply j q))

/-- The keys' averaging matrix, read at an index. -/
theorem block9_apply (c : Dev nD) (t : Fin cfg0.N) (j q : Fin 128) :
    iblk m c 9 t (ix2 j q)
      = Ideal.div (if j.val / 64 = q.val / 64 then 1 else 0) (Ideal.ofBits .f32 0x42800000#32) :=
  (congrArg (V m c main_v39) (emb9 t j q)).trans ((congrFun (key_averaging m c) _).trans (keyAveraging_apply j q))

/-- The column of a query's own place in its head is its own column. -/
theorem queryColumn_place (q : Fin 512) : queryColumn q (queryPlace q) = ⟨3072 + q.val, by omega⟩ :=
  Fin.ext (by simp only [queryColumn, queryPlace]; omega)

/-- The column of a key's own place in its group is its own column. -/
theorem keyColumn_place (s : Fin 4) (q : Fin 128) : keyColumn s q (keyPlace q) = plainColumn s q :=
  Fin.ext (by simp only [keyColumn, keyPlace, plainColumn]; omega)

/-- The queries at an index. -/
theorem queries_apply (u : Vec Ideal S65536x4992 .f32) (gain : Vec Ideal S4x64 .f32) (r : Fin 65536) (q : Fin 512) :
    queries u gain (ix2 r q)
      = u (ix2 r ⟨3072 + q.val, by omega⟩) * Ideal.rsqrt (Ideal.div (∑ e : Fin 64, u (ix2 r (queryColumn q e)) * u (ix2 r (queryColumn q e)))
          (Ideal.ofBits .f32 0x42800000#32) + Ideal.ofBits .f32 0x358637BD#32) * gain (ix2 0 (queryPlace q)) * Ideal.ofBits .f32 0x3E000000#32 := by
  rw [← queryColumn_place]
  rfl

/-- The keys at an index. -/
theorem keys_apply (s k : Fin 4) (u : Vec Ideal S65536x4992 .f32) (gain : Vec Ideal S4x64 .f32) (r : Fin 65536) (q : Fin 128) :
    keys s k u gain (ix2 r q)
      = u (ix2 r (plainColumn s q)) * Ideal.rsqrt (Ideal.div (∑ e : Fin 64, u (ix2 r (keyColumn s q e)) * u (ix2 r (keyColumn s q e)))
          (Ideal.ofBits .f32 0x42800000#32) + Ideal.ofBits .f32 0x358637BD#32) * gain (ix2 k (keyPlace q)) := by
  rw [← keyColumn_place]
  rfl

/-- The columns that the queries and the keys are computed from are finite. -/
def RowsFinite (c : Dev nD) : Prop :=
  (∀ (r : Fin 65536) (q : Fin 512), IsReal (m ((c : Thread nD τ).loc main_arg0) (ix2 r ⟨3072 + q.val, by omega⟩)))
    ∧ (∀ (r : Fin 65536) (q : Fin 128), IsReal (m ((c : Thread nD τ).loc main_arg0) (ix2 r (plainColumn 0 q))))
    ∧ ∀ (r : Fin 65536) (q : Fin 128), IsReal (m ((c : Thread nD τ).loc main_arg0) (ix2 r (plainColumn 2 q)))

/-- The queries' array after the run, where what they are computed from is finite. -/
theorem final_queries (c : Dev nD) (hF : RowsFinite m c) : (dats m 0 c).arrAt 10 cfg0.N
    = queries (m ((c : Thread nD τ).loc main_arg0)) (m ((c : Thread nD τ).loc main_arg1)) := by
  refine (dats m 0 c).arrAt_eq_of_covers 10 _ (by decide +kernel) fun t hf y => ?_
  rw [point10]
  obtain ⟨r, q, rfl⟩ : ∃ (r : Fin 512) (q : Fin 512), y = ix2 r q := ⟨y 0, y 1, eq_ix2 y⟩
  blk_simp [index10 t]
  refine Eq.trans ?_ (congrArg (queries _ _) (emb10 t r q)).symm
  show queryNorm (X0_0 m c t) (iblk m c 8 t) (iblk m c 5 t) (ix2 r q) * Ideal.ofBits .f32 0x3E000000#32 = _
  rw [queryNorm_apply, queries_apply]
  simp only [block0_apply, block5_apply, block8_apply]
  rw [mean_eq (N := 512) (by decide) (fun j => m ((c : Thread nD τ).loc main_arg0) (ix2 (rowOf t r) ⟨3072 + j.val, by omega⟩))
    (fun j => hF.1 _ j) q]
  rfl

/-- The first keys' array after the run, where what they are computed from is finite. -/
theorem final_first_keys (c : Dev nD) (hF : RowsFinite m c) : (dats m 0 c).arrAt 11 cfg0.N
    = keys 0 2 (m ((c : Thread nD τ).loc main_arg0)) (m ((c : Thread nD τ).loc main_arg1)) := by
  refine (dats m 0 c).arrAt_eq_of_covers 11 _ (by decide +kernel) fun t hf y => ?_
  rw [point11]
  obtain ⟨r, q, rfl⟩ : ∃ (r : Fin 512) (q : Fin 128), y = ix2 r q := ⟨y 0, y 1, eq_ix2 y⟩
  blk_simp [index11 t]
  refine Eq.trans ?_ (congrArg (keys _ _ _ _) (emb11 t r q)).symm
  show keyNorm (iblk m c 1 t) (iblk m c 9 t) (iblk m c 6 t) (ix2 r q) = _
  rw [keyNorm_apply, keys_apply]
  simp only [block1_apply, block6_apply, block9_apply]
  rw [mean_eq (N := 128) (by decide) (fun j => m ((c : Thread nD τ).loc main_arg0) (ix2 (rowOf t r) (plainColumn 0 j)))
    (fun j => hF.2.1 _ j) q]
  rfl

/-- The second keys' array after the run, where what they are computed from is finite. -/
theorem final_second_keys (c : Dev nD) (hF : RowsFinite m c) : (dats m 0 c).arrAt 13 cfg0.N
    = keys 2 3 (m ((c : Thread nD τ).loc main_arg0)) (m ((c : Thread nD τ).loc main_arg1)) := by
  refine (dats m 0 c).arrAt_eq_of_covers 13 _ (by decide +kernel) fun t hf y => ?_
  rw [point13]
  obtain ⟨r, q, rfl⟩ : ∃ (r : Fin 512) (q : Fin 128), y = ix2 r q := ⟨y 0, y 1, eq_ix2 y⟩
  blk_simp [index13 t]
  refine Eq.trans ?_ (congrArg (keys _ _ _ _) (emb13 t r q)).symm
  show keyNorm (iblk m c 3 t) (iblk m c 9 t) (iblk m c 7 t) (ix2 r q) = _
  rw [keyNorm_apply, keys_apply]
  simp only [block3_apply, block7_apply, block9_apply]
  rw [mean_eq (N := 128) (by decide) (fun j => m ((c : Thread nD τ).loc main_arg0) (ix2 (rowOf t r) (plainColumn 2 j)))
    (fun j => hF.2.2 _ j) q]
  rfl

/-- The first values' array after the run. -/
theorem final_first_values (c : Dev nD) : (dats m 0 c).arrAt 12 cfg0.N
    = values 1 (m ((c : Thread nD τ).loc main_arg0)) := by
  refine (dats m 0 c).arrAt_eq_of_covers 12 _ (by decide +kernel) fun t hf y => ?_
  rw [point12]
  obtain ⟨r, q, rfl⟩ : ∃ (r : Fin 512) (q : Fin 128), y = ix2 r q := ⟨y 0, y 1, eq_ix2 y⟩
  blk_simp [index12 t]
  exact (block2_apply m c t r q).trans (congrArg (values _ _) (emb12 t r q)).symm

/-- The second values' array after the run. -/
theorem final_second_values (c : Dev nD) : (dats m 0 c).arrAt 14 cfg0.N
    = values 3 (m ((c : Thread nD τ).loc main_arg0)) := by
  refine (dats m 0 c).arrAt_eq_of_covers 14 _ (by decide +kernel) fun t hf y => ?_
  rw [point14]
  obtain ⟨r, q, rfl⟩ : ∃ (r : Fin 512) (q : Fin 128), y = ix2 r q := ⟨y 0, y 1, eq_ix2 y⟩
  blk_simp [index14 t]
  exact (block4_apply m c t r q).trans (congrArg (values _ _) (emb14 t r q)).symm

/-- The kernel's run where the columns of the queries and the keys are finite: the results are `queries`, `keys` and `values` of
    the arguments, which end unchanged. -/
theorem run_kernel (hF : ∀ c, RowsFinite m c) :
    θ_run defs (onTc (τ := τ) (main (F := Ideal))) ⟨m, fun _ => 0, ρ⟩ fun r => ∀ c : Dev nD,
      r.2.mem ((c : Thread nD τ).loc main_v40_0)
        = queries (m ((c : Thread nD τ).loc main_arg0)) (m ((c : Thread nD τ).loc main_arg1))
      ∧ r.2.mem ((c : Thread nD τ).loc main_v40_1)
        = keys 0 2 (m ((c : Thread nD τ).loc main_arg0)) (m ((c : Thread nD τ).loc main_arg1))
      ∧ r.2.mem ((c : Thread nD τ).loc main_v40_2) = values 1 (m ((c : Thread nD τ).loc main_arg0))
      ∧ r.2.mem ((c : Thread nD τ).loc main_v40_3)
        = keys 2 3 (m ((c : Thread nD τ).loc main_arg0)) (m ((c : Thread nD τ).loc main_arg1))
      ∧ r.2.mem ((c : Thread nD τ).loc main_v40_4) = values 3 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_queries m c (hF c)), (h c).2.1.trans (final_first_keys m c (hF c)),
      (h c).2.2.1.trans (final_first_values m c), (h c).2.2.2.1.trans (final_second_keys m c (hF c)),
      (h c).2.2.2.2.1.trans (final_second_values m c), (h c).2.2.2.2.2⟩)
    (run_blocks m ρ)

end Cert.Prepare
-- ==== Proof.Compress.Given.lean ====
/-
  The precondition, read as what it says of the arguments: the numbers that the compressed keys are computed from, the gain
  apart, are finite; and so are the keys' entries.
-/
module

public import proofs.«01_k».proof.Proof.Gen.Pre_keys_finite
public import proofs.«01_k».proof.Proof.Compress.Finite
public import Idealize.ShloMosaic.Lib.KernelVsHost
public import Idealize.ShloMosaic.Lib.ReduceAll

@[expose] public section

set_option maxRecDepth 16384

noncomputable section

namespace Cert.Compress

open Idealize.ShloMosaic Idealize.ShloMosaic.TcCoe Idealize.SL.Sem

section Given

open Cert.Pre_keys_finite Cert.Pre_keys_finite.Facts

/-- A number whose absolute value is below infinity is finite. -/
theorem isReal_of_bit (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  obtain ⟨h1, h2⟩ := hlt
  match x, h1, h2 with
  | (r : ℝ), _, _ => exact ⟨r, rfl⟩
  | ⊤, h1, _ => exact absurd h1 (lt_irrefl _)
  | ⊥, _, h2 => exact absurd h2 (by simp)

/-- The keys' entries are finite where the precondition holds. -/
theorem entries_of_pre (u : FVec Ideal S16x4096x4992 .f32) (gain : FVec Ideal S4x64 .f32) (pe : FVec Ideal S2x32x64 .f32)
    (w1 : FVec Ideal S2x2048x256 .f32) (w2 : FVec Ideal S2x256x64 .f32) (h : fn (F := Ideal) u gain pe w1 w2 = fun _ => 1#1)
    (b : Fin 16) (g : Fin 2) (r : Fin 256) (d : Fin 64) : IsReal (entry u pe w1 w2 0 b g r d) := by
  have e := congrFun h ix0
  unfold fn fn_part1 at e
  have e' := IntOp.andi_eq_one.1 e
  obtain ⟨e1, k4⟩ := e'
  obtain ⟨e2, k3⟩ := IntOp.andi_eq_one.1 e1
  obtain ⟨k1, k2⟩ := IntOp.andi_eq_one.1 e2
  have f1 : ∀ (n : Fin 4096) (q : Fin 128), IsReal (u (ix3 b n ⟨4096 + q.val, by omega⟩)) := fun n q => by
    have a := isReal_of_bit _ (Host.reduce_andi_all _ _ _ _ _ k1 (ix3 b n q))
    have s : extractStridedSlice S16x4096x128 ![0, 0, 4096] u slices_S16x4096x4992_S16x4096x128_0_0_4096 (ix3 b n q)
        = u (ix3 b n ⟨4096 + q.val, by omega⟩) := by
      pointwise
    exact s ▸ a
  have f2 : ∀ (l : Fin 32) (e : Fin 64), IsReal (pe (ix3 0 l e)) := fun l e => by
    have a := isReal_of_bit _ (Host.reduce_andi_all _ _ _ _ _ k2 (ix2 l e))
    have s : shapeCast S32x64 (extractStridedSlice S1x32x64 ![0, 0, 0] pe slices_S2x32x64_S1x32x64_0_0_0)
        shapeCasts_S1x32x64_S32x64 (ix2 l e) = pe (ix3 0 l e) := by
      pointwise
    exact s ▸ a
  have f3 : ∀ (k : Fin 2048) (e : Fin 256), IsReal (w1 (ix3 0 k e)) := fun k e => by
    have a := isReal_of_bit _ (Host.reduce_andi_all _ _ _ _ _ k3 (ix2 k e))
    have s : shapeCast S2048x256 (extractStridedSlice S1x2048x256 ![0, 0, 0] w1 slices_S2x2048x256_S1x2048x256_0_0_0)
        shapeCasts_S1x2048x256_S2048x256 (ix2 k e) = w1 (ix3 0 k e) := by
      pointwise
    exact s ▸ a
  have f4 : ∀ (k : Fin 256) (e : Fin 64), IsReal (w2 (ix3 0 k e)) := fun k e => by
    have a := isReal_of_bit _ (Host.reduce_andi_all _ _ _ _ _ k4 (ix2 k e))
    have s : shapeCast S256x64 (extractStridedSlice S1x256x64 ![0, 0, 0] w2 slices_S2x256x64_S1x256x64_0_0_0)
        shapeCasts_S1x256x64_S256x64 (ix2 k e) = w2 (ix3 0 k e) := by
      pointwise
    exact s ▸ a
  unfold entry
  refine isReal_compressed (fun n e => ?_) f2 f3 f4 r d
  have a := f1 n ⟨64 * g.val + e.val, by omega⟩
  have s : (⟨4096 + (64 * g.val + e.val), by omega⟩ : Fin 4992) = ⟨4096 + 128 * (0 : Fin 2).val + 64 * g.val + e.val, by
      show 4096 + 128 * 0 + 64 * g.val + e.val < 4992; omega⟩ := Fin.ext (by
    show 4096 + (64 * g.val + e.val) = 4096 + 128 * 0 + 64 * g.val + e.val; omega)
  exact s ▸ a

end Given

end Cert.Compress
-- ==== Proof.Prepare.Given.lean ====
/-
  The precondition, read as what it says of the arguments: the columns that the queries and the keys are computed from are finite.
-/
module

public import proofs.«01_k».proof.Proof.Gen.Pre_rows_finite
public import proofs.«01_k».proof.Proof.Compress.Given
public import proofs.«01_k».proof.Proof.Prepare.Spec
public import Idealize.ShloMosaic.Lib.KernelVsHost
public import Idealize.ShloMosaic.Lib.ReduceAll

@[expose] public section

set_option maxRecDepth 16384

noncomputable section

namespace Cert.Prepare

open Idealize.ShloMosaic Idealize.ShloMosaic.TcCoe Idealize.SL.Sem Cert.Compress

section Given

open Cert.Pre_rows_finite Cert.Pre_rows_finite.Facts

/-- The columns of the queries, of the first keys and of the second keys are finite where the precondition holds. -/
theorem rows_of_pre (u : FVec Ideal S65536x4992 .f32) (gain : FVec Ideal S4x64 .f32) (h : fn (F := Ideal) u gain = fun _ => 1#1) :
    (∀ (r : Fin 65536) (q : Fin 512), IsReal (u (ix2 r ⟨3072 + q.val, by omega⟩)))
      ∧ (∀ (r : Fin 65536) (q : Fin 128), IsReal (u (ix2 r (plainColumn 0 q))))
      ∧ ∀ (r : Fin 65536) (q : Fin 128), IsReal (u (ix2 r (plainColumn 2 q))) := by
  have e := congrFun h ix0
  unfold fn at e
  obtain ⟨e1, k3⟩ := IntOp.andi_eq_one.1 e
  obtain ⟨k1, k2⟩ := IntOp.andi_eq_one.1 e1
  refine ⟨fun r q => ?_, fun r q => ?_, fun r q => ?_⟩
  · have a := isReal_of_bit _ (Host.reduce_andi_all _ _ _ _ _ k1 (ix2 r q))
    have s : extractStridedSlice S65536x512 ![0, 3072] u slices_S65536x4992_S65536x512_0_3072 (ix2 r q)
        = u (ix2 r ⟨3072 + q.val, by omega⟩) := by
      pointwise
    exact s ▸ a
  · have a := isReal_of_bit _ (Host.reduce_andi_all _ _ _ _ _ k2 (ix2 r q))
    have s : extractStridedSlice S65536x128 ![0, 4352] u slices_S65536x4992_S65536x128_0_4352 (ix2 r q)
        = u (ix2 r (plainColumn 0 q)) := by
      pointwise
      exact congrArg (fun k => u (ix2 r k)) (Fin.ext (by simp [plainColumn]))
    exact s ▸ a
  · have a := isReal_of_bit _ (Host.reduce_andi_all _ _ _ _ _ k3 (ix2 r q))
    have s : extractStridedSlice S65536x128 ![0, 4608] u slices_S65536x4992_S65536x128_0_4608 (ix2 r q)
        = u (ix2 r (plainColumn 2 q)) := by
      pointwise
      exact congrArg (fun k => u (ix2 r k)) (Fin.ext (by simp [plainColumn]))
    exact s ▸ a

end Given

end Cert.Prepare
-- ==== Proof.Prepare.Reference.lean ====
/-
  The reference's queries, keys and values, read as the same functions of the arguments: it lays every token's columns out in
  heads of 64 and normalises each.
-/
module

public import proofs.«01_k».proof.Proof.Gen.Reference7Ideal.Run
public import proofs.«01_k».proof.Proof.Prepare.Spec
public import Idealize.ShloMosaic.Lib.KernelVsHost
public import Idealize.ShloMosaic.Lib.Pipeline.ValueKit

@[expose] public section

set_option maxRecDepth 16384

noncomputable section

namespace Cert.Prepare.Plain

open Cert.Reference7Ideal Cert.Reference7Ideal.Gen Cert.Reference7Ideal.Value Idealize.ShloMosaic Idealize.ShloMosaic.TcCoe Idealize.SL.Sem

/-- The normalisation of 8 heads of every token. -/
def normed8 (x : FVec Ideal S65536x8x64 .f32) (g : FVec Ideal S64 .f32) : FVec Ideal S65536x8x64 .f32 :=
  mulf (mulf x (broadcastInDim S65536x8x64 ![0, 1, 2] bcast_S65536x8x1_S65536x8x64_0_1_2 (Host.rsqrt (addf (Host.divf
      (broadcastInDim S65536x8x1 ![0, 1] bcast_S65536x8_S65536x8x1_0_1 (Host.reduceAdd (mulf x x) (constant S_ .f32 0x00000000#32)
        reducesTo_S65536x8x64_S65536x8_d2 h_S_))
      (broadcastInDim S65536x8x1 ![] bcast_S_S65536x8x1 (constant S_ .f32 0x42800000#32)))
      (broadcastInDim S65536x8x1 ![] bcast_S_S65536x8x1 (constant S_ .f32 0x358637BD#32))))))
    (broadcastInDim S65536x8x64 ![0, 1, 2] bcast_S1x1x64_S65536x8x64_0_1_2 (broadcastInDim S1x1x64 ![2] bcast_S64_S1x1x64_2 g))

/-- An entry of it. -/
theorem normed8_apply (x : FVec Ideal S65536x8x64 .f32) (g : FVec Ideal S64 .f32) (r : Fin 65536) (k : Fin 8) (d : Fin 64) :
    normed8 x g (ix3 r k d) = normal (fun e => x (ix3 r k e)) (fun e => g (ix1 e)) d := by
  unfold normed8 normal
  pointwise

/-- The normalisation of 2 heads of every token. -/
def normed2 (x : FVec Ideal S65536x2x64 .f32) (g : FVec Ideal S64 .f32) : FVec Ideal S65536x2x64 .f32 :=
  mulf (mulf x (broadcastInDim S65536x2x64 ![0, 1, 2] bcast_S65536x2x1_S65536x2x64_0_1_2 (Host.rsqrt (addf (Host.divf
      (broadcastInDim S65536x2x1 ![0, 1] bcast_S65536x2_S65536x2x1_0_1 (Host.reduceAdd (mulf x x) (constant S_ .f32 0x00000000#32)
        reducesTo_S65536x2x64_S65536x2_d2 h_S_))
      (broadcastInDim S65536x2x1 ![] bcast_S_S65536x2x1 (constant S_ .f32 0x42800000#32)))
      (broadcastInDim S65536x2x1 ![] bcast_S_S65536x2x1 (constant S_ .f32 0x358637BD#32))))))
    (broadcastInDim S65536x2x64 ![0, 1, 2] bcast_S1x1x64_S65536x2x64_0_1_2 (broadcastInDim S1x1x64 ![2] bcast_S64_S1x1x64_2 g))

/-- An entry of it. -/
theorem normed2_apply (x : FVec Ideal S65536x2x64 .f32) (g : FVec Ideal S64 .f32) (r : Fin 65536) (k : Fin 2) (d : Fin 64) :
    normed2 x g (ix3 r k d) = normal (fun e => x (ix3 r k e)) (fun e => g (ix1 e)) d := by
  unfold normed2 normal
  pointwise

/-- The tokens' heads from column 3072 on, read at an index. -/
theorem heads3072 (u : Vec Ideal S65536x4992 .f32) (r : Fin 65536) (q : Fin 512) (e : Fin 64) :
    shapeCast S65536x8x64 (extractStridedSlice S65536x512 ![0, 3072] u slices_S65536x4992_S65536x512_0_3072) shapeCasts_S65536x512_S65536x8x64 (ix3 r ⟨q.val / 64, by omega⟩ e) = u (ix2 r (queryColumn q e)) := by
  pointwise
  exact congrArg (fun k => u (ix2 r k)) (Fin.ext (by simp [queryColumn, keyColumn]; try omega))

/-- The tokens' heads from column 4352 on, read at an index. -/
theorem heads4352 (u : Vec Ideal S65536x4992 .f32) (r : Fin 65536) (q : Fin 128) (e : Fin 64) :
    shapeCast S65536x2x64 (extractStridedSlice S65536x128 ![0, 4352] u slices_S65536x4992_S65536x128_0_4352) shapeCasts_S65536x128_S65536x2x64 (ix3 r ⟨q.val / 64, by omega⟩ e) = u (ix2 r (keyColumn 0 q e)) := by
  pointwise
  exact congrArg (fun k => u (ix2 r k)) (Fin.ext (by simp [queryColumn, keyColumn]; try omega))

/-- The tokens' heads from column 4608 on, read at an index. -/
theorem heads4608 (u : Vec Ideal S65536x4992 .f32) (r : Fin 65536) (q : Fin 128) (e : Fin 64) :
    shapeCast S65536x2x64 (extractStridedSlice S65536x128 ![0, 4608] u slices_S65536x4992_S65536x128_0_4608) shapeCasts_S65536x128_S65536x2x64 (ix3 r ⟨q.val / 64, by omega⟩ e) = u (ix2 r (keyColumn 2 q e)) := by
  pointwise
  exact congrArg (fun k => u (ix2 r k)) (Fin.ext (by simp [queryColumn, keyColumn]; try omega))

/-- Row 0 of the gains, read at an index. -/
theorem gain0_apply (gain : Vec Ideal S4x64 .f32) (e : Fin 64) :
    shapeCast S64 (extractStridedSlice S1x64 ![0, 0] gain slices_S4x64_S1x64_0_0) shapeCasts_S1x64_S64 (ix1 e) = gain (ix2 0 e) := by
  pointwise

/-- Row 2 of the gains, read at an index. -/
theorem gain2_apply (gain : Vec Ideal S4x64 .f32) (e : Fin 64) :
    shapeCast S64 (extractStridedSlice S1x64 ![2, 0] gain slices_S4x64_S1x64_2_0) shapeCasts_S1x64_S64 (ix1 e) = gain (ix2 2 e) := by
  pointwise

/-- Row 3 of the gains, read at an index. -/
theorem gain3_apply (gain : Vec Ideal S4x64 .f32) (e : Fin 64) :
    shapeCast S64 (extractStridedSlice S1x64 ![3, 0] gain slices_S4x64_S1x64_3_0) shapeCasts_S1x64_S64 (ix1 e) = gain (ix2 3 e) := by
  pointwise

/-- The reference's queries. -/
theorem queries_eq (u : Vec Ideal S65536x4992 .f32) (gain : Vec Ideal S4x64 .f32) :
    truncf .bf16 (shapeCast S65536x512 (mulf (normed8 (shapeCast S65536x8x64 (extractStridedSlice S65536x512 ![0, 3072] u slices_S65536x4992_S65536x512_0_3072) shapeCasts_S65536x512_S65536x8x64)
      (shapeCast S64 (extractStridedSlice S1x64 ![0, 0] gain slices_S4x64_S1x64_0_0) shapeCasts_S1x64_S64)) (broadcastInDim S65536x8x64 ![] bcast_S_S65536x8x64 (constant S_ .f32 0x3E000000#32)))
      shapeCasts_S65536x8x64_S65536x512) bitsLt_bf16_f32 = queries u gain := by
  funext y
  obtain ⟨r, q, rfl⟩ : ∃ (r : Fin 65536) (q : Fin 512), y = ix2 r q := ⟨y 0, y 1, eq_ix2 y⟩
  have hx := heads3072 u r q
  have hg := gain0_apply gain
  generalize (shapeCast S65536x8x64 (extractStridedSlice S65536x512 ![0, 3072] u slices_S65536x4992_S65536x512_0_3072) shapeCasts_S65536x512_S65536x8x64) = x at hx ⊢
  generalize (shapeCast S64 (extractStridedSlice S1x64 ![0, 0] gain slices_S4x64_S1x64_0_0) shapeCasts_S1x64_S64) = g at hg ⊢
  have h : truncf .bf16 (shapeCast S65536x512 (mulf (normed8 x g) (broadcastInDim S65536x8x64 ![] bcast_S_S65536x8x64
      (constant S_ .f32 0x3E000000#32))) shapeCasts_S65536x8x64_S65536x512) bitsLt_bf16_f32 (ix2 r q)
      = normed8 x g (ix3 r ⟨q.val / 64, by omega⟩ (queryPlace q)) * Ideal.ofBits .f32 0x3E000000#32 := by
    generalize normed8 x g = z
    pointwise
    exact congrArg₂ (fun k d => z (ix3 r k d) * Ideal.ofBits .f32 0x3E000000#32) (Fin.ext (by simp)) (Fin.ext (by simp [queryPlace]))
  rw [h, normed8_apply]
  simp only [hx, hg]
  rfl

/-- The reference's first keys. -/
theorem first_keys_eq (u : Vec Ideal S65536x4992 .f32) (gain : Vec Ideal S4x64 .f32) :
    truncf .bf16 (shapeCast S65536x128 (normed2 (shapeCast S65536x2x64 (extractStridedSlice S65536x128 ![0, 4352] u slices_S65536x4992_S65536x128_0_4352) shapeCasts_S65536x128_S65536x2x64)
      (shapeCast S64 (extractStridedSlice S1x64 ![2, 0] gain slices_S4x64_S1x64_2_0) shapeCasts_S1x64_S64)) shapeCasts_S65536x2x64_S65536x128) bitsLt_bf16_f32 = keys 0 2 u gain := by
  funext y
  obtain ⟨r, q, rfl⟩ : ∃ (r : Fin 65536) (q : Fin 128), y = ix2 r q := ⟨y 0, y 1, eq_ix2 y⟩
  have hx := heads4352 u r q
  have hg := gain2_apply gain
  generalize (shapeCast S65536x2x64 (extractStridedSlice S65536x128 ![0, 4352] u slices_S65536x4992_S65536x128_0_4352) shapeCasts_S65536x128_S65536x2x64) = x at hx ⊢
  generalize (shapeCast S64 (extractStridedSlice S1x64 ![2, 0] gain slices_S4x64_S1x64_2_0) shapeCasts_S1x64_S64) = g at hg ⊢
  have h : truncf .bf16 (shapeCast S65536x128 (normed2 x g) shapeCasts_S65536x2x64_S65536x128) bitsLt_bf16_f32 (ix2 r q)
      = normed2 x g (ix3 r ⟨q.val / 64, by omega⟩ (keyPlace q)) := by
    generalize normed2 x g = z
    pointwise
    exact congrArg₂ (fun k d => z (ix3 r k d)) (Fin.ext (by simp)) (Fin.ext (by simp [keyPlace]))
  rw [h, normed2_apply]
  simp only [hx, hg]
  rfl

/-- The reference's second keys. -/
theorem second_keys_eq (u : Vec Ideal S65536x4992 .f32) (gain : Vec Ideal S4x64 .f32) :
    truncf .bf16 (shapeCast S65536x128 (normed2 (shapeCast S65536x2x64 (extractStridedSlice S65536x128 ![0, 4608] u slices_S65536x4992_S65536x128_0_4608) shapeCasts_S65536x128_S65536x2x64)
      (shapeCast S64 (extractStridedSlice S1x64 ![3, 0] gain slices_S4x64_S1x64_3_0) shapeCasts_S1x64_S64)) shapeCasts_S65536x2x64_S65536x128) bitsLt_bf16_f32 = keys 2 3 u gain := by
  funext y
  obtain ⟨r, q, rfl⟩ : ∃ (r : Fin 65536) (q : Fin 128), y = ix2 r q := ⟨y 0, y 1, eq_ix2 y⟩
  have hx := heads4608 u r q
  have hg := gain3_apply gain
  generalize (shapeCast S65536x2x64 (extractStridedSlice S65536x128 ![0, 4608] u slices_S65536x4992_S65536x128_0_4608) shapeCasts_S65536x128_S65536x2x64) = x at hx ⊢
  generalize (shapeCast S64 (extractStridedSlice S1x64 ![3, 0] gain slices_S4x64_S1x64_3_0) shapeCasts_S1x64_S64) = g at hg ⊢
  have h : truncf .bf16 (shapeCast S65536x128 (normed2 x g) shapeCasts_S65536x2x64_S65536x128) bitsLt_bf16_f32 (ix2 r q)
      = normed2 x g (ix3 r ⟨q.val / 64, by omega⟩ (keyPlace q)) := by
    generalize normed2 x g = z
    pointwise
    exact congrArg₂ (fun k d => z (ix3 r k d)) (Fin.ext (by simp)) (Fin.ext (by simp [keyPlace]))
  rw [h, normed2_apply]
  simp only [hx, hg]
  rfl

/-- The reference's first values. -/
theorem first_values_eq (u : Vec Ideal S65536x4992 .f32) :
    truncf (F := Ideal) .bf16 (extractStridedSlice S65536x128 ![0, 4480] u slices_S65536x4992_S65536x128_0_4480) bitsLt_bf16_f32 = values 1 u := by
  funext y
  obtain ⟨r, q, rfl⟩ : ∃ (r : Fin 65536) (q : Fin 128), y = ix2 r q := ⟨y 0, y 1, eq_ix2 y⟩
  show _ = u (ix2 r (plainColumn 1 q))
  pointwise
  exact congrArg (fun k => u (ix2 r k)) (Fin.ext (by simp [plainColumn]; try omega))

/-- The reference's second values. -/
theorem second_values_eq (u : Vec Ideal S65536x4992 .f32) :
    truncf (F := Ideal) .bf16 (extractStridedSlice S65536x128 ![0, 4736] u slices_S65536x4992_S65536x128_0_4736) bitsLt_bf16_f32 = values 3 u := by
  funext y
  obtain ⟨r, q, rfl⟩ : ∃ (r : Fin 65536) (q : Fin 128), y = ix2 r q := ⟨y 0, y 1, eq_ix2 y⟩
  show _ = u (ix2 r (plainColumn 3 q))
  pointwise
  exact congrArg (fun k => u (ix2 r k)) (Fin.ext (by simp [plainColumn]; try omega))

variable (m : (ℓ : Loc nD τ sig) → Buf (Elt Ideal) ℓ) (ρ : Dev nD → PrngReg)

/-- The reference's run: the results are the same `queries`, `keys` and `values` of the arguments, which end unchanged. -/
theorem run_reference :
    θ_run defs (onTc (τ := τ) (main (F := Ideal))) ⟨m, fun _ => 0, ρ⟩ fun r => ∀ c : Dev nD,
      r.2.mem ((c.tc : Thread nD τ).loc main_v58)
        = queries (m ((c.tc : Thread nD τ).loc main_arg0)) (m ((c.tc : Thread nD τ).loc main_arg1))
      ∧ r.2.mem ((c.tc : Thread nD τ).loc main_v59)
        = keys 0 2 (m ((c.tc : Thread nD τ).loc main_arg0)) (m ((c.tc : Thread nD τ).loc main_arg1))
      ∧ r.2.mem ((c.tc : Thread nD τ).loc main_v60) = values 1 (m ((c.tc : Thread nD τ).loc main_arg0))
      ∧ r.2.mem ((c.tc : Thread nD τ).loc main_v61)
        = keys 2 3 (m ((c.tc : Thread nD τ).loc main_arg0)) (m ((c.tc : Thread nD τ).loc main_arg1))
      ∧ r.2.mem ((c.tc : Thread nD τ).loc main_v62) = values 3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (queries_eq _ _), (h c).2.1.trans (first_keys_eq _ _),
      (h c).2.2.1.trans (first_values_eq _), (h c).2.2.2.1.trans (second_keys_eq _ _),
      (h c).2.2.2.2.1.trans (second_values_eq _), (h c).2.2.2.2.2⟩)
    (Cert.Reference7Ideal.Value.run (F := Ideal) m ρ)

end Cert.Prepare.Plain
-- ==== Proof.Compress.Point.lean ====
/-
  What one grid point of the compression's kernel leaves in its two results, written with the kernel's own vectors: sixteen
  products added up for the tokens of a row, sixteen more for the tokens of the next row, rotated up by one row, and the
  activation and the second weights after them. The keys are normalised within their group last.
-/
module

public import proofs.«01_k».proof.Proof.Gen.Kernel6Ideal.Value
public import proofs.«01_k».proof.Proof.Compress.Spec
public import Idealize.ShloMosaic.Lib.Pipeline.ValueKit
public import Idealize.ShloMosaic.Lib.WholeRead

@[expose] public section

set_option maxRecDepth 16384

noncomputable section

namespace Cert.Compress

open Cert.Kernel6Ideal Cert.Kernel6Ideal.Gen Cert.Kernel6Ideal.Value Idealize.ShloMosaic Idealize.ShloMosaic.TcCoe Idealize.SL.Sem

/-- Every sixteenth token of the block, from token `l` on, as the kernel loads it from a buffer that reads `X`. -/
def strided {mm : Memref sig .tc .vmem S1x4096x128 .f32} (h : mm.IsWhole) (X : Vec Ideal S1x4096x128 .f32) (l : Fin 16) :
    Vec Ideal S1x256x128 .f32 :=
  View.readAt (Elt Ideal) mm.view ⟨![0, l.val, 0], ![1, 256, 128], ![1, 16, 1], by
    intro a; right; match a with
    | ⟨0, _⟩ => show 0 + 1 * (1 - 1) < 1; omega
    | ⟨1, _⟩ => show l.val + 16 * (256 - 1) < 4096; omega
    | ⟨2, _⟩ => show 0 + 1 * (128 - 1) < 128; omega⟩ (h.unread X)

/-- The vector of position `l`, of the keys or the values. -/
def peRow (pe : Vec Ideal S2x32x64 .f32) (kv : Fin 2) (l : Fin 32) : Vec Ideal S1x1x64 .f32 :=
  View.ld pe (Rect.unit ![kv.val, l.val, 0] ![1, 1, 64] (by
    intro a; match a with
    | ⟨0, _⟩ => show kv.val + 1 ≤ 2; omega
    | ⟨1, _⟩ => show l.val + 1 ≤ 32; omega
    | ⟨2, _⟩ => show 0 + 64 ≤ 64; omega))

/-- The first weights of position `l`, of the keys or the values. -/
def w1Rows (w : Vec Ideal S2x2048x256 .bf16) (kv : Fin 2) (l : Fin 32) : Vec Ideal S1x64x256 .bf16 :=
  View.ld w (Rect.unit ![kv.val, 64 * l.val, 0] ![1, 64, 256] (by
    intro a; match a with
    | ⟨0, _⟩ => show kv.val + 1 ≤ 2; omega
    | ⟨1, _⟩ => show 64 * l.val + 64 ≤ 2048; omega
    | ⟨2, _⟩ => show 0 + 256 ≤ 256; omega))

/-- The second weights, of the keys or the values. -/
def w2Rows (w : Vec Ideal S2x256x64 .bf16) (kv : Fin 2) : Vec Ideal S1x256x64 .bf16 :=
  View.ld w (Rect.unit ![kv.val, 0, 0] ![1, 256, 64] (by
    intro a; match a with
    | ⟨0, _⟩ => show kv.val + 1 ≤ 2; omega
    | ⟨1, _⟩ => show 0 + 256 ≤ 256; omega
    | ⟨2, _⟩ => show 0 + 64 ≤ 64; omega))

/-- The first group's columns. -/
def cut0 (x : Vec Ideal S1x256x128 .f32) : FVec Ideal S256x64 .f32 :=
  extractStridedSlice S256x64 ![0, 0] (shapeCast S256x128 x shapeCasts_S1x256x128_S256x128) slices_S256x128_o0_0_S256x64

/-- The second group's columns. -/
def cut1 (x : Vec Ideal S1x256x128 .f32) : FVec Ideal S256x64 .f32 :=
  extractStridedSlice S256x64 ![0, 64] (shapeCast S256x128 x shapeCasts_S1x256x128_S256x128) slices_S256x128_o0_64_S256x64

/-- One product: the tokens with their position's vector added, times the position's weights. -/
def product (x : FVec Ideal S256x64 .f32) (p : Vec Ideal S1x1x64 .f32) (w : Vec Ideal S1x64x256 .bf16) : FVec Ideal S256x256 .f32 :=
  matmul dot_S256x64_S64x256_S256x256_1_0_0_1_n_n none
    (truncf .bf16 (addf x (broadcastTo S256x64 (shapeCast S1x64 p shapeCasts_S1x1x64_S1x64) broadcasts_S1x64_S256x64)) bitsLt_bf16_f32)
    (shapeCast S64x256 w shapeCasts_S1x64x256_S64x256 : FVec Ideal S64x256 .bf16) (constant S256x256 .f32 0x00000000#32)

/-- Sixteen vectors added up from zero. -/
def total (f : Fin 16 → FVec Ideal S256x256 .f32) : FVec Ideal S256x256 .f32 :=
  addf (addf (addf (addf (addf (addf (addf (addf (addf (addf (addf (addf (addf (addf (addf (addf
    (broadcast S256x256 (Scalar.ofBits .f32 0x00000000#32)) (f 0)) (f 1)) (f 2)) (f 3)) (f 4)) (f 5)) (f 6)) (f 7)) (f 8))
    (f 9)) (f 10)) (f 11)) (f 12)) (f 13)) (f 14)) (f 15)

/-- The hidden vectors of a group. -/
def hid (cut : Vec Ideal S1x256x128 .f32 → FVec Ideal S256x64 .f32) (R : Fin 16 → Vec Ideal S1x256x128 .f32) (pe : Vec Ideal S2x32x64 .f32)
    (w : Vec Ideal S2x2048x256 .bf16) (kv : Fin 2) : FVec Ideal S256x256 .f32 :=
  addf (total fun l => product (cut (R l)) (peRow pe kv ⟨l.val, by omega⟩) (w1Rows w kv ⟨l.val, by omega⟩))
    (dynamicRotate 0 255#32 none
      (total fun l => product (cut (R l)) (peRow pe kv ⟨l.val + 16, by omega⟩) (w1Rows w kv ⟨l.val + 16, by omega⟩))
      rotates_S256x256_d0)

/-- The activation of the hidden vectors. -/
def actV (a : FVec Ideal S256x256 .f32) : FVec Ideal S256x256 .bf16 :=
  truncf .bf16 (mulf (mulf (broadcast S256x256 (Scalar.ofBits .f32 0x3F000000#32)) a)
    (addf (broadcast S256x256 (Scalar.ofBits .f32 0x3F800000#32))
      (tanh (mulf (broadcast S256x256 (Scalar.ofBits .f32 0x3F4C422A#32))
        (addf a (mulf (mulf (mulf (broadcast S256x256 (Scalar.ofBits .f32 0x3D372713#32)) a) a) a)))))) bitsLt_bf16_f32

/-- The product with the second weights. -/
def second (a : FVec Ideal S256x256 .f32) (w : Vec Ideal S1x256x64 .bf16) : FVec Ideal S256x64 .f32 :=
  matmul dot_S256x256_S256x64_S256x64_1_0_0_1_n_n none (actV a) (shapeCast S256x64 w shapeCasts_S1x256x64_S256x64 : FVec Ideal S256x64 .bf16)
    (constant S256x64 .f32 0x00000000#32)

/-- The two groups side by side. -/
def both (R : Fin 16 → Vec Ideal S1x256x128 .f32) (pe : Vec Ideal S2x32x64 .f32) (w1 : Vec Ideal S2x2048x256 .bf16)
    (w2 : Vec Ideal S2x256x64 .bf16) (kv : Fin 2) : FVec Ideal S256x128 .f32 :=
  concatenate S256x128 1 [⟨S256x64, second (hid cut0 R pe w1 kv) (w2Rows w2 kv)⟩, ⟨S256x64, second (hid cut1 R pe w1 kv) (w2Rows w2 kv)⟩]
    concatenates_S256x64_S256x64_S256x128_d1

/-- The normalisation within a group: the mean of the squares is a product with a matrix, of the squares as they are and of
    what narrowing them leaves over. -/
def normV (y : FVec Ideal S256x128 .f32) (bd : Vec Ideal S128x128 .bf16) (g : Vec Ideal S1x128 .f32) : FVec Ideal S256x128 .f32 :=
  mulf (mulf y (rsqrt (addf (addf
      (matmul dot_S256x128_S128x128_S256x128_1_0_0_1_n_n none (truncf .bf16 (mulf y y) bitsLt_bf16_f32)
        (shapeCast S128x128 bd shapeCasts_S128x128_S128x128 : FVec Ideal S128x128 .bf16) (constant S256x128 .f32 0x00000000#32))
      (matmul dot_S256x128_S128x128_S256x128_1_0_0_1_n_n none
        (truncf .bf16 (subf (mulf y y) (extf .f32 (truncf .bf16 (mulf y y) bitsLt_bf16_f32) bitsLt_bf16_f32)) bitsLt_bf16_f32)
        (shapeCast S128x128 bd shapeCasts_S128x128_S128x128 : FVec Ideal S128x128 .bf16) (constant S256x128 .f32 0x00000000#32)))
      (broadcast S256x128 (Scalar.ofBits .f32 0x358637BD#32)))))
    (broadcastTo S256x128 (shapeCast S1x128 g shapeCasts_S1x128_S1x128) broadcasts_S1x128_S256x128)

/-- A vector as a block of a result. -/
def asBlock (y : FVec Ideal S256x128 .f32) : Vec Ideal S1x256x128 .bf16 :=
  shapeCast S1x256x128 (truncf (F := Ideal) .bf16 y bitsLt_bf16_f32) shapeCasts_S256x128_S1x256x128

variable (m : (ℓ : Loc nD τ sig) → Buf (Elt Ideal) ℓ)

/-- What a grid point leaves in the values' staging buffer. -/
theorem point_eq8 (c : Dev nD) (t : Fin cfg0.N) :
    (dats m 0 c).after 8 t = asBlock (both (strided (hs0_1 t) (iblk m c 1 t)) (iblk m c 2 t) (iblk m c 3 t) (iblk m c 4 t) 1) := by
  rw [after0_8]
  unfold outsAt0
  frame_out
  sl_kernel_rfl

/-- What a grid point leaves in the keys' staging buffer. -/
theorem point_eq7 (c : Dev nD) (t : Fin cfg0.N) :
    (dats m 0 c).after 7 t = asBlock (normV (both (strided (hs0_0 t) (iblk m c 0 t)) (iblk m c 2 t) (iblk m c 3 t) (iblk m c 4 t) 0)
      (iblk m c 6 t) (iblk m c 5 t)) := by
  rw [after0_7]
  unfold outsAt0
  frame_out
  sl_kernel_rfl

end Cert.Compress
-- ==== Proof.Compress.Rows.lean ====
/-
  The kernel's vectors at an index: a group's hidden entry is the sum over the 32 places of the products, sixteen of the row
  itself and sixteen of the row after it (`hid_apply`), and both groups' entries are `compressed` (`both_apply`).
-/
module

public import proofs.«01_k».proof.Proof.Compress.Point
public import Idealize.ShloMosaic.Lib.KernelVsHost

@[expose] public section

set_option maxRecDepth 16384

noncomputable section

namespace Cert.Compress

open Cert.Kernel6Ideal Cert.Kernel6Ideal.Gen Cert.Kernel6Ideal.Value Idealize.ShloMosaic Idealize.ShloMosaic.TcCoe Idealize.SL.Sem

/-- Row `r` of the strided load is token `16 r + l` of the block. -/
theorem strided_apply {mm : Memref sig .tc .vmem S1x4096x128 .f32} (h : mm.IsWhole) (X : Vec Ideal S1x4096x128 .f32) (l : Fin 16)
    (r : Fin 256) (q : Fin 128) :
    strided h X l (ix3 0 r q) = X (ix3 0 ⟨16 * r.val + l.val, by omega⟩ q) := by
  unfold strided
  rw [Memref.IsWhole.readAt_unread]
  refine congrArg X (funext fun a => Fin.ext ?_)
  match a with
  | ⟨0, _⟩ => rfl
  | ⟨1, _⟩ => show l.val + 16 * r.val = 16 * r.val + l.val; omega
  | ⟨2, _⟩ => show 0 + 1 * q.val = q.val; omega

/-- An entry of a position's vector. -/
theorem peRow_apply (pe : Vec Ideal S2x32x64 .f32) (kv : Fin 2) (l : Fin 32) (d : Fin 64) :
    peRow pe kv l (ix3 0 0 d) = pe (ix3 kv l d) := by
  refine congrArg pe (funext fun a => Fin.ext ?_)
  match a with
  | ⟨0, _⟩ => show kv.val + 1 * 0 = kv.val; omega
  | ⟨1, _⟩ => show l.val + 1 * 0 = l.val; omega
  | ⟨2, _⟩ => show 0 + 1 * d.val = d.val; omega

/-- An entry of a position's first weights. -/
theorem w1Rows_apply (w : Vec Ideal S2x2048x256 .bf16) (kv : Fin 2) (l : Fin 32) (d : Fin 64) (h : Fin 256) :
    w1Rows w kv l (ix3 0 d h) = w (ix3 kv ⟨64 * l.val + d.val, by omega⟩ h) := by
  refine congrArg w (funext fun a => Fin.ext ?_)
  match a with
  | ⟨0, _⟩ => show kv.val + 1 * 0 = kv.val; omega
  | ⟨1, _⟩ => show 64 * l.val + 1 * d.val = 64 * l.val + d.val; omega
  | ⟨2, _⟩ => show 0 + 1 * h.val = h.val; omega

/-- An entry of the second weights. -/
theorem w2Rows_apply (w : Vec Ideal S2x256x64 .bf16) (kv : Fin 2) (h : Fin 256) (d : Fin 64) :
    w2Rows w kv (ix3 0 h d) = w (ix3 kv h d) := by
  refine congrArg w (funext fun a => Fin.ext ?_)
  match a with
  | ⟨0, _⟩ => show kv.val + 1 * 0 = kv.val; omega
  | ⟨1, _⟩ => show 0 + 1 * h.val = h.val; omega
  | ⟨2, _⟩ => show 0 + 1 * d.val = d.val; omega

/-- The first group's columns are the first 64. -/
theorem cut0_apply (x : Vec Ideal S1x256x128 .f32) (r : Fin 256) (d : Fin 64) :
    cut0 x (ix2 r d) = x (ix3 0 r ⟨64 * (0 : Fin 2).val + d.val, by show 64 * 0 + d.val < 128; omega⟩) := by
  unfold cut0
  pointwise

/-- The second group's columns are the last 64. -/
theorem cut1_apply (x : Vec Ideal S1x256x128 .f32) (r : Fin 256) (d : Fin 64) :
    cut1 x (ix2 r d) = x (ix3 0 r ⟨64 * (1 : Fin 2).val + d.val, by show 64 * 1 + d.val < 128; omega⟩) := by
  unfold cut1
  pointwise

/-- A product at an index. -/
theorem product_apply (x : FVec Ideal S256x64 .f32) (p : Vec Ideal S1x1x64 .f32) (w : Vec Ideal S1x64x256 .bf16) (r h : Fin 256) :
    product x p w (ix2 r h) = ∑ d : Fin 64, (x (ix2 r d) + p (ix3 0 0 d)) * w (ix3 0 d h) := by
  unfold product
  pointwise

/-- The sixteen vectors added up, at an index. -/
theorem total_apply (f : Fin 16 → FVec Ideal S256x256 .f32) (r h : Fin 256) :
    total f (ix2 r h) = ∑ l : Fin 16, f l (ix2 r h) := by
  unfold total
  show Ideal.ofBits .f32 0x00000000#32 + f 0 (ix2 r h) + f 1 (ix2 r h) + f 2 (ix2 r h) + f 3 (ix2 r h) + f 4 (ix2 r h) + f 5 (ix2 r h)
    + f 6 (ix2 r h) + f 7 (ix2 r h) + f 8 (ix2 r h) + f 9 (ix2 r h) + f 10 (ix2 r h) + f 11 (ix2 r h) + f 12 (ix2 r h)
    + f 13 (ix2 r h) + f 14 (ix2 r h) + f 15 (ix2 r h) = _
  rw [Ideal.ofBits_zero_f32, zero_add]
  simp only [Fin.sum_univ_castSucc, Fin.sum_univ_zero, zero_add]
  rfl

/-- The hidden entry of a group that lies in columns `64 g` and following of the block. -/
theorem hid_apply (cut : Vec Ideal S1x256x128 .f32 → FVec Ideal S256x64 .f32) (g : Fin 2)
    (hc : ∀ (x : Vec Ideal S1x256x128 .f32) (r : Fin 256) (d : Fin 64),
      cut x (ix2 r d) = x (ix3 0 r ⟨64 * g.val + d.val, by omega⟩))
    {mm : Memref sig .tc .vmem S1x4096x128 .f32} (hm : mm.IsWhole) (X : Vec Ideal S1x4096x128 .f32)
    (pe : Vec Ideal S2x32x64 .f32) (w : Vec Ideal S2x2048x256 .bf16) (kv : Fin 2) (r h : Fin 256) :
    hid cut (strided hm X) pe w kv (ix2 r h)
      = hidden (fun n d => X (ix3 0 n ⟨64 * g.val + d.val, by omega⟩)) (fun l d => pe (ix3 kv l d)) (fun k h => w (ix3 kv k h)) r h := by
  unfold hid hidden
  show total _ (ix2 r h) + dynamicRotate 0 255#32 none _ _ (ix2 r h) = _
  rw [dynamicRotate_apply 0 255#32 _ _ (ix2 r h) (ix2 (⟨(r.val + 1) % 256, by omega⟩ : Fin 256) h) (by
    intro b
    match b with
    | ⟨0, _⟩ => show (r.val + 1) % 256 = (r.val + 256 - 255 % 256) % 256; omega
    | ⟨1, _⟩ => rfl)]
  rw [total_apply, total_apply]
  refine Eq.trans ?_ (Fin.sum_univ_add (a := 16) (b := 16) (fun l : Fin (16 + 16) => ∑ d : Fin 64,
    (X (ix3 0 (source r l) ⟨64 * g.val + d.val, by omega⟩) + pe (ix3 kv l d)) * w (ix3 kv ⟨64 * l.val + d.val, by omega⟩ h))).symm
  refine congrArg₂ (· + ·) (Finset.sum_congr rfl fun l _ => ?_) (Finset.sum_congr rfl fun l _ => ?_)
  · rw [product_apply]
    refine Finset.sum_congr rfl fun d _ => ?_
    rw [hc, strided_apply, peRow_apply, w1Rows_apply]
    have e : (⟨16 * r.val + l.val, by omega⟩ : Fin 4096) = source r (Fin.castAdd 16 l) := Fin.ext (by
      show 16 * r.val + l.val = 16 * ((r.val + l.val / 16) % 256) + l.val % 16; omega)
    rw [e]; rfl
  · rw [product_apply]
    refine Finset.sum_congr rfl fun d _ => ?_
    rw [hc, strided_apply, peRow_apply, w1Rows_apply]
    have e : (⟨16 * ((r.val + 1) % 256) + l.val, by omega⟩ : Fin 4096) = source r (Fin.natAdd 16 l) := Fin.ext (by
      show 16 * ((r.val + 1) % 256) + l.val = 16 * ((r.val + (16 + l.val) / 16) % 256) + (16 + l.val) % 16; omega)
    have e' : (⟨l.val + 16, by omega⟩ : Fin 32) = Fin.natAdd 16 l := Fin.ext (by show l.val + 16 = 16 + l.val; omega)
    rw [e]
    simp only [e']
    exact congrArg (fun k => (X (ix3 0 (source r (Fin.natAdd 16 l)) ⟨64 * g.val + d.val, by omega⟩) + pe (ix3 kv (Fin.natAdd 16 l) d))
      * w (ix3 kv k h)) (Fin.ext (by show 64 * (l.val + 16) + d.val = 64 * (16 + l.val) + d.val; omega))

/-- The activation of a vector, at an index. -/
theorem actV_apply (a : FVec Ideal S256x256 .f32) (r h : Fin 256) : actV a (ix2 r h) = act (a (ix2 r h)) := by
  unfold actV act
  show Ideal.ofBits .f32 0x3F000000#32 * a (ix2 r h) * (Ideal.ofBits .f32 0x3F800000#32
    + Ideal.tanh (Ideal.ofBits .f32 0x3F4C422A#32 * (a (ix2 r h)
      + Ideal.ofBits .f32 0x3D372713#32 * a (ix2 r h) * a (ix2 r h) * a (ix2 r h)))) = _
  simp only [mul_assoc, mul_left_comm, mul_comm]

/-- The product with the second weights, at an index. -/
theorem second_apply (a : FVec Ideal S256x256 .f32) (w : Vec Ideal S1x256x64 .bf16) (r : Fin 256) (d : Fin 64) :
    second a w (ix2 r d) = ∑ h : Fin 256, act (a (ix2 r h)) * w (ix3 0 h d) := by
  simp only [← actV_apply]
  unfold second
  generalize actV a = b
  pointwise

/-- The two groups side by side, at an index. -/
theorem sides_apply (a b : FVec Ideal S256x64 .f32) (r : Fin 256) (q : Fin 128) :
    concatenate S256x128 1 [⟨S256x64, a⟩, ⟨S256x64, b⟩] concatenates_S256x64_S256x64_S256x128_d1 (ix2 r q)
      = if q.val / 64 = 0 then a (ix2 r (placeOf q)) else b (ix2 r (placeOf q)) := by
  pointwise
  have hq := q.isLt
  by_cases h : q.val < 64
  · rw [dif_pos h, if_pos (show q.val / 64 = 0 by omega)]
    exact congrArg (fun k => a (ix2 r k)) (Fin.ext (by show q.val = q.val % 64; omega))
  · rw [dif_neg h, if_neg (show ¬ q.val / 64 = 0 by omega)]
    exact congrArg (fun k => b (ix2 r k)) (Fin.ext (by show q.val - 64 = q.val % 64; omega))

/-- The entries of the group in columns `64 g` and following, from the block. -/
theorem group_apply (cut : Vec Ideal S1x256x128 .f32 → FVec Ideal S256x64 .f32) (g : Fin 2)
    (hc : ∀ (x : Vec Ideal S1x256x128 .f32) (r : Fin 256) (d : Fin 64),
      cut x (ix2 r d) = x (ix3 0 r ⟨64 * g.val + d.val, by omega⟩))
    {mm : Memref sig .tc .vmem S1x4096x128 .f32} (hm : mm.IsWhole) (X : Vec Ideal S1x4096x128 .f32)
    (pe : Vec Ideal S2x32x64 .f32) (w1 : Vec Ideal S2x2048x256 .bf16) (w2 : Vec Ideal S2x256x64 .bf16) (kv : Fin 2)
    (r : Fin 256) (d : Fin 64) :
    second (hid cut (strided hm X) pe w1 kv) (w2Rows w2 kv) (ix2 r d)
      = compressed (fun n d => X (ix3 0 n ⟨64 * g.val + d.val, by omega⟩)) (fun l d => pe (ix3 kv l d))
          (fun k h => w1 (ix3 kv k h)) (fun h e => w2 (ix3 kv h e)) r d := by
  rw [second_apply]
  exact Finset.sum_congr rfl fun k _ => by rw [hid_apply cut g hc, w2Rows_apply]

/-- Both groups' entries, from the block. -/
theorem both_apply {mm : Memref sig .tc .vmem S1x4096x128 .f32} (hm : mm.IsWhole) (X : Vec Ideal S1x4096x128 .f32)
    (pe : Vec Ideal S2x32x64 .f32) (w1 : Vec Ideal S2x2048x256 .bf16) (w2 : Vec Ideal S2x256x64 .bf16) (kv : Fin 2)
    (r : Fin 256) (q : Fin 128) :
    both (strided hm X) pe w1 w2 kv (ix2 r q)
      = compressed (fun n d => X (ix3 0 n ⟨64 * (groupOf q).val + d.val, by omega⟩)) (fun l d => pe (ix3 kv l d))
          (fun k h => w1 (ix3 kv k h)) (fun h e => w2 (ix3 kv h e)) r (placeOf q) := by
  unfold both
  rw [sides_apply]
  have hq := q.isLt
  by_cases h : q.val / 64 = 0
  · rw [if_pos h, group_apply cut0 0 cut0_apply]
    have e : groupOf q = 0 := Fin.ext h
    exact congrArg (fun g : Fin 2 => compressed (fun n d => X (ix3 0 n ⟨64 * g.val + d.val, by omega⟩)) (fun l d => pe (ix3 kv l d))
      (fun k h => w1 (ix3 kv k h)) (fun h e => w2 (ix3 kv h e)) r (placeOf q)) e.symm
  · rw [if_neg h, group_apply cut1 1 cut1_apply]
    have e : groupOf q = 1 := Fin.ext (by show q.val / 64 = 1; omega)
    exact congrArg (fun g : Fin 2 => compressed (fun n d => X (ix3 0 n ⟨64 * g.val + d.val, by omega⟩)) (fun l d => pe (ix3 kv l d))
      (fun k h => w1 (ix3 kv k h)) (fun h e => w2 (ix3 kv h e)) r (placeOf q)) e.symm

/-- The normalisation, at an index. -/
theorem normV_apply (y : FVec Ideal S256x128 .f32) (bd : Vec Ideal S128x128 .bf16) (g : Vec Ideal S1x128 .f32) (r : Fin 256) (q : Fin 128) :
    normV y bd g (ix2 r q)
      = y (ix2 r q) * Ideal.rsqrt ((∑ j : Fin 128, y (ix2 r j) * y (ix2 r j) * bd (ix2 j q))
          + (∑ j : Fin 128, (y (ix2 r j) * y (ix2 r j) - y (ix2 r j) * y (ix2 r j)) * bd (ix2 j q))
          + Ideal.ofBits .f32 0x358637BD#32) * g (ix2 0 q) := by
  unfold normV
  pointwise

/-- A vector as a block, at an index. -/
theorem asBlock_apply (y : FVec Ideal S256x128 .f32) (r : Fin 256) (q : Fin 128) : asBlock y (ix3 0 r q) = y (ix2 r q) := by
  unfold asBlock
  pointwise

end Cert.Compress
-- ==== Proof.Compress.Prepared.lean ====
/-
  The arrays that the program prepares for the compression's kernel before it starts: the weights, narrowed, which changes
  nothing over the extended reals; the gain's second row, once per group; and the matrix that averages within a group, one
  over 64 where row and column lie in the same group and zero elsewhere.
-/
module

public import proofs.«01_k».proof.Proof.Gen.Kernel6Ideal.Value
public import proofs.«01_k».proof.Proof.Compress.Spec
public import Idealize.ShloMosaic.Lib.KernelVsHost
public import Idealize.ShloMosaic.Lib.Pipeline.ValueKit

@[expose] public section

set_option maxRecDepth 16384

noncomputable section

namespace Cert.Compress

open Cert.Kernel6Ideal Cert.Kernel6Ideal.Gen Idealize.ShloMosaic Idealize.ShloMosaic.TcCoe Idealize.SL.Sem

/-- The group number of each of 128 columns, as the program computes it: the quotient by 64, lowered by one where the signs
    differ and the remainder is not zero. -/
def groupNumbers : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- A column's group number is its number divided by 64. -/
theorem groupNumbers_apply : ∀ j : Fin 128, groupNumbers (ix1 j) = BitVec.ofNat 32 (j.val / 64) := by
  decide +kernel

/-- The averaging matrix from the group numbers, as the program computes it. -/
def averaging (n : IVec S128 32) : FVec Ideal S128x128 .bf16 :=
  truncf .bf16 (Host.divf (uitofp .f32 (cmpi .eq
      (broadcastInDim S128x128 ![0, 1] bcast_S128x1_S128x128_0_1 (broadcastInDim S128x1 ![0] bcast_S128_S128x1_0 n))
      (broadcastInDim S128x128 ![0, 1] bcast_S1x128_S128x128_0_1 (broadcastInDim S1x128 ![1] bcast_S128_S1x128_1 n))))
    (broadcastInDim S128x128 ![] bcast_S_S128x128 (constant S_ .f32 0x42800000#32))) bitsLt_bf16_f32

/-- An entry of the averaging matrix. -/
theorem averaging_apply (j q : Fin 128) :
    averaging groupNumbers (ix2 j q)
      = Ideal.div (if groupOf j = groupOf q then 1 else 0) (Ideal.ofBits .f32 0x42800000#32) := by
  have h : averaging groupNumbers (ix2 j q)
      = Ideal.div (FloatOps.uitofp (F := Ideal) .f32 (IntOp.cmpi .eq (groupNumbers (ix1 j)) (groupNumbers (ix1 q))))
          (Ideal.ofBits .f32 0x42800000#32) := by
    unfold averaging
    generalize groupNumbers = n
    pointwise
  rw [h, groupNumbers_apply, groupNumbers_apply]
  refine congrArg (fun x => Ideal.div x _) ?_
  have hj := j.isLt
  have hq := q.isLt
  have e : groupOf j = groupOf q ↔ j.val / 64 = q.val / 64 := Fin.ext_iff
  rcases (show j.val / 64 = 0 ∨ j.val / 64 = 1 by omega) with a | a <;>
    rcases (show q.val / 64 = 0 ∨ q.val / 64 = 1 by omega) with b | b <;> simp only [e, a, b]
  · show ((((1#1 : BitVec 1).toNat : ℝ) : EReal)) = _; simp
  · show ((((0#1 : BitVec 1).toNat : ℝ) : EReal)) = _; simp
  · show ((((0#1 : BitVec 1).toNat : ℝ) : EReal)) = _; simp
  · show ((((1#1 : BitVec 1).toNat : ℝ) : EReal)) = _; simp

variable (m : (ℓ : Loc nD τ sig) → Buf (Elt Ideal) ℓ)

/-- The first weights as the kernel finds them. -/
theorem first_weights (c : Dev nD) : V m c main_v6 = m ((c : Thread nD τ).loc main_arg3) := by
  simp only [V, List.flatten_cons, List.flatten_nil, List.append_nil, List.cons_append, List.nil_append]
  entry_read
  rfl

/-- The second weights as the kernel finds them. -/
theorem second_weights (c : Dev nD) : V m c main_v7 = m ((c : Thread nD τ).loc main_arg4) := by
  simp only [V, List.flatten_cons, List.flatten_nil, List.append_nil, List.cons_append, List.nil_append]
  entry_read
  rfl

/-- The gain as the kernel finds it: the second row, once per group. -/
theorem gain_row (c : Dev nD) (q : Fin 128) :
    V m c main_v5 (ix2 0 q) = m ((c : Thread nD τ).loc main_arg1) (ix2 1 (placeOf q)) := by
  have h : V m c main_v5 = shapeCast S1x128 (shapeCast S128 (broadcastInDim S2x64 ![0, 1] bcast_S1x64_S2x64_0_1
      (shapeCast S1x64 (shapeCast S64 (extractStridedSlice S1x64 ![1, 0] (m ((c : Thread nD τ).loc main_arg1))
        slices_S4x64_S1x64_1_0) shapeCasts_S1x64_S64) shapeCasts_S64_S1x64)) shapeCasts_S2x64_S128) shapeCasts_S128_S1x128 := by
    simp only [V, List.flatten_cons, List.flatten_nil, List.append_nil, List.cons_append, List.nil_append]
    entry_read
    rfl
  rw [h]
  generalize m ((c : Thread nD τ).loc main_arg1) = g
  pointwise
  rfl

/-- The averaging matrix as the kernel finds it. -/
theorem averaging_eq (c : Dev nD) : V m c main_v18 = averaging groupNumbers := by
  simp only [V, List.flatten_cons, List.flatten_nil, List.append_nil, List.cons_append, List.nil_append]
  entry_read
  sl_kernel_rfl

end Cert.Compress
-- ==== Proof.Compress.Value.lean ====
/-
  The compression's kernel as one function of its arguments: each grid point writes one sequence's compressed keys and values,
  and the blocks fill the results. The keys are `keys` where what they are computed from is finite; the values are `values`.
-/
module

public import proofs.«01_k».proof.Proof.Compress.Rows
public import proofs.«01_k».proof.Proof.Compress.Prepared
public import proofs.«01_k».proof.Proof.Compress.Finite

@[expose] public section

set_option maxRecDepth 16384

noncomputable section

namespace Cert.Compress

open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ) (ρ : Dev nD → PrngReg)

/-- The keys' tokens at point `t`: sequence `t`, columns from 4096 on. -/
theorem index0 : ∀ t : Fin cfg0.N, win0_0.index t = ![t.val, 0, 32] := (by decide +kernel : ∀ t : Fin grid0.N, _)

/-- The values' tokens at point `t`: sequence `t`, columns from 4224 on. -/
theorem index1 : ∀ t : Fin cfg0.N, win0_1.index t = ![t.val, 0, 33] := (by decide +kernel : ∀ t : Fin grid0.N, _)

/-- The positions' one block is the whole array. -/
theorem index2 : ∀ t : Fin cfg0.N, win0_2.index t = ![0, 0, 0] := (by decide +kernel : ∀ t : Fin grid0.N, _)

/-- The first weights' one block is the whole array. -/
theorem index3 : ∀ t : Fin cfg0.N, win0_3.index t = ![0, 0, 0] := (by decide +kernel : ∀ t : Fin grid0.N, _)

/-- The second weights' one block is the whole array. -/
theorem index4 : ∀ t : Fin cfg0.N, win0_4.index t = ![0, 0, 0] := (by decide +kernel : ∀ t : Fin grid0.N, _)

/-- The gain's one block is the whole row. -/
theorem index5 : ∀ t : Fin cfg0.N, win0_5.index t = ![0, 0] := (by decide +kernel : ∀ t : Fin grid0.N, _)

/-- The averaging matrix's one block is the whole matrix. -/
theorem index6 : ∀ t : Fin cfg0.N, win0_6.index t = ![0, 0] := (by decide +kernel : ∀ t : Fin grid0.N, _)

/-- The keys' block at point `t` is sequence `t`. -/
theorem index7 : ∀ t : Fin cfg0.N, win0_7.index t = ![t.val, 0, 0] := (by decide +kernel : ∀ t : Fin grid0.N, _)

/-- The values' block at point `t` is sequence `t`. -/
theorem index8 : ∀ t : Fin cfg0.N, win0_8.index t = ![t.val, 0, 0] := (by decide +kernel : ∀ t : Fin grid0.N, _)

/-- The sequence of a point. -/
def sequence (t : Fin cfg0.N) : Fin 16 := ⟨t.val, N_0 ▸ t.isLt⟩

/-- An index of the keys' tokens is this index of the argument. -/
theorem emb0 (t : Fin cfg0.N) (n : Fin 4096) (q : Fin 128) :
    (win0_0.blk t).view.emb (ix3 0 n q) = ix3 (sequence t) n ⟨4096 + q.val, by omega⟩ := by
  have e0 := congrFun (index0 t) 0
  have e1 := congrFun (index0 t) 1
  have e2 := congrFun (index0 t) 2
  funext a; apply Fin.ext
  match a with
  | ⟨0, _⟩ => show win0_0.index t (0 : Fin 3) * 1 + 1 * 0 = _; rw [e0]; simp [sequence, ix3]
  | ⟨1, _⟩ => show win0_0.index t (1 : Fin 3) * 4096 + 1 * n.val = _; rw [e1]; simp [ix3]
  | ⟨2, _⟩ => show win0_0.index t (2 : Fin 3) * 128 + 1 * q.val = _; rw [e2]; simp [ix3]

/-- An index of the values' tokens is this index of the argument. -/
theorem emb1 (t : Fin cfg0.N) (n : Fin 4096) (q : Fin 128) :
    (win0_1.blk t).view.emb (ix3 0 n q) = ix3 (sequence t) n ⟨4224 + q.val, by omega⟩ := by
  have e0 := congrFun (index1 t) 0
  have e1 := congrFun (index1 t) 1
  have e2 := congrFun (index1 t) 2
  funext a; apply Fin.ext
  match a with
  | ⟨0, _⟩ => show win0_1.index t (0 : Fin 3) * 1 + 1 * 0 = _; rw [e0]; simp [sequence, ix3]
  | ⟨1, _⟩ => show win0_1.index t (1 : Fin 3) * 4096 + 1 * n.val = _; rw [e1]; simp [ix3]
  | ⟨2, _⟩ => show win0_1.index t (2 : Fin 3) * 128 + 1 * q.val = _; rw [e2]; simp [ix3]

/-- An index of the positions' block is the same index of the array. -/
theorem emb2 (t : Fin cfg0.N) (i : Fin 2) (l : Fin 32) (d : Fin 64) :
    (win0_2.blk t).view.emb (ix3 i l d) = ix3 i l d := by
  have e0 := congrFun (index2 t) 0
  have e1 := congrFun (index2 t) 1
  have e2 := congrFun (index2 t) 2
  funext a; apply Fin.ext
  match a with
  | ⟨0, _⟩ => show win0_2.index t (0 : Fin 3) * 2 + 1 * i.val = _; rw [e0]; simp [ix3]
  | ⟨1, _⟩ => show win0_2.index t (1 : Fin 3) * 32 + 1 * l.val = _; rw [e1]; simp [ix3]
  | ⟨2, _⟩ => show win0_2.index t (2 : Fin 3) * 64 + 1 * d.val = _; rw [e2]; simp [ix3]

/-- An index of the first weights' block is the same index of the array. -/
theorem emb3 (t : Fin cfg0.N) (i : Fin 2) (k : Fin 2048) (h : Fin 256) :
    (win0_3.blk t).view.emb (ix3 i k h) = ix3 i k h := by
  have e0 := congrFun (index3 t) 0
  have e1 := congrFun (index3 t) 1
  have e2 := congrFun (index3 t) 2
  funext a; apply Fin.ext
  match a with
  | ⟨0, _⟩ => show win0_3.index t (0 : Fin 3) * 2 + 1 * i.val = _; rw [e0]; simp [ix3]
  | ⟨1, _⟩ => show win0_3.index t (1 : Fin 3) * 2048 + 1 * k.val = _; rw [e1]; simp [ix3]
  | ⟨2, _⟩ => show win0_3.index t (2 : Fin 3) * 256 + 1 * h.val = _; rw [e2]; simp [ix3]

/-- An index of the second weights' block is the same index of the array. -/
theorem emb4 (t : Fin cfg0.N) (i : Fin 2) (h : Fin 256) (d : Fin 64) :
    (win0_4.blk t).view.emb (ix3 i h d) = ix3 i h d := by
  have e0 := congrFun (index4 t) 0
  have e1 := congrFun (index4 t) 1
  have e2 := congrFun (index4 t) 2
  funext a; apply Fin.ext
  match a with
  | ⟨0, _⟩ => show win0_4.index t (0 : Fin 3) * 2 + 1 * i.val = _; rw [e0]; simp [ix3]
  | ⟨1, _⟩ => show win0_4.index t (1 : Fin 3) * 256 + 1 * h.val = _; rw [e1]; simp [ix3]
  | ⟨2, _⟩ => show win0_4.index t (2 : Fin 3) * 64 + 1 * d.val = _; rw [e2]; simp [ix3]

/-- An index of the gain's block is the same index of the row. -/
theorem emb5 (t : Fin cfg0.N) (q : Fin 128) : (win0_5.blk t).view.emb (ix2 0 q) = ix2 0 q := by
  have e0 := congrFun (index5 t) 0
  have e1 := congrFun (index5 t) 1
  funext a; apply Fin.ext
  match a with
  | ⟨0, _⟩ => show win0_5.index t (0 : Fin 2) * 1 + 1 * 0 = _; rw [e0]; simp [ix2]
  | ⟨1, _⟩ => show win0_5.index t (1 : Fin 2) * 128 + 1 * q.val = _; rw [e1]; simp [ix2]

/-- An index of the averaging matrix's block is the same index of the matrix. -/
theorem emb6 (t : Fin cfg0.N) (j q : Fin 128) : (win0_6.blk t).view.emb (ix2 j q) = ix2 j q := by
  have e0 := congrFun (index6 t) 0
  have e1 := congrFun (index6 t) 1
  funext a; apply Fin.ext
  match a with
  | ⟨0, _⟩ => show win0_6.index t (0 : Fin 2) * 128 + 1 * j.val = _; rw [e0]; simp [ix2]
  | ⟨1, _⟩ => show win0_6.index t (1 : Fin 2) * 128 + 1 * q.val = _; rw [e1]; simp [ix2]

/-- An index of the keys' block is this index of the result. -/
theorem emb7 (t : Fin cfg0.N) (r : Fin 256) (q : Fin 128) :
    (win0_7.blk t).view.emb (ix3 0 r q) = ix3 (sequence t) r q := by
  have e0 := congrFun (index7 t) 0
  have e1 := congrFun (index7 t) 1
  have e2 := congrFun (index7 t) 2
  funext a; apply Fin.ext
  match a with
  | ⟨0, _⟩ => show win0_7.index t (0 : Fin 3) * 1 + 1 * 0 = _; rw [e0]; simp [sequence, ix3]
  | ⟨1, _⟩ => show win0_7.index t (1 : Fin 3) * 256 + 1 * r.val = _; rw [e1]; simp [ix3]
  | ⟨2, _⟩ => show win0_7.index t (2 : Fin 3) * 128 + 1 * q.val = _; rw [e2]; simp [ix3]

/-- An index of the values' block is this index of the result. -/
theorem emb8 (t : Fin cfg0.N) (r : Fin 256) (q : Fin 128) :
    (win0_8.blk t).view.emb (ix3 0 r q) = ix3 (sequence t) r q := by
  have e0 := congrFun (index8 t) 0
  have e1 := congrFun (index8 t) 1
  have e2 := congrFun (index8 t) 2
  funext a; apply Fin.ext
  match a with
  | ⟨0, _⟩ => show win0_8.index t (0 : Fin 3) * 1 + 1 * 0 = _; rw [e0]; simp [sequence, ix3]
  | ⟨1, _⟩ => show win0_8.index t (1 : Fin 3) * 256 + 1 * r.val = _; rw [e1]; simp [ix3]
  | ⟨2, _⟩ => show win0_8.index t (2 : Fin 3) * 128 + 1 * q.val = _; rw [e2]; simp [ix3]

/-- The keys' tokens, read at an index. -/
theorem block0_apply (c : Dev nD) (t : Fin cfg0.N) (n : Fin 4096) (q : Fin 128) :
    iblk m c 0 t (ix3 0 n q) = m ((c : Thread nD τ).loc main_arg0) (ix3 (sequence t) n ⟨4096 + q.val, by omega⟩) :=
  (congrArg (V m c main_arg0) (emb0 t n q)).trans (congrFun (V_main_arg0 m c) _)

/-- The values' tokens, read at an index. -/
theorem block1_apply (c : Dev nD) (t : Fin cfg0.N) (n : Fin 4096) (q : Fin 128) :
    iblk m c 1 t (ix3 0 n q) = m ((c : Thread nD τ).loc main_arg0) (ix3 (sequence t) n ⟨4224 + q.val, by omega⟩) :=
  (congrArg (V m c main_arg0) (emb1 t n q)).trans (congrFun (V_main_arg0 m c) _)

/-- The positions' vectors, read at an index. -/
theorem block2_apply (c : Dev nD) (t : Fin cfg0.N) (i : Fin 2) (l : Fin 32) (d : Fin 64) :
    iblk m c 2 t (ix3 i l d) = m ((c : Thread nD τ).loc main_arg2) (ix3 i l d) :=
  (congrArg (V m c main_arg2) (emb2 t i l d)).trans (congrFun (V_main_arg2 m c) _)

/-- The first weights, read at an index. -/
theorem block3_apply (c : Dev nD) (t : Fin cfg0.N) (i : Fin 2) (k : Fin 2048) (h : Fin 256) :
    iblk m c 3 t (ix3 i k h) = m ((c : Thread nD τ).loc main_arg3) (ix3 i k h) :=
  (congrArg (V m c main_v6) (emb3 t i k h)).trans (congrFun (first_weights m c) _)

/-- The second weights, read at an index. -/
theorem block4_apply (c : Dev nD) (t : Fin cfg0.N) (i : Fin 2) (h : Fin 256) (d : Fin 64) :
    iblk m c 4 t (ix3 i h d) = m ((c : Thread nD τ).loc main_arg4) (ix3 i h d) :=
  (congrArg (V m c main_v7) (emb4 t i h d)).trans (congrFun (second_weights m c) _)

/-- The gain, read at an index. -/
theorem block5_apply (c : Dev nD) (t : Fin cfg0.N) (q : Fin 128) :
    iblk m c 5 t (ix2 0 q) = m ((c : Thread nD τ).loc main_arg1) (ix2 1 (placeOf q)) :=
  (congrArg (V m c main_v5) (emb5 t q)).trans (gain_row m c q)

/-- The averaging matrix, read at an index. -/
theorem block6_apply (c : Dev nD) (t : Fin cfg0.N) (j q : Fin 128) :
    iblk m c 6 t (ix2 j q) = Ideal.div (if groupOf j = groupOf q then 1 else 0) (Ideal.ofBits .f32 0x42800000#32) :=
  (congrArg (V m c main_v18) (emb6 t j q)).trans ((congrFun (averaging_eq m c) _).trans (averaging_apply j q))

/-- The keys' entries at a point, before the normalisation. -/
theorem both0_apply (c : Dev nD) (t : Fin cfg0.N) (r : Fin 256) (q : Fin 128) :
    both (strided (hs0_0 t) (iblk m c 0 t)) (iblk m c 2 t) (iblk m c 3 t) (iblk m c 4 t) 0 (ix2 r q)
      = entry (m ((c : Thread nD τ).loc main_arg0)) (m ((c : Thread nD τ).loc main_arg2)) (m ((c : Thread nD τ).loc main_arg3))
          (m ((c : Thread nD τ).loc main_arg4)) 0 (sequence t) (groupOf q) r (placeOf q) := by
  rw [both_apply]
  unfold entry
  simp only [block0_apply, block2_apply, block3_apply, block4_apply]
  refine congrArg (fun x => compressed x _ _ _ r (placeOf q)) (funext fun n => funext fun d => ?_)
  exact congrArg (fun k => m ((c : Thread nD τ).loc main_arg0) (ix3 (sequence t) n k))
    (Fin.ext (by show 4096 + (64 * (groupOf q).val + d.val) = 4096 + 128 * 0 + 64 * (groupOf q).val + d.val; omega))

/-- The values' entries at a point. -/
theorem both1_apply (c : Dev nD) (t : Fin cfg0.N) (r : Fin 256) (q : Fin 128) :
    both (strided (hs0_1 t) (iblk m c 1 t)) (iblk m c 2 t) (iblk m c 3 t) (iblk m c 4 t) 1 (ix2 r q)
      = entry (m ((c : Thread nD τ).loc main_arg0)) (m ((c : Thread nD τ).loc main_arg2)) (m ((c : Thread nD τ).loc main_arg3))
          (m ((c : Thread nD τ).loc main_arg4)) 1 (sequence t) (groupOf q) r (placeOf q) := by
  rw [both_apply]
  unfold entry
  simp only [block1_apply, block2_apply, block3_apply, block4_apply]
  refine congrArg (fun x => compressed x _ _ _ r (placeOf q)) (funext fun n => funext fun d => ?_)
  exact congrArg (fun k => m ((c : Thread nD τ).loc main_arg0) (ix3 (sequence t) n k))
    (Fin.ext (by show 4224 + (64 * (groupOf q).val + d.val) = 4096 + 128 * 1 + 64 * (groupOf q).val + d.val; omega))

/-- The values' array after the run. -/
theorem final_values (c : Dev nD) : (dats m 0 c).arrAt 8 cfg0.N
    = values (m ((c : Thread nD τ).loc main_arg0)) (m ((c : Thread nD τ).loc main_arg2)) (m ((c : Thread nD τ).loc main_arg3))
        (m ((c : Thread nD τ).loc main_arg4)) := by
  refine (dats m 0 c).arrAt_eq_of_covers 8 _ (by decide +kernel) fun t hf y => ?_
  rw [point_eq8]
  obtain ⟨i, r, q, rfl⟩ : ∃ (i : Fin 1) (r : Fin 256) (q : Fin 128), y = ix3 i r q := ⟨y 0, y 1, y 2, eq_ix3 y⟩
  obtain rfl : i = 0 := Subsingleton.elim _ _
  blk_simp [index8 t]
  exact (asBlock_apply _ r q).trans ((both1_apply m c t r q).trans (congrArg (values _ _ _ _) (emb8 t r q)).symm)

/-- The keys' entries are finite, sequence by sequence. -/
def EntriesFinite (c : Dev nD) : Prop := ∀ (b : Fin 16) (g : Fin 2) (r : Fin 256) (d : Fin 64),
  IsReal (entry (m ((c : Thread nD τ).loc main_arg0)) (m ((c : Thread nD τ).loc main_arg2)) (m ((c : Thread nD τ).loc main_arg3))
    (m ((c : Thread nD τ).loc main_arg4)) 0 b g r d)

/-- The keys' array after the run, where their entries are finite. -/
theorem final_keys (c : Dev nD) (hF : EntriesFinite m c) : (dats m 0 c).arrAt 7 cfg0.N
    = keys (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  rw [point_eq7]
  obtain ⟨i, r, q, rfl⟩ : ∃ (i : Fin 1) (r : Fin 256) (q : Fin 128), y = ix3 i r q := ⟨y 0, y 1, y 2, eq_ix3 y⟩
  obtain rfl : i = 0 := Subsingleton.elim _ _
  blk_simp [index7 t]
  refine (asBlock_apply _ r q).trans (Eq.trans ?_ (congrArg (keys _ _ _ _ _) (emb7 t r q)).symm)
  rw [normV_apply]
  simp only [both0_apply, block5_apply, block6_apply]
  rw [mean_eq (fun g d => entry (m ((c : Thread nD τ).loc main_arg0)) (m ((c : Thread nD τ).loc main_arg2))
    (m ((c : Thread nD τ).loc main_arg3)) (m ((c : Thread nD τ).loc main_arg4)) 0 (sequence t) g r d) (fun g d => hF _ g r d) q]
  rfl

/-- The kernel's run where the keys' entries are finite: the results are `keys` and `values` of the arguments, which end
    unchanged. -/
theorem run_kernel (hF : ∀ c, EntriesFinite m c) :
    θ_run defs (onTc (τ := τ) (main (F := Ideal))) ⟨m, fun _ => 0, ρ⟩ fun r => ∀ c : Dev nD,
      r.2.mem ((c : Thread nD τ).loc main_v19_0)
        = keys (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v19_1)
        = values (m ((c : Thread nD τ).loc main_arg0)) (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_keys m c (hF c)), (h c).2.1.trans (final_values m c), (h c).2.2⟩)
    (run_blocks m ρ)

end Cert.Compress
-- ==== Proof.Compress.Reference.lean ====
/-
  The reference's compressed keys and values, read as the same functions of the arguments: it lays the 32 tokens of a row in
  one vector of 2048 entries and multiplies once, so its sum over 2048 is the sum over the places and the columns.
-/
module

public import proofs.«01_k».proof.Proof.Gen.Reference6Ideal.Run
public import proofs.«01_k».proof.Proof.Compress.Spec
public import Idealize.ShloMosaic.Lib.KernelVsHost
public import Idealize.ShloMosaic.Lib.Pipeline.ValueKit

@[expose] public section

set_option maxRecDepth 16384

noncomputable section

namespace Cert.Compress.Plain

open Cert.Reference6Ideal Cert.Reference6Ideal.Gen Cert.Reference6Ideal.Value Idealize.ShloMosaic Idealize.ShloMosaic.TcCoe Idealize.SL.Sem

/-- The tokens in rows of sixteen, two groups each. -/
def rows (x : Vec Ideal S16x4096x128 .f32) : Vec Ideal S16x256x16x2x64 .f32 :=
  shapeCast _ x shapeCasts_S16x4096x128_S16x256x16x2x64

/-- The rows moved up by one, the first behind the last. -/
def moved (x : Vec Ideal S16x256x16x2x64 .f32) : Vec Ideal S16x256x16x2x64 .f32 :=
  concatenate S16x256x16x2x64 1
    [⟨S16x255x16x2x64, extractStridedSlice S16x255x16x2x64 ![0, 1, 0, 0, 0] x slices_S16x256x16x2x64_S16x255x16x2x64_0_1_0_0_0⟩,
     ⟨S16x1x16x2x64, extractStridedSlice S16x1x16x2x64 ![0, 0, 0, 0, 0] x slices_S16x256x16x2x64_S16x1x16x2x64_0_0_0_0_0⟩]
    concatenates_S16x255x16x2x64_S16x1x16x2x64_S16x256x16x2x64_d1

/-- Every row with the row after it. -/
def paired (x : Vec Ideal S16x256x16x2x64 .f32) : Vec Ideal S16x256x32x2x64 .f32 :=
  concatenate S16x256x32x2x64 2 [⟨S16x256x16x2x64, x⟩, ⟨S16x256x16x2x64, moved x⟩]
    concatenates_S16x256x16x2x64_S16x256x16x2x64_S16x256x32x2x64_d2

/-- The positions' vectors, for every row and group. -/
def places (pe : Vec Ideal S32x64 .f32) : Vec Ideal S16x256x32x2x64 .f32 :=
  broadcastInDim S16x256x32x2x64 ![0, 1, 2, 3, 4] bcast_S1x1x32x1x64_S16x256x32x2x64_0_1_2_3_4
    (broadcastInDim S1x1x32x1x64 ![2, 3, 4] bcast_S32x1x64_S1x1x32x1x64_2_3_4
      (broadcastInDim S32x1x64 ![0, 2] bcast_S32x64_S32x1x64_0_2 pe))

/-- A row's 32 tokens with their positions' vectors added, in one vector per group. -/
def flat (z : FVec Ideal S16x256x32x2x64 .f32) : FVec Ideal S16x256x2x2048 .f32 :=
  shapeCast _ (transpose S16x256x2x32x64 [0, 1, 3, 2, 4] z transposes_S16x256x32x2x64_S16x256x2x32x64_0_1_3_2_4)
    shapeCasts_S16x256x2x32x64_S16x256x2x2048

/-- The product with the first weights. -/
def first (z : FVec Ideal S16x256x2x2048 .f32) (w : FVec Ideal S2048x256 .f32) : FVec Ideal S16x256x2x256 .f32 :=
  Host.dotGeneral dot_S16x256x2x2048_S2048x256_S16x256x2x256_3_0_012_1_n_n none z w

/-- The activation. -/
def active (a : FVec Ideal S16x256x2x256 .f32) : FVec Ideal S16x256x2x256 .f32 :=
  mulf a (mulf (broadcastInDim S16x256x2x256 ![] bcast_S_S16x256x2x256 (constant S_ .f32 0x3F000000#32))
    (addf (broadcastInDim S16x256x2x256 ![] bcast_S_S16x256x2x256 (constant S_ .f32 0x3F800000#32))
      (Host.tanh (mulf (broadcastInDim S16x256x2x256 ![] bcast_S_S16x256x2x256 (constant S_ .f32 0x3F4C422A#32))
        (addf a (mulf (broadcastInDim S16x256x2x256 ![] bcast_S_S16x256x2x256 (constant S_ .f32 0x3D372713#32))
          (mulf (mulf a a) a)))))))

/-- The product with the second weights. -/
def second (a : FVec Ideal S16x256x2x256 .f32) (w : FVec Ideal S256x64 .f32) : FVec Ideal S16x256x2x64 .f32 :=
  Host.dotGeneral dot_S16x256x2x256_S256x64_S16x256x2x64_3_0_012_1_n_n none a w

/-- All of it up to the second product. -/
def compressedV (x : Vec Ideal S16x4096x128 .f32) (pe : Vec Ideal S32x64 .f32) (w1 : Vec Ideal S2048x256 .f32)
    (w2 : Vec Ideal S256x64 .f32) : FVec Ideal S16x256x2x64 .f32 :=
  second (active (first (flat (addf (paired (rows x)) (places pe))) w1)) w2

/-- The normalisation within a group and the gain. -/
def normed (y : FVec Ideal S16x256x2x64 .f32) (g : FVec Ideal S64 .f32) : FVec Ideal S16x256x2x64 .f32 :=
  mulf (mulf y (broadcastInDim S16x256x2x64 ![0, 1, 2, 3] bcast_S16x256x2x1_S16x256x2x64_0_1_2_3
      (Host.rsqrt (addf (Host.divf (broadcastInDim S16x256x2x1 ![0, 1, 2] bcast_S16x256x2_S16x256x2x1_0_1_2
          (Host.reduceAdd (mulf y y) (constant S_ .f32 0x00000000#32) reducesTo_S16x256x2x64_S16x256x2_d3 h_S_))
          (broadcastInDim S16x256x2x1 ![] bcast_S_S16x256x2x1 (constant S_ .f32 0x42800000#32)))
        (broadcastInDim S16x256x2x1 ![] bcast_S_S16x256x2x1 (constant S_ .f32 0x358637BD#32))))))
    (broadcastInDim S16x256x2x64 ![0, 1, 2, 3] bcast_S1x1x1x64_S16x256x2x64_0_1_2_3
      (broadcastInDim S1x1x1x64 ![3] bcast_S64_S1x1x1x64_3 g))

/-- The two groups side by side, as a result. -/
def asResult (y : FVec Ideal S16x256x2x64 .f32) : FVec Ideal S16x256x128 .bf16 :=
  truncf .bf16 (shapeCast S16x256x128 y shapeCasts_S16x256x2x64_S16x256x128) bitsLt_bf16_f32

/-- A token of a row. -/
theorem rows_apply (x : Vec Ideal S16x4096x128 .f32) (b : Fin 16) (r : Fin 256) (l : Fin 16) (g : Fin 2) (d : Fin 64) :
    rows x (ix5 b r l g d) = x (ix3 b ⟨16 * r.val + l.val, by omega⟩ ⟨64 * g.val + d.val, by omega⟩) := by
  unfold rows
  pointwise
  exact congrArg₂ (fun n q => x (ix3 b n q)) (Fin.ext (by simp; try omega)) (Fin.ext (by simp; try omega))

/-- The moved rows: row `r` is row `r + 1`, around the end. -/
theorem moved_apply (x : Vec Ideal S16x256x16x2x64 .f32) (b : Fin 16) (r : Fin 256) (l : Fin 16) (g : Fin 2) (d : Fin 64) :
    moved x (ix5 b r l g d) = x (ix5 b ⟨(r.val + 1) % 256, by omega⟩ l g d) := by
  unfold moved
  pointwise
  have hr := r.isLt
  by_cases h : r.val < 255
  · rw [dif_pos h]
    exact congrArg (fun n => x (ix5 b n l g d)) (Fin.ext (by simp; try omega))
  · rw [dif_neg h]
    exact congrArg (fun n => x (ix5 b n l g d)) (Fin.ext (by simp; try omega))

/-- A token at one of the 32 places. -/
theorem paired_apply (x : Vec Ideal S16x4096x128 .f32) (b : Fin 16) (r : Fin 256) (l : Fin 32) (g : Fin 2) (d : Fin 64) :
    paired (rows x) (ix5 b r l g d) = x (ix3 b (source r l) ⟨64 * g.val + d.val, by omega⟩) := by
  have hr := r.isLt
  have hl := l.isLt
  unfold paired
  generalize hy : rows x = y
  pointwise
  subst hy
  by_cases h : l.val < 16
  · rw [dif_pos h, rows_apply]
    exact congrArg (fun n => x (ix3 b n _)) (Fin.ext (by
      show 16 * r.val + l.val = 16 * ((r.val + l.val / 16) % 256) + l.val % 16; omega))
  · rw [dif_neg h, moved_apply, rows_apply]
    exact congrArg (fun n => x (ix3 b n _)) (Fin.ext (by
      show 16 * ((r.val + 1) % 256) + (l.val - 16) = 16 * ((r.val + l.val / 16) % 256) + l.val % 16; omega))

/-- A position's vector. -/
theorem places_apply (pe : Vec Ideal S32x64 .f32) (b : Fin 16) (r : Fin 256) (l : Fin 32) (g : Fin 2) (d : Fin 64) :
    places pe (ix5 b r l g d) = pe (ix2 l d) := by
  unfold places
  pointwise

/-- An entry of the vector of 2048. -/
theorem flat_apply (z : FVec Ideal S16x256x32x2x64 .f32) (b : Fin 16) (r : Fin 256) (g : Fin 2) (l : Fin 32) (d : Fin 64) :
    flat z (ix4 b r g ⟨64 * l.val + d.val, by omega⟩) = z (ix5 b r l g d) := by
  unfold flat
  pointwise

/-- The first product at an index. -/
theorem first_apply (z : FVec Ideal S16x256x2x2048 .f32) (w : FVec Ideal S2048x256 .f32) (b : Fin 16) (r : Fin 256) (g : Fin 2)
    (h : Fin 256) : first z w (ix4 b r g h) = ∑ k : Fin 2048, z (ix4 b r g k) * w (ix2 k h) := by
  unfold first
  pointwise

/-- A sum over 2048 is a sum over 32 places of 64 columns. -/
theorem sum_places (f : Fin 2048 → EReal) :
    ∑ k : Fin 2048, f k = ∑ l : Fin 32, ∑ d : Fin 64, f ⟨64 * l.val + d.val, by omega⟩ := by
  rw [← Fintype.sum_prod_type' (fun (l : Fin 32) (d : Fin 64) => f ⟨64 * l.val + d.val, by omega⟩)]
  refine (Fintype.sum_equiv (finProdFinEquiv (m := 32) (n := 64)) _ _ fun p => ?_).symm
  exact congrArg f (Fin.ext (by show 64 * p.1.val + p.2.val = p.2.val + 64 * p.1.val; omega))

/-- The activation at an index. -/
theorem active_apply (a : FVec Ideal S16x256x2x256 .f32) (b : Fin 16) (r : Fin 256) (g : Fin 2) (h : Fin 256) :
    active a (ix4 b r g h) = act (a (ix4 b r g h)) := by
  unfold active act
  pointwise

/-- The second product at an index. -/
theorem second_apply (a : FVec Ideal S16x256x2x256 .f32) (w : FVec Ideal S256x64 .f32) (b : Fin 16) (r : Fin 256) (g : Fin 2)
    (d : Fin 64) : second a w (ix4 b r g d) = ∑ h : Fin 256, a (ix4 b r g h) * w (ix2 h d) := by
  unfold second
  pointwise

/-- The reference's compressed entry. -/
theorem compressedV_apply (x : Vec Ideal S16x4096x128 .f32) (pe : Vec Ideal S32x64 .f32) (w1 : Vec Ideal S2048x256 .f32)
    (w2 : Vec Ideal S256x64 .f32) (b : Fin 16) (r : Fin 256) (g : Fin 2) (d : Fin 64) :
    compressedV x pe w1 w2 (ix4 b r g d)
      = compressed (fun n e => x (ix3 b n ⟨64 * g.val + e.val, by omega⟩)) (fun l e => pe (ix2 l e)) (fun k h => w1 (ix2 k h))
          (fun h e => w2 (ix2 h e)) r d := by
  unfold compressedV compressed hidden
  rw [second_apply]
  refine Finset.sum_congr rfl fun h _ => ?_
  rw [active_apply, first_apply, sum_places]
  refine congrArg (fun s => act s * w2 (ix2 h d)) (Finset.sum_congr rfl fun l _ => Finset.sum_congr rfl fun e _ => ?_)
  rw [flat_apply]
  show (paired (rows x) (ix5 b r l g e) + places pe (ix5 b r l g e)) * _ = _
  rw [paired_apply, places_apply]

/-- The normalisation at an index. -/
theorem normed_apply (y : FVec Ideal S16x256x2x64 .f32) (g : FVec Ideal S64 .f32) (b : Fin 16) (r : Fin 256) (k : Fin 2) (d : Fin 64) :
    normed y g (ix4 b r k d) = y (ix4 b r k d) * scale (fun e => y (ix4 b r k e)) * g (ix1 d) := by
  unfold normed scale
  pointwise

/-- A result at an index. -/
theorem asResult_apply (y : FVec Ideal S16x256x2x64 .f32) (b : Fin 16) (r : Fin 256) (q : Fin 128) :
    asResult y (ix3 b r q) = y (ix4 b r (groupOf q) (placeOf q)) := by
  unfold asResult
  pointwise
  exact congrArg₂ (fun k d => y (ix4 b r k d)) (Fin.ext (by simp [groupOf])) (Fin.ext (by simp [placeOf]))

/-- The reference's values. -/
theorem values_eq (u : Vec Ideal S16x4096x4992 .f32) (pe : Vec Ideal S2x32x64 .f32) (w1 : Vec Ideal S2x2048x256 .f32)
    (w2 : Vec Ideal S2x256x64 .f32) :
    asResult (compressedV (extractStridedSlice S16x4096x128 ![0, 0, 4224] u slices_S16x4096x4992_S16x4096x128_0_0_4224)
      (shapeCast _ (extractStridedSlice S1x32x64 ![1, 0, 0] pe slices_S2x32x64_S1x32x64_1_0_0) shapeCasts_S1x32x64_S32x64)
      (shapeCast _ (extractStridedSlice S1x2048x256 ![1, 0, 0] w1 slices_S2x2048x256_S1x2048x256_1_0_0) shapeCasts_S1x2048x256_S2048x256)
      (shapeCast _ (extractStridedSlice S1x256x64 ![1, 0, 0] w2 slices_S2x256x64_S1x256x64_1_0_0) shapeCasts_S1x256x64_S256x64))
      = values u pe w1 w2 := by
  funext y
  obtain ⟨b, r, q, rfl⟩ : ∃ (b : Fin 16) (r : Fin 256) (q : Fin 128), y = ix3 b r q := ⟨y 0, y 1, y 2, eq_ix3 y⟩
  rw [asResult_apply, compressedV_apply]
  show _ = entry u pe w1 w2 1 b (groupOf q) r (placeOf q)
  unfold entry
  generalize groupOf q = g
  generalize placeOf q = d
  have e0 : (fun (n : Fin 4096) (e : Fin 64) => extractStridedSlice S16x4096x128 ![0, 0, 4224] u
      slices_S16x4096x4992_S16x4096x128_0_0_4224 (ix3 b n ⟨64 * g.val + e.val, by omega⟩))
      = fun n e => u (ix3 b n ⟨4096 + 128 * (1 : Fin 2).val + 64 * g.val + e.val, by show 4096 + 128 * 1 + 64 * g.val + e.val < 4992; omega⟩) := by
    funext n e
    pointwise
    exact congrArg (fun k => u (ix3 b n k)) (Fin.ext (by simp; try omega))
  have e1 : (fun (l : Fin 32) (e : Fin 64) => shapeCast S32x64 (extractStridedSlice S1x32x64 ![1, 0, 0] pe
      slices_S2x32x64_S1x32x64_1_0_0) shapeCasts_S1x32x64_S32x64 (ix2 l e)) = fun l e => pe (ix3 1 l e) := by
    funext l e
    pointwise
  have e2 : (fun (k : Fin 2048) (h : Fin 256) => shapeCast S2048x256 (extractStridedSlice S1x2048x256 ![1, 0, 0] w1
      slices_S2x2048x256_S1x2048x256_1_0_0) shapeCasts_S1x2048x256_S2048x256 (ix2 k h)) = fun k h => w1 (ix3 1 k h) := by
    funext k h
    pointwise
  have e3 : (fun (h : Fin 256) (e : Fin 64) => shapeCast S256x64 (extractStridedSlice S1x256x64 ![1, 0, 0] w2
      slices_S2x256x64_S1x256x64_1_0_0) shapeCasts_S1x256x64_S256x64 (ix2 h e)) = fun h e => w2 (ix3 1 h e) := by
    funext h e
    pointwise
  rw [e0, e1, e2, e3]

/-- The reference's entries of the keys, before the normalisation. -/
theorem keys_entry (u : Vec Ideal S16x4096x4992 .f32) (pe : Vec Ideal S2x32x64 .f32) (w1 : Vec Ideal S2x2048x256 .f32)
    (w2 : Vec Ideal S2x256x64 .f32) (b : Fin 16) (r : Fin 256) (g : Fin 2) (d : Fin 64) :
    compressedV (extractStridedSlice S16x4096x128 ![0, 0, 4096] u slices_S16x4096x4992_S16x4096x128_0_0_4096)
      (shapeCast _ (extractStridedSlice S1x32x64 ![0, 0, 0] pe slices_S2x32x64_S1x32x64_0_0_0) shapeCasts_S1x32x64_S32x64)
      (shapeCast _ (extractStridedSlice S1x2048x256 ![0, 0, 0] w1 slices_S2x2048x256_S1x2048x256_0_0_0) shapeCasts_S1x2048x256_S2048x256)
      (shapeCast _ (extractStridedSlice S1x256x64 ![0, 0, 0] w2 slices_S2x256x64_S1x256x64_0_0_0) shapeCasts_S1x256x64_S256x64)
      (ix4 b r g d) = entry u pe w1 w2 0 b g r d := by
  rw [compressedV_apply]
  unfold entry
  have e0 : (fun (n : Fin 4096) (e : Fin 64) => extractStridedSlice S16x4096x128 ![0, 0, 4096] u
      slices_S16x4096x4992_S16x4096x128_0_0_4096 (ix3 b n ⟨64 * g.val + e.val, by omega⟩))
      = fun n e => u (ix3 b n ⟨4096 + 128 * (0 : Fin 2).val + 64 * g.val + e.val, by show 4096 + 128 * 0 + 64 * g.val + e.val < 4992; omega⟩) := by
    funext n e
    pointwise
    exact congrArg (fun k => u (ix3 b n k)) (Fin.ext (by simp; try omega))
  have e1 : (fun (l : Fin 32) (e : Fin 64) => shapeCast S32x64 (extractStridedSlice S1x32x64 ![0, 0, 0] pe
      slices_S2x32x64_S1x32x64_0_0_0) shapeCasts_S1x32x64_S32x64 (ix2 l e)) = fun l e => pe (ix3 0 l e) := by
    funext l e
    pointwise
  have e2 : (fun (k : Fin 2048) (h : Fin 256) => shapeCast S2048x256 (extractStridedSlice S1x2048x256 ![0, 0, 0] w1
      slices_S2x2048x256_S1x2048x256_0_0_0) shapeCasts_S1x2048x256_S2048x256 (ix2 k h)) = fun k h => w1 (ix3 0 k h) := by
    funext k h
    pointwise
  have e3 : (fun (h : Fin 256) (e : Fin 64) => shapeCast S256x64 (extractStridedSlice S1x256x64 ![0, 0, 0] w2
      slices_S2x256x64_S1x256x64_0_0_0) shapeCasts_S1x256x64_S256x64 (ix2 h e)) = fun h e => w2 (ix3 0 h e) := by
    funext h e
    pointwise
  rw [e0, e1, e2, e3]

/-- The reference's keys. -/
theorem keys_eq (u : Vec Ideal S16x4096x4992 .f32) (gain : Vec Ideal S4x64 .f32) (pe : Vec Ideal S2x32x64 .f32)
    (w1 : Vec Ideal S2x2048x256 .f32) (w2 : Vec Ideal S2x256x64 .f32) :
    asResult (normed (compressedV (extractStridedSlice S16x4096x128 ![0, 0, 4096] u slices_S16x4096x4992_S16x4096x128_0_0_4096)
      (shapeCast _ (extractStridedSlice S1x32x64 ![0, 0, 0] pe slices_S2x32x64_S1x32x64_0_0_0) shapeCasts_S1x32x64_S32x64)
      (shapeCast _ (extractStridedSlice S1x2048x256 ![0, 0, 0] w1 slices_S2x2048x256_S1x2048x256_0_0_0) shapeCasts_S1x2048x256_S2048x256)
      (shapeCast _ (extractStridedSlice S1x256x64 ![0, 0, 0] w2 slices_S2x256x64_S1x256x64_0_0_0) shapeCasts_S1x256x64_S256x64))
      (shapeCast _ (extractStridedSlice S1x64 ![1, 0] gain slices_S4x64_S1x64_1_0) shapeCasts_S1x64_S64))
      = keys u gain pe w1 w2 := by
  funext y
  obtain ⟨b, r, q, rfl⟩ : ∃ (b : Fin 16) (r : Fin 256) (q : Fin 128), y = ix3 b r q := ⟨y 0, y 1, y 2, eq_ix3 y⟩
  have h := keys_entry u pe w1 w2
  generalize compressedV _ _ _ _ = z at h ⊢
  rw [asResult_apply, normed_apply]
  simp only [h]
  show _ = entry u pe w1 w2 0 b (groupOf q) r (placeOf q) * scale (fun e => entry u pe w1 w2 0 b (groupOf q) r e) * gain (ix2 1 (placeOf q))
  refine congrArg _ ?_
  generalize placeOf q = d
  pointwise

variable (m : (ℓ : Loc nD τ sig) → Buf (Elt Ideal) ℓ)

/-- The reference's first result is the compressed keys. -/
theorem reference_keys (c : Dev nD) :
    res_out0 m c = keys (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [← keys_eq]
  sl_kernel_rfl

/-- The reference's second result is the compressed values. -/
theorem reference_values (c : Dev nD) :
    res_out1 m c = values (m ((c.tc : Thread nD τ).loc main_arg0))
      (m ((c.tc : Thread nD τ).loc main_arg2)) (m ((c.tc : Thread nD τ).loc main_arg3)) (m ((c.tc : Thread nD τ).loc main_arg4)) := by
  rw [← values_eq]
  sl_kernel_rfl

end Cert.Compress.Plain
-- ==== Proof.lean ====
/- The claims of the certificate, assembled. -/
module

public import proofs.«01_k».proof.Proof.Gen.Kernel4
public import proofs.«01_k».proof.Proof.Gen.Pre_rows_exist
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Loops
public import proofs.«01_k».proof.Proof.Gen.Reference4Ideal.Run
public import proofs.«01_k».proof.Proof.Gen.Kernel5
public import proofs.«01_k».proof.Proof.Gen.Pre_experts_exist
public import proofs.«01_k».proof.Proof.Gen.Pre_keys_finite
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal.Run
public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_sends_apart
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Dispatch.Reference
public import proofs.«01_k».proof.Proof.Dispatch.Same
public import proofs.«01_k».proof.Proof.Project.Reference
public import proofs.«01_k».proof.Proof.Merge.Kernel
public import proofs.«01_k».proof.Proof.Merge.Reference
public import proofs.«01_k».proof.Proof.Combine.Reference
public import proofs.«01_k».proof.Proof.Combine.Same
public import proofs.«01_k».proof.Proof.Experts.Reference
public import proofs.«01_k».proof.Proof.Experts.Same
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_rows_finite
public import proofs.«01_k».proof.Proof.Prepare.Value
public import proofs.«01_k».proof.Proof.Prepare.Given
public import proofs.«01_k».proof.Proof.Prepare.Reference
public import proofs.«01_k».proof.Proof.Compress.Value
public import proofs.«01_k».proof.Proof.Compress.Given
public import proofs.«01_k».proof.Proof.Compress.Reference
public import Idealize.ShloMosaic.Lib.Quiescent

@[expose] public section

open Idealize.ShloMosaic Idealize.ShloMosaic.TcCoe

namespace Cert.Proof

/-- The kernel at the machine's floats runs to its end, its arguments unchanged and every counter at zero: the run over any floats, the two programs having one text. -/
theorem frame_kernel : Cert.quiescent_Kernel := fun m ρ hP =>
  Cert.Dispatch.same_run _ _ <| (θ_run Cert.KernelIdeal.defs _ _).mono (fun _ h => ⟨fun c => ⟨(h.1 c).1, (h.1 c).2.1⟩, h.2⟩)
    (Cert.Dispatch.run (F := Bits) m (fun c => Cert.Dispatch.apart_of_pre _ _ (hP c)) ρ)

/-- So does the ideal kernel. -/
theorem frame_kernelIdeal : Cert.quiescent_KernelIdeal := fun m ρ hP =>
  (θ_run Cert.KernelIdeal.defs _ _).mono (fun _ h => ⟨fun c => ⟨(h.1 c).1, (h.1 c).2.1⟩, h.2⟩)
    (Cert.Dispatch.run (F := Ideal) m (fun c => Cert.Dispatch.apart_of_pre _ _ (hP c)) ρ)

/-- So does the reference. -/
theorem frame_referenceIdeal : Cert.quiescent_ReferenceIdeal := fun m ρ hP =>
  (θ_run Cert.ReferenceIdeal.defs _ _).mono (fun _ h => ⟨fun c => (h.1 c).2, h.2⟩)
    (Cert.Dispatch.run_reference (F := Ideal) m (fun c => Cert.Dispatch.apart_of_pre _ _ (hP c)) ρ)

/-- The kernel and the reference leave the same rows. -/
theorem algebraic : Cert.algebraic_KernelIdeal_ReferenceIdeal := fun m ρ m' ρ' hP hag =>
  ⟨fun c => Cert.Dispatch.sent (F := Ideal) (Cert.Dispatch.tbl m c) (Cert.Dispatch.rows m c) 128,
    (θ_run Cert.KernelIdeal.defs _ _).mono (fun _ h c => ⟨(h.1 c).2.2, (h.1 c).1, (h.1 c).2.1⟩)
      (Cert.Dispatch.run (F := Ideal) m (fun c => Cert.Dispatch.apart_of_pre _ _ (hP c)) ρ),
    (θ_run Cert.ReferenceIdeal.defs _ _).mono (fun _ h c => ⟨(h.1 c).1.trans (by rw [(hag c).1, (hag c).2]), (h.1 c).2⟩)
      (Cert.Dispatch.run_reference (F := Ideal) m' (fun c => by rw [(hag c).1]; exact Cert.Dispatch.apart_of_pre _ _ (hP c)) ρ')⟩

/-- The dispatch's reference at the machine's floats: its arguments unchanged, its result the rows that the kernel leaves, every counter at zero. -/
theorem run_reference_bits (m : (ℓ : Loc Cert.Reference.nD Cert.Reference.τ Cert.Reference.sig) → Buf (Elt Bits) ℓ)
    (hA : ∀ c : Dev Cert.Reference.nD, Cert.Dispatch.Apart (F := Bits) (m ((c.tc : Thread Cert.Reference.nD Cert.Reference.τ).loc Cert.Reference.main_arg0))) (ρ : Dev Cert.Reference.nD → PrngReg) :
    θ_run (Cert.Reference.defs (F := Bits)) (onTc (τ := Cert.Reference.τ) (Cert.Reference.main (F := Bits))) ⟨m, fun _ => 0, ρ⟩ (fun r =>
      (∀ c : Dev Cert.Reference.nD,
        r.2.mem ((c.tc : Thread Cert.Reference.nD Cert.Reference.τ).loc Cert.Reference.main_v9)
            = Cert.Dispatch.sent (F := Bits) (m ((c.tc : Thread Cert.Reference.nD Cert.Reference.τ).loc Cert.Reference.main_arg0)) (m ((c.tc : Thread Cert.Reference.nD Cert.Reference.τ).loc Cert.Reference.main_arg1)) 128
          ∧ r.2.mem ((c.tc : Thread Cert.Reference.nD Cert.Reference.τ).loc Cert.Reference.main_arg0) = m ((c.tc : Thread Cert.Reference.nD Cert.Reference.τ).loc Cert.Reference.main_arg0)
          ∧ r.2.mem ((c.tc : Thread Cert.Reference.nD Cert.Reference.τ).loc Cert.Reference.main_arg1) = m ((c.tc : Thread Cert.Reference.nD Cert.Reference.τ).loc Cert.Reference.main_arg1)) ∧ r.2.sem = fun _ => 0) :=
  (θ_run Cert.Reference.defs _ _).mono (fun r h => ⟨fun c => ⟨(h c).1.trans (Cert.Dispatch.scatter_eq _ _ (hA c)), (h c).2⟩, sem_eq_zero_of_no_sems rfl r.2⟩)
    (Cert.Reference.Value.run (F := Bits) m ρ)

/-- So it runs to its end, its arguments unchanged and every counter at zero. -/
theorem frame_reference : Cert.quiescent_Reference := fun m ρ hP =>
  (θ_run Cert.Reference.defs _ _).mono (fun _ h => ⟨fun c => (h.1 c).2, h.2⟩)
    (run_reference_bits m (fun c => Cert.Dispatch.apart_of_pre _ _ (hP c)) ρ)

/-- The dispatch's kernel and its reference leave the same words at the machine's floats. -/
theorem bitexact : Cert.bitexact_Kernel_Reference := fun m ρ m' ρ' hP hag =>
  ⟨fun c => Cert.Dispatch.sent (F := Bits) (Cert.Dispatch.tbl m c) (Cert.Dispatch.rows m c) 128,
    Cert.Dispatch.same_run _ _ <| (θ_run Cert.KernelIdeal.defs _ _).mono (fun _ h c => ⟨(h.1 c).2.2, (h.1 c).1, (h.1 c).2.1⟩)
      (Cert.Dispatch.run (F := Bits) m (fun c => Cert.Dispatch.apart_of_pre _ _ (hP c)) ρ),
    (θ_run Cert.Reference.defs _ _).mono (fun _ h c => ⟨(h.1 c).1.trans (by rw [(hag c).1, (hag c).2]), (h.1 c).2⟩)
      (run_reference_bits m' (fun c => by rw [(hag c).1]; exact Cert.Dispatch.apart_of_pre _ _ (hP c)) ρ')⟩

/-- The projection's kernel at the machine's floats runs to its end, its arguments unchanged and every counter at zero. -/
theorem frame_kernel2 : Cert.quiescent_Kernel2 := fun m ρ _ => Cert.Kernel2.Gen.frame m ρ

/-- So does its ideal kernel. -/
theorem frame_kernel2Ideal : Cert.quiescent_Kernel2Ideal := fun m ρ _ => Cert.Kernel2Ideal.Gen.frame m ρ

/-- So does its reference. -/
theorem frame_reference2Ideal : Cert.quiescent_Reference2Ideal := fun m ρ _ =>
  (θ_run Cert.Reference2Ideal.defs _ _).mono
    (fun r h => ⟨fun c => (h c).2, sem_eq_zero_of_no_sems rfl r.2⟩) (Cert.Reference2Ideal.Value.run (F := Ideal) m ρ)

/-- The projection's kernel and its reference leave the same array. -/
theorem algebraic2 : Cert.algebraic_Kernel2Ideal_Reference2Ideal := fun m ρ m' ρ' _ hag =>
  ⟨fun c => Cert.Project.projected
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    (θ_run Cert.Kernel2Ideal.defs _ _).mono (fun _ h c => ⟨(h c).1.trans (Cert.Project.final_eq m c), (h c).2⟩)
      (Cert.Kernel2Ideal.Value.run_blocks m ρ),
    (θ_run Cert.Reference2Ideal.defs _ _).mono
      (fun _ h c => ⟨(h c).1.trans ((Cert.Project.reference_eq m' c).trans (by rw [(hag c).1, (hag c).2.1, (hag c).2.2])), (h c).2⟩)
      (Cert.Reference2Ideal.Value.run (F := Ideal) m' ρ')⟩

/-- The merge's kernel at the machine's floats runs to its end, its arguments unchanged and every counter at zero. -/
theorem frame_kernel3 : Cert.quiescent_Kernel3 := fun m ρ _ => Cert.Kernel3.Gen.frame m ρ

/-- So does its ideal kernel. -/
theorem frame_kernel3Ideal : Cert.quiescent_Kernel3Ideal := fun m ρ _ => Cert.Kernel3Ideal.Gen.frame m ρ

/-- So does its reference. -/
theorem frame_reference3Ideal : Cert.quiescent_Reference3Ideal := fun m ρ _ =>
  (θ_run Cert.Reference3Ideal.defs _ _).mono
    (fun r h => ⟨fun c => (h c).2, sem_eq_zero_of_no_sems rfl r.2⟩) (Cert.Reference3Ideal.Value.run (F := Ideal) m ρ)

/-- The merge's kernel and its reference leave the same array. -/
theorem algebraic3 : Cert.algebraic_Kernel3Ideal_Reference3Ideal := fun m ρ m' ρ' _ hag =>
  ⟨fun c => Cert.Merge.merged
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      (m ((c.tc : Thread Cert.Kernel3Ideal.nD Cert.Kernel3Ideal.τ).loc Cert.Kernel3Ideal.main_arg9)),
    (θ_run Cert.Kernel3Ideal.defs _ _).mono (fun _ h c => ⟨(h c).1.trans (Cert.Merge.final_eq m c), (h c).2⟩)
      (Cert.Kernel3Ideal.Value.run_blocks m ρ),
    (θ_run Cert.Reference3Ideal.defs _ _).mono
      (fun _ h c => ⟨(h c).1.trans ((Cert.Merge.reference_eq m' c).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2])), (h c).2⟩)
      (Cert.Reference3Ideal.Value.run (F := Ideal) m' ρ')⟩

/-- The combination's kernel at the machine's floats runs to its end, its arguments unchanged and every counter at zero: the run over any floats, the two programs having one text. -/
theorem frame_kernel4 : Cert.quiescent_Kernel4 := fun m ρ hP =>
  Cert.Combine.same_run _ _ <| (θ_run Cert.Kernel4Ideal.defs _ _).mono (fun _ h => ⟨fun c => ⟨(h.1 c).1, (h.1 c).2.1, (h.1 c).2.2.1, (h.1 c).2.2.2.1⟩, h.2⟩)
    (Cert.Combine.run (F := Bits) m (fun c => Cert.Combine.within_of_pre _ _ _ _ (hP c)) ρ)

/-- So does its ideal kernel. -/
theorem frame_kernel4Ideal : Cert.quiescent_Kernel4Ideal := fun m ρ hP =>
  (θ_run Cert.Kernel4Ideal.defs _ _).mono (fun _ h => ⟨fun c => ⟨(h.1 c).1, (h.1 c).2.1, (h.1 c).2.2.1, (h.1 c).2.2.2.1⟩, h.2⟩)
    (Cert.Combine.run (F := Ideal) m (fun c => Cert.Combine.within_of_pre _ _ _ _ (hP c)) ρ)

/-- So does its reference. -/
theorem frame_reference4Ideal : Cert.quiescent_Reference4Ideal := fun m ρ _ =>
  (θ_run Cert.Reference4Ideal.defs _ _).mono
    (fun r h => ⟨fun c => (h c).2, sem_eq_zero_of_no_sems rfl r.2⟩) (Cert.Reference4Ideal.Value.run (F := Ideal) m ρ)

/-- The precondition, of the arguments in the ideal kernel's memory. -/
theorem tables_within (m : (ℓ : Loc Cert.Kernel4Ideal.nD Cert.Kernel4Ideal.τ Cert.Kernel4Ideal.sig) → Buf (Elt Ideal) ℓ) (hP : Cert.Pre_Kernel4Ideal m) :
    ∀ c, Cert.Combine.Within (F := Ideal) (Cert.Combine.tbl m c) := fun c => Cert.Combine.within_of_pre _ _ _ _ (hP c)

/-- What the reference computes of arguments equal to the kernel's is `combined` of the kernel's. -/
theorem combined_agree {tb tb' : IVec Cert.Kernel4Ideal.S131072 32} (hA : Cert.Combine.Within (F := Ideal) tb) (e0 : tb' = tb)
    {Y Y' : FVec Ideal Cert.Kernel4Ideal.S147456x1x1024 .f32} (e1 : Y' = Y) {R R' : FVec Ideal Cert.Kernel4Ideal.S65536x128 .f32} (e2 : R' = R)
    {X X' : FVec Ideal Cert.Kernel4Ideal.S65536x1024 .f32} (e3 : X' = X) :
    Cert.Combine.result tb' Y' R' X' = Cert.Combine.combined (Cert.Combine.dest hA) Y R X := by
  subst e0 e1 e2 e3
  exact Cert.Combine.result_eq _ hA _ _ _

/-- The combination's kernel and its reference leave the same array. -/
theorem algebraic4 : Cert.algebraic_Kernel4Ideal_Reference4Ideal := fun m ρ m' ρ' hP hag =>
  ⟨fun c => Cert.Combine.filled m (tables_within m hP) c,
    (θ_run Cert.Kernel4Ideal.defs _ _).mono (fun _ h c => ⟨(h.1 c).2.2.2.2, (h.1 c).1, (h.1 c).2.1, (h.1 c).2.2.1, (h.1 c).2.2.2.1⟩)
      (Cert.Combine.run (F := Ideal) m (tables_within m hP) ρ),
    (θ_run Cert.Reference4Ideal.defs _ _).mono
      (fun _ h c => ⟨(h c).1.trans ((combined_agree (tables_within m hP c) (hag c).1 (hag c).2.1 (hag c).2.2.1 (hag c).2.2.2).trans
        (Cert.Combine.filled_eq m (tables_within m hP) c).symm), (h c).2⟩)
      (Cert.Reference4Ideal.Value.run (F := Ideal) m' ρ')⟩

/-- The experts' kernel at the machine's floats runs to its end, its arguments unchanged and every counter at zero: the run over any floats, the two programs having one text. -/
theorem frame_kernel5 : Cert.quiescent_Kernel5 := fun m ρ hP =>
  Cert.Experts.same_run _ _ <| (θ_run Cert.Kernel5Ideal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.Experts.run (F := Bits) m (fun c => Cert.Experts.exist_of_pre _ _ _ _ _ _ (hP c)) ρ)

/-- So does its ideal kernel. -/
theorem frame_kernel5Ideal : Cert.quiescent_Kernel5Ideal := fun m ρ hP =>
  (θ_run Cert.Kernel5Ideal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.Experts.run (F := Ideal) m (fun c => Cert.Experts.exist_of_pre _ _ _ _ _ _ (hP c)) ρ)

/-- So does its reference. -/
theorem frame_reference5Ideal : Cert.quiescent_Reference5Ideal := fun m ρ _ =>
  (θ_run Cert.Reference5Ideal.defs _ _).mono
    (fun r h => ⟨fun c => (h c).2, sem_eq_zero_of_no_sems rfl r.2⟩) (Cert.Reference5Ideal.Value.run (F := Ideal) m ρ)

/-- The precondition, of the arguments in the ideal kernel's memory. -/
theorem tables_exist (m : (ℓ : Loc Cert.Kernel5Ideal.nD Cert.Kernel5Ideal.τ Cert.Kernel5Ideal.sig) → Buf (Elt Ideal) ℓ) (hP : Cert.Pre_Kernel5Ideal m) :
    ∀ c, Cert.Experts.Exist (F := Ideal) (Cert.Experts.tbl m c) := fun c => Cert.Experts.exist_of_pre _ _ _ _ _ _ (hP c)

/-- Two memories with the same arguments: the rows that the reference makes of the one are the kernel's of the other. -/
theorem experts_agree {tb tb' : IVec Cert.Kernel5Ideal.S288 32} (hE : Cert.Experts.Exist (F := Ideal) tb) (hE' : Cert.Experts.Exist (F := Ideal) tb') (e0 : tb' = tb)
    {u u' : IVec Cert.Kernel5Ideal.S1 32} (e1 : u' = u) {X X' : IVec Cert.Kernel5Ideal.S147456x1x512 32} (e2 : X' = X)
    {G G' : Cert.Kernel5Ideal.S32x1024x512.Idx → EReal} (e3 : G' = G) {U U' : Cert.Kernel5Ideal.S32x1024x512.Idx → EReal} (e4 : U' = U)
    {D D' : Cert.Kernel5Ideal.S32x512x1024.Idx → EReal} (e5 : D' = D) (i i' : Cert.Kernel5Ideal.S1.Idx) :
    Cert.Experts.expertOut (Cert.Experts.expert hE') (u' i') X' G' U' D' = Cert.Experts.expertOut (Cert.Experts.expert hE) (u i) X G U D := by
  subst e0 e1 e2 e3 e4 e5
  obtain rfl : i = i' := funext fun a => Fin.ext (by match a with | ⟨0, _⟩ => exact (Nat.lt_one_iff.mp (i 0).isLt).trans (Nat.lt_one_iff.mp (i' 0).isLt).symm)
  rfl

/-- The experts' kernel and its reference leave the same rows. -/
theorem algebraic5 : Cert.algebraic_Kernel5Ideal_Reference5Ideal := fun m ρ m' ρ' hP hag =>
  ⟨fun c => Cert.Experts.filled m (tables_exist m hP) c,
    (θ_run Cert.Kernel5Ideal.defs _ _).mono
      (fun _ h c => ⟨(h.1 c).2.2.2.2.2.2, (h.1 c).1, (h.1 c).2.1, (h.1 c).2.2.1, (h.1 c).2.2.2.1, (h.1 c).2.2.2.2.1, (h.1 c).2.2.2.2.2.1⟩)
      (Cert.Experts.run (F := Ideal) m (tables_exist m hP) ρ),
    (θ_run Cert.Reference5Ideal.defs _ _).mono
      (fun _ h c => ⟨(h c).1.trans ((Cert.Experts.reference_eq m' c (by rw [(hag c).1]; exact tables_exist m hP c)).trans
        ((experts_agree (tables_exist m hP c) _ (hag c).1 (hag c).2.1 (hag c).2.2.1 (hag c).2.2.2.1 (hag c).2.2.2.2.1 (hag c).2.2.2.2.2 _ _).trans (Cert.Experts.filled_eq m (tables_exist m hP) c).symm)), (h c).2⟩)
      (Cert.Reference5Ideal.Value.run (F := Ideal) m' ρ')⟩

/-- The compression's kernel at the machine's floats runs to its end, its arguments unchanged and every counter at zero. -/
theorem frame_kernel6 : Cert.quiescent_Kernel6 := fun m ρ _ => Cert.Kernel6.Gen.frame m ρ

/-- So does its ideal kernel. -/
theorem frame_kernel6Ideal : Cert.quiescent_Kernel6Ideal := fun m ρ _ => Cert.Kernel6Ideal.Gen.frame m ρ

/-- So it does where the keys' numbers are finite. -/
theorem frame_kernel6Ideal_finite : Cert.quiescent_Kernel6Ideal_pre_keys_finite := fun m ρ _ => Cert.Kernel6Ideal.Gen.frame m ρ

/-- So does its reference. -/
theorem frame_reference6Ideal : Cert.quiescent_Reference6Ideal := fun m ρ _ =>
  (θ_run Cert.Reference6Ideal.defs _ _).mono
    (fun r h => ⟨fun c => (h c).2.2, sem_eq_zero_of_no_sems rfl r.2⟩) (Cert.Reference6Ideal.Value.run (F := Ideal) m ρ)

/-- So it does where the keys' numbers are finite. -/
theorem frame_reference6Ideal_finite : Cert.quiescent_Reference6Ideal_pre_keys_finite := fun m ρ _ =>
  (θ_run Cert.Reference6Ideal.defs _ _).mono
    (fun r h => ⟨fun c => (h c).2.2, sem_eq_zero_of_no_sems rfl r.2⟩) (Cert.Reference6Ideal.Value.run (F := Ideal) m ρ)

/-- The compression's kernel and its reference leave the same keys and the same values, where the keys' numbers are finite. -/
theorem algebraic6 : Cert.algebraic_Kernel6Ideal_Reference6Ideal_pre_keys_finite := fun m ρ m' ρ' hP hag =>
  ⟨fun c => Cert.Compress.keys
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    fun c => Cert.Compress.values
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    Cert.Compress.run_kernel m ρ fun c => Cert.Compress.entries_of_pre _ _ _ _ _ (hP c),
    (θ_run Cert.Reference6Ideal.defs _ _).mono
      (fun _ h c => ⟨(h c).1.trans ((Cert.Compress.Plain.reference_keys m' c).trans
          (by rw [(hag c).1, (hag c).2.1, (hag c).2.2.1, (hag c).2.2.2.1, (hag c).2.2.2.2])),
        (h c).2.1.trans ((Cert.Compress.Plain.reference_values m' c).trans
          (by rw [(hag c).1, (hag c).2.2.1, (hag c).2.2.2.1, (hag c).2.2.2.2])), (h c).2.2⟩)
      (Cert.Reference6Ideal.Value.run (F := Ideal) m' ρ')⟩

/-- The preparation's kernel at the machine's floats runs to its end, its arguments unchanged and every counter at zero. -/
theorem frame_kernel7 : Cert.quiescent_Kernel7 := fun m ρ _ => Cert.Kernel7.Gen.frame m ρ

/-- So does its ideal kernel. -/
theorem frame_kernel7Ideal : Cert.quiescent_Kernel7Ideal := fun m ρ _ => Cert.Kernel7Ideal.Gen.frame m ρ

/-- So it does where the queries' and the keys' columns are finite. -/
theorem frame_kernel7Ideal_finite : Cert.quiescent_Kernel7Ideal_pre_rows_finite := fun m ρ _ => Cert.Kernel7Ideal.Gen.frame m ρ

/-- So does its reference. -/
theorem frame_reference7Ideal : Cert.quiescent_Reference7Ideal := fun m ρ _ =>
  (θ_run Cert.Reference7Ideal.defs _ _).mono
    (fun r h => ⟨fun c => (h c).2.2.2.2.2, sem_eq_zero_of_no_sems rfl r.2⟩) (Cert.Reference7Ideal.Value.run (F := Ideal) m ρ)

/-- So it does where the queries' and the keys' columns are finite. -/
theorem frame_reference7Ideal_finite : Cert.quiescent_Reference7Ideal_pre_rows_finite := fun m ρ _ =>
  (θ_run Cert.Reference7Ideal.defs _ _).mono
    (fun r h => ⟨fun c => (h c).2.2.2.2.2, sem_eq_zero_of_no_sems rfl r.2⟩) (Cert.Reference7Ideal.Value.run (F := Ideal) m ρ)

/-- The preparation's kernel and its reference leave the same queries, keys and values, where the queries' and the keys' columns
    are finite. -/
theorem algebraic7 : Cert.algebraic_Kernel7Ideal_Reference7Ideal_pre_rows_finite := fun m ρ m' ρ' hP hag =>
  ⟨fun c => Cert.Prepare.queries (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Prepare.keys 0 2 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Prepare.values 1 (m ((c.tc : Thread Cert.Kernel7Ideal.nD Cert.Kernel7Ideal.τ).loc Cert.Kernel7Ideal.main_arg0)),
    fun c => Cert.Prepare.keys 2 3 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Prepare.values 3 (m ((c.tc : Thread Cert.Kernel7Ideal.nD Cert.Kernel7Ideal.τ).loc Cert.Kernel7Ideal.main_arg0)),
    Cert.Prepare.run_kernel m ρ fun c => Cert.Prepare.rows_of_pre _ _ (hP c),
    (θ_run Cert.Reference7Ideal.defs _ _).mono
      (fun _ h c => ⟨(h c).1.trans (by rw [(hag c).1, (hag c).2]), (h c).2.1.trans (by rw [(hag c).1, (hag c).2]),
        (h c).2.2.1.trans (by rw [(hag c).1]), (h c).2.2.2.1.trans (by rw [(hag c).1, (hag c).2]),
        (h c).2.2.2.2.1.trans (by rw [(hag c).1]), (h c).2.2.2.2.2⟩)
      (Cert.Prepare.Plain.run_reference m' ρ')⟩

/-- The certificate's claim. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_sends_apart.Gen.facts, Cert.Pre_rows_exist.Gen.facts, Cert.Pre_experts_exist.Gen.facts, Cert.Pre_keys_finite.Gen.facts, Cert.Pre_rows_finite.Gen.facts,
    frame_kernel, frame_kernelIdeal, frame_referenceIdeal, frame_reference,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_kernel6Ideal_finite, frame_reference6Ideal, frame_reference6Ideal_finite,
    frame_kernel7, frame_kernel7Ideal, frame_kernel7Ideal_finite, frame_reference7Ideal, frame_reference7Ideal_finite,
    trivial, algebraic, bitexact, trivial, algebraic2, trivial, algebraic3, trivial, algebraic4, trivial, algebraic5, trivial, algebraic6,
    trivial, algebraic7⟩

end Cert.Proof
